-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v23)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v28)) (v1 : (c : Dev Cert.Kernel6Ideal.nD) → Buf (Elt Ideal) ((c.tc : Thread Cert.Kernel6Ideal.nD Cert.Kernel6Ideal.τ).loc Cert.Kernel6Ideal.main_v31)) (v2 : (c : Dev Cert.Kernel6Ideal.nD) → Buf (Elt Ideal) ((c.tc : Thread Cert.Kernel6Ideal.nD Cert.Kernel6Ideal.τ).loc Cert.Kernel6Ideal.main_v32)) (v3 : (c : Dev Cert.Kernel6Ideal.nD) → Buf (Elt Ideal) ((c.tc : Thread Cert.Kernel6Ideal.nD Cert.Kernel6Ideal.τ).loc Cert.Kernel6Ideal.main_v35)) (v4 : (c : Dev Cert.Kernel6Ideal.nD) → Buf (Elt Ideal) ((c.tc : Thread Cert.Kernel6Ideal.nD Cert.Kernel6Ideal.τ).loc Cert.Kernel6Ideal.main_v37)) (v5 : (c : Dev Cert.Kernel6Ideal.nD) → Buf (Elt Ideal) ((c.tc : Thread Cert.Kernel6Ideal.nD Cert.Kernel6Ideal.τ).loc Cert.Kernel6Ideal.main_v39)) (v6 : (c : Dev Cert.Kernel6Ideal.nD) → Buf (Elt Ideal) ((c.tc : Thread Cert.Kernel6Ideal.nD Cert.Kernel6Ideal.τ).loc Cert.Kernel6Ideal.main_v40)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v28) = v0 c
          ∧ r.2.mem ((c.tc : Thread Cert.Kernel6Ideal.nD Cert.Kernel6Ideal.τ).loc Cert.Kernel6Ideal.main_v31) = v1 c
          ∧ r.2.mem ((c.tc : Thread Cert.Kernel6Ideal.nD Cert.Kernel6Ideal.τ).loc Cert.Kernel6Ideal.main_v32) = v2 c
          ∧ r.2.mem ((c.tc : Thread Cert.Kernel6Ideal.nD Cert.Kernel6Ideal.τ).loc Cert.Kernel6Ideal.main_v35) = v3 c
          ∧ r.2.mem ((c.tc : Thread Cert.Kernel6Ideal.nD Cert.Kernel6Ideal.τ).loc Cert.Kernel6Ideal.main_v37) = v4 c
          ∧ r.2.mem ((c.tc : Thread Cert.Kernel6Ideal.nD Cert.Kernel6Ideal.τ).loc Cert.Kernel6Ideal.main_v39) = v5 c
          ∧ r.2.mem ((c.tc : Thread Cert.Kernel6Ideal.nD Cert.Kernel6Ideal.τ).loc Cert.Kernel6Ideal.main_v40) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v32) = v1 c
          ∧ r.2.mem ((c.tc : Thread Cert.Reference6Ideal.nD Cert.Reference6Ideal.τ).loc Cert.Reference6Ideal.main_v52) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_v35) = v4 c
          ∧ r.2.mem ((c.tc : Thread Cert.Reference6Ideal.nD Cert.Reference6Ideal.τ).loc Cert.Reference6Ideal.main_v14) = v5 c
          ∧ r.2.mem ((c.tc : Thread Cert.Reference6Ideal.nD Cert.Reference6Ideal.τ).loc Cert.Reference6Ideal.main_v37) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S33792x2048 : Shape := ⟨2, ![33792, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S2x2048x2x11x512 : Shape := ⟨5, ![2, 2048, 2, 11, 512]⟩
abbrev S2x2048x11x2x512 : Shape := ⟨5, ![2, 2048, 11, 2, 512]⟩
abbrev S1x2048 : Shape := ⟨2, ![1, 2048]⟩
abbrev S2048 : Shape := ⟨1, ![2048]⟩
abbrev S32768x2048 : Shape := ⟨2, ![32768, 2048]⟩
abbrev S1024x2048 : Shape := ⟨2, ![1024, 2048]⟩
abbrev S1x2048x1024 : Shape := ⟨3, ![1, 2048, 1024]⟩
abbrev S1x512x2048 : Shape := ⟨3, ![1, 512, 2048]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩
abbrev S1024x512 : Shape := ⟨2, ![1024, 512]⟩
abbrev S512x2048 : Shape := ⟨2, ![512, 2048]⟩

abbrev nBuf : Space → Nat
  | .hbm => 13
  | .vmem => 10
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x11264, .f32⟩
  | .hbm, ⟨3, _⟩ => ⟨S2x5632x2048, .f32⟩
  | .hbm, ⟨4, _⟩ => ⟨S2x2048x11264, .bf16⟩
  | .hbm, ⟨5, _⟩ => ⟨S2x2048x2x11x512, .bf16⟩
  | .hbm, ⟨6, _⟩ => ⟨S2x2048x11x2x512, .bf16⟩
  | .hbm, ⟨7, _⟩ => ⟨S2x2048x11264, .bf16⟩
  | .hbm, ⟨8, _⟩ => ⟨S2x5632x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 11], ![false, false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c4224_i32 : BitVec 32 := 4224#32
  let v17 : BitVec 32 := Scalar.muli v16 c4224_i32
  let c16_i32 : BitVec 32 := 16#32
  let v18 : BitVec 32 := Scalar.addi v17 c16_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v18 v29
  v30
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4224_i32 : BitVec 32 := 4224#32
  let v17 : BitVec 32 := Scalar.muli v16 c4224_i32
  let c16_i32 : BitVec 32 := 16#32
  let v18 : BitVec 32 := Scalar.addi v17 c16_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S33792x2048 : Shape := ⟨2, ![33792, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S8x4224x2048 : Shape := ⟨3, ![8, 4224, 2048]⟩
abbrev S8x4112x2048 : Shape := ⟨3, ![8, 4112, 2048]⟩
abbrev S1x2048 : Shape := ⟨2, ![1, 2048]⟩
abbrev S2048 : Shape := ⟨1, ![2048]⟩
abbrev S_ : Shape := ⟨0, ![]⟩
abbrev S8x4112 : Shape := ⟨2, ![8, 4112]⟩
abbrev S8x4112x1 : Shape := ⟨3, ![8, 4112, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S8x4112x11264 : Shape := ⟨3, ![8, 4112, 11264]⟩
abbrev S8x4112x5632 : Shape := ⟨3, ![8, 4112, 5632]⟩
abbrev S8x4096x2048 : Shape := ⟨3, ![8, 4096, 2048]⟩
abbrev S32768x2048 : Shape := ⟨2, ![32768, 2048]⟩

abbrev nBuf : Space → Nat
  | .hbm => 48
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x11264, .f32⟩
  | .hbm, ⟨3, _⟩ => ⟨S2x5632x2048, .f32⟩
  | .hbm, ⟨4, _⟩ => ⟨S8x4224x2048, .f32⟩
  | .hbm, ⟨5, _⟩ => ⟨S8x4112x2048, .f32⟩
  | .hbm, ⟨6, _⟩ => ⟨S1x2048, .f32⟩
  | .hbm, ⟨7, _⟩ => ⟨S2048, .f32⟩
  | .hbm, ⟨8, _⟩ => ⟨S8x4112x2048, .f32⟩
  | .hbm, ⟨9, _⟩ => ⟨S_, .f32⟩
  | .hbm, ⟨10, _⟩ => ⟨S8x4112, .f32⟩
  | .hbm, ⟨11, _⟩ => ⟨S8x4112x1, .f32⟩
  | .hbm, ⟨12, _⟩ => ⟨S_, .f32⟩
  | .hbm, ⟨13, _⟩ => ⟨S8x4112x1, .f32⟩
  | .hbm, ⟨14, _⟩ => ⟨S8x4112x1, .f32⟩
  | .hbm, ⟨15, _⟩ => ⟨S_, .f32⟩
  | .hbm, ⟨16, _⟩ => ⟨S8x4112x1, .f32⟩
  | .hbm, ⟨17, _⟩ => ⟨S8x4112x1, .f32⟩
  | .hbm, ⟨18, _⟩ => ⟨S8x4112x1, .f32⟩
  | .hbm, ⟨19, _⟩ => ⟨S8x4112x2048, .f32⟩
  | .hbm, ⟨20, _⟩ => ⟨S8x4112x2048, .f32⟩
  | .hbm, ⟨21, _⟩ => ⟨S1x1x2048, .f32⟩
  | .hbm, ⟨22, _⟩ => ⟨S8x4112x2048, .f32⟩
  | .hbm, ⟨23, _⟩ => ⟨S8x4112x2048, .f32⟩
  | .hbm, ⟨24, _⟩ => ⟨S1x2048x11264, .f32⟩
  | .hbm, ⟨25, _⟩ => ⟨S2048x11264, .f32⟩
  | .hbm, ⟨26, _⟩ => ⟨S1x5632x2048, .f32⟩
  | .hbm, ⟨27, _⟩ => ⟨S5632x2048, .f32⟩
  | .hbm, ⟨28, _⟩ => ⟨S8x4112x11264, .f32⟩
  | .hbm, ⟨29, _⟩ => ⟨S8x4112x5632, .f32⟩
  | .hbm, ⟨30, _⟩ => ⟨S8x4112x5632, .f32⟩
  | .hbm, ⟨31, _⟩ => ⟨S8x4112x5632, .f32⟩
  | .hbm, ⟨32, _⟩ => ⟨S8x4112x5632, .f32⟩
  | .hbm, ⟨33, _⟩ => ⟨S_, .f32⟩
  | .hbm, ⟨34, _⟩ => ⟨S8x4112x5632, .f32⟩
  | .hbm, ⟨35, _⟩ => ⟨S8x4112x5632, .f32⟩
  | .hbm, ⟨36, _⟩ => ⟨S_, .f32⟩
  | .hbm, ⟨37, _⟩ => ⟨S8x4112x5632, .f32⟩
  | .hbm, ⟨38, _⟩ => ⟨S8x4112x5632, .f32⟩
  | .hbm, ⟨39, _⟩ => ⟨S8x4112x5632, .f32⟩
  | .hbm, ⟨40, _⟩ => ⟨S8x4112x5632, .f32⟩
  | .hbm, ⟨41, _⟩ => ⟨S8x4112x2048, .f32⟩
  | .hbm, ⟨42, _⟩ => ⟨S_, .f32⟩
  | .hbm, ⟨43, _⟩ => ⟨S8x4112x2048, .f32⟩
  | .hbm, ⟨44, _⟩ => ⟨S8x4112x2048, .f32⟩
  | .hbm, ⟨45, _⟩ => ⟨S8x4112x2048, .f32⟩
  | .hbm, ⟨46, _⟩ => ⟨S8x4096x2048, .f32⟩
  | .hbm, ⟨47, _⟩ => ⟨S32768x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel2.lean ====
abbrev S33792x2048 : Shape := ⟨2, ![33792, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S2x2048x2x11x512 : Shape := ⟨5, ![2, 2048, 2, 11, 512]⟩
abbrev S2x2048x11x2x512 : Shape := ⟨5, ![2, 2048, 11, 2, 512]⟩
abbrev S1x2048 : Shape := ⟨2, ![1, 2048]⟩
abbrev S2048 : Shape := ⟨1, ![2048]⟩
abbrev S1024x2048 : Shape := ⟨2, ![1024, 2048]⟩
abbrev S1x2048x1024 : Shape := ⟨3, ![1, 2048, 1024]⟩
abbrev S1x512x2048 : Shape := ⟨3, ![1, 512, 2048]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩
abbrev S1024x512 : Shape := ⟨2, ![1024, 512]⟩
abbrev S512x2048 : Shape := ⟨2, ![512, 2048]⟩

abbrev nBuf : Space → Nat
  | .hbm => 13
  | .vmem => 10
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x11264, .f32⟩
  | .hbm, ⟨3, _⟩ => ⟨S2x5632x2048, .f32⟩
  | .hbm, ⟨4, _⟩ => ⟨S2x2048x11264, .bf16⟩
  | .hbm, ⟨5, _⟩ => ⟨S2x2048x2x11x512, .bf16⟩
  | .hbm, ⟨6, _⟩ => ⟨S2x2048x11x2x512, .bf16⟩
  | .hbm, ⟨7, _⟩ => ⟨S2x2048x11264, .bf16⟩
  | .hbm, ⟨8, _⟩ => ⟨S2x5632x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S33792x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![33, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S33792x2048 : Shape := ⟨2, ![33792, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S33792 : Shape := ⟨1, ![33792]⟩
abbrev S33792x1 : Shape := ⟨2, ![33792, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S33792x11264 : Shape := ⟨2, ![33792, 11264]⟩
abbrev S33792x5632 : Shape := ⟨2, ![33792, 5632]⟩

abbrev nBuf : Space → Nat
  | .hbm => 44
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x11264, .f32⟩
  | .hbm, ⟨3, _⟩ => ⟨S2x5632x2048, .f32⟩
  | .hbm, ⟨4, _⟩ => ⟨S1x2048, .f32⟩
  | .hbm, ⟨5, _⟩ => ⟨S2048, .f32⟩
  | .hbm, ⟨6, _⟩ => ⟨S33792x2048, .f32⟩
  | .hbm, ⟨7, _⟩ => ⟨S_, .f32⟩
  | .hbm, ⟨8, _⟩ => ⟨S33792, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S_, .f32⟩
  | .hbm, ⟨14, _⟩ => ⟨S33792x1, .f32⟩
  | .hbm, ⟨15, _⟩ => ⟨S33792x1, .f32⟩
  | .hbm, ⟨16, _⟩ => ⟨S33792x1, .f32⟩
  | .hbm, ⟨17, _⟩ => ⟨S33792x2048, .f32⟩
  | .hbm, ⟨18, _⟩ => ⟨S33792x2048, .f32⟩
  | .hbm, ⟨19, _⟩ => ⟨S1x2048, .f32⟩
  | .hbm, ⟨20, _⟩ => ⟨S33792x2048, .f32⟩
  | .hbm, ⟨21, _⟩ => ⟨S33792x2048, .f32⟩
  | .hbm, ⟨22, _⟩ => ⟨S1x2048x11264, .f32⟩
  | .hbm, ⟨23, _⟩ => ⟨S2048x11264, .f32⟩
  | .hbm, ⟨24, _⟩ => ⟨S1x5632x2048, .f32⟩
  | .hbm, ⟨25, _⟩ => ⟨S5632x2048, .f32⟩
  | .hbm, ⟨26, _⟩ => ⟨S33792x11264, .f32⟩
  | .hbm, ⟨27, _⟩ => ⟨S33792x5632, .f32⟩
  | .hbm, ⟨28, _⟩ => ⟨S33792x5632, .f32⟩
  | .hbm, ⟨29, _⟩ => ⟨S33792x5632, .f32⟩
  | .hbm, ⟨30, _⟩ => ⟨S33792x5632, .f32⟩
  | .hbm, ⟨31, _⟩ => ⟨S_, .f32⟩
  | .hbm, ⟨32, _⟩ => ⟨S33792x5632, .f32⟩
  | .hbm, ⟨33, _⟩ => ⟨S33792x5632, .f32⟩
  | .hbm, ⟨34, _⟩ => ⟨S_, .f32⟩
  | .hbm, ⟨35, _⟩ => ⟨S33792x5632, .f32⟩
  | .hbm, ⟨36, _⟩ => ⟨S33792x5632, .f32⟩
  | .hbm, ⟨37, _⟩ => ⟨S33792x5632, .f32⟩
  | .hbm, ⟨38, _⟩ => ⟨S33792x5632, .f32⟩
  | .hbm, ⟨39, _⟩ => ⟨S33792x2048, .f32⟩
  | .hbm, ⟨40, _⟩ => ⟨S_, .f32⟩
  | .hbm, ⟨41, _⟩ => ⟨S33792x2048, .f32⟩
  | .hbm, ⟨42, _⟩ => ⟨S33792x2048, .f32⟩
  | .hbm, ⟨43, _⟩ => ⟨S33792x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel3.lean ====
abbrev S33792x2048 : Shape := ⟨2, ![33792, 2048]⟩
abbrev S2x2048 : Shape := ⟨2, ![2, 2048]⟩
abbrev S2x2048x15184 : Shape := ⟨3, ![2, 2048, 15184]⟩
abbrev S33792x512 : Shape := ⟨2, ![33792, 512]⟩
abbrev S2x4x512x2048 : Shape := ⟨4, ![2, 4, 512, 2048]⟩
abbrev S2x2048x2048 : Shape := ⟨3, ![2, 2048, 2048]⟩
abbrev S1x2048x15184 : Shape := ⟨3, ![1, 2048, 15184]⟩
abbrev S2048x15184 : Shape := ⟨2, ![2048, 15184]⟩
abbrev S2048x2048 : Shape := ⟨2, ![2048, 2048]⟩
abbrev S2048x1024 : Shape := ⟨2, ![2048, 1024]⟩
abbrev S2048x1536 : Shape := ⟨2, ![2048, 1536]⟩
abbrev S2048x512 : Shape := ⟨2, ![2048, 512]⟩
abbrev S2048x128 : Shape := ⟨2, ![2048, 128]⟩
abbrev S2048x80 : Shape := ⟨2, ![2048, 80]⟩
abbrev S_ : Shape := ⟨0, ![]⟩
abbrev S2048x176 : Shape := ⟨2, ![2048, 176]⟩
abbrev S2048x7168 : Shape := ⟨2, ![2048, 7168]⟩
abbrev S2048x8192 : Shape := ⟨2, ![2048, 8192]⟩
abbrev S1x2048 : Shape := ⟨2, ![1, 2048]⟩
abbrev S2048 : Shape := ⟨1, ![2048]⟩
abbrev S512x2048 : Shape := ⟨2, ![512, 2048]⟩
abbrev S512x512 : Shape := ⟨2, ![512, 512]⟩
abbrev S1x4x512x512 : Shape := ⟨4, ![1, 4, 512, 512]⟩
abbrev S1x512x2048 : Shape := ⟨3, ![1, 512, 2048]⟩
abbrev S512 : Shape := ⟨1, ![512]⟩
abbrev S512x1 : Shape := ⟨2, ![512, 1]⟩
abbrev S1x1x512x512 : Shape := ⟨4, ![1, 1, 512, 512]⟩

abbrev nBuf : Space → Nat
  | .hbm => 35
  | .vmem => 26
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x15184, .f32⟩
  | .hbm, ⟨3, _⟩ => ⟨S33792x512, .f32⟩
  | .hbm, ⟨4, _⟩ => ⟨S33792x512, .f32⟩
  | .hbm, ⟨5, _⟩ => ⟨S33792x512, .f32⟩
  | .hbm, ⟨6, _⟩ => ⟨S33792x512, .f32⟩
  | .hbm, ⟨7, _⟩ => ⟨S2x4x512x2048, .f32⟩
  | .hbm, ⟨8, _⟩ => ⟨S2x2048x2048, .f32⟩
  | .hbm, ⟨9, _⟩ => ⟨S33792x512, .bf16⟩
  | .hbm, ⟨10, _⟩ => ⟨S33792x512, .bf16⟩
  | .hbm, ⟨11, _⟩ => ⟨S33792x512, .bf16⟩
  | .hbm, ⟨12, _⟩ => ⟨S33792x512, .bf16⟩
  | .hbm, ⟨13, _⟩ => ⟨S2x4x512x2048, .bf16⟩
  | .hbm, ⟨14, _⟩ => ⟨S2x2048x2048, .bf16⟩
  | .hbm, ⟨15, _⟩ => ⟨S1x2048x15184, .f32⟩
  | .hbm, ⟨16, _⟩ => ⟨S2048x15184, .f32⟩
  | .hbm, ⟨17, _⟩ => ⟨S2048x2048, .f32⟩
  | .hbm, ⟨18, _⟩ => ⟨S2048x1024, .f32⟩
  | .hbm, ⟨19, _⟩ => ⟨S2048x1536, .f32⟩
  | .hbm, ⟨20, _⟩ => ⟨S2048x1536, .f32⟩
  | .hbm, ⟨21, _⟩ => ⟨S2048x512, .f32⟩
  | .hbm, ⟨22, _⟩ => ⟨S2048x128, .f32⟩
  | .hbm, ⟨23, _⟩ => ⟨S2048x128, .f32⟩
  | .hbm, ⟨24, _⟩ => ⟨S2048x80, .f32⟩
  | .hbm, ⟨25, _⟩ => ⟨S_, .f32⟩
  | .hbm, ⟨26, _⟩ => ⟨S2048x176, .f32⟩
  | .hbm, ⟨27, _⟩ => ⟨S2048x7168, .f32⟩
  | .hbm, ⟨28, _⟩ => ⟨S2048x7168, .bf16⟩
  | .hbm, ⟨29, _⟩ => ⟨S2048x8192, .f32⟩
  | .hbm, ⟨30, _⟩ => ⟨S2048x8192, .bf16⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S33792x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S1x4x512x512, .bf16⟩
  | .local _ .vmem, ⟨20, _⟩ => ⟨S1x4x512x512, .bf16⟩
  | .local _ .vmem, ⟨21, _⟩ => ⟨S1x512x2048, .bf16⟩
  | .local _ .vmem, ⟨22, _⟩ => ⟨S1x512x2048, .bf16⟩
  | .local _ .vmem, ⟨23, _⟩ => ⟨S512x2048, .f32⟩
  | .local _ .vmem, ⟨24, _⟩ => ⟨S512x2048, .f32⟩
  | .local _ .vmem, ⟨25, _⟩ => ⟨S512x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![66, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference3Ideal.lean ====
abbrev S33792x2048 : Shape := ⟨2, ![33792, 2048]⟩
abbrev S2x2048 : Shape := ⟨2, ![2, 2048]⟩
abbrev S2x2048x15184 : Shape := ⟨3, ![2, 2048, 15184]⟩
abbrev S33792x512 : Shape := ⟨2, ![33792, 512]⟩
abbrev S2x4x512x2048 : Shape := ⟨4, ![2, 4, 512, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S33792 : Shape := ⟨1, ![33792]⟩
abbrev S33792x1 : Shape := ⟨2, ![33792, 1]⟩
abbrev S1x2048x15184 : Shape := ⟨3, ![1, 2048, 15184]⟩
abbrev S2048x15184 : Shape := ⟨2, ![2048, 15184]⟩
abbrev S33792x15184 : Shape := ⟨2, ![33792, 15184]⟩
abbrev S33792x6992 : Shape := ⟨2, ![33792, 6992]⟩
abbrev S33792x8192 : Shape := ⟨2, ![33792, 8192]⟩
abbrev S33792x4x2048 : Shape := ⟨3, ![33792, 4, 2048]⟩
abbrev S33792x1x2048 : Shape := ⟨3, ![33792, 1, 2048]⟩
abbrev S1x1x512x2048 : Shape := ⟨4, ![1, 1, 512, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 72
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x15184, .f32⟩
  | .hbm, ⟨3, _⟩ => ⟨S33792x512, .f32⟩
  | .hbm, ⟨4, _⟩ => ⟨S33792x512, .f32⟩
  | .hbm, ⟨5, _⟩ => ⟨S33792x512, .f32⟩
  | .hbm, ⟨6, _⟩ => ⟨S33792x512, .f32⟩
  | .hbm, ⟨7, _⟩ => ⟨S2x4x512x2048, .f32⟩
  | .hbm, ⟨8, _⟩ => ⟨S2x2048x2048, .f32⟩
  | .hbm, ⟨9, _⟩ => ⟨S1x2048, .f32⟩
  | .hbm, ⟨10, _⟩ => ⟨S2048, .f32⟩
  | .hbm, ⟨11, _⟩ => ⟨S33792x2048, .f32⟩
  | .hbm, ⟨12, _⟩ => ⟨S_, .f32⟩
  | .hbm, ⟨13, _⟩ => ⟨S33792, .f32⟩
  | .hbm, ⟨14, _⟩ => ⟨S33792x1, .f32⟩
  | .hbm, ⟨15, _⟩ => ⟨S_, .f32⟩
  | .hbm, ⟨16, _⟩ => ⟨S33792x1, .f32⟩
  | .hbm, ⟨17, _⟩ => ⟨S33792x1, .f32⟩
  | .hbm, ⟨18, _⟩ => ⟨S_, .f32⟩
  | .hbm, ⟨19, _⟩ => ⟨S33792x1, .f32⟩
  | .hbm, ⟨20, _⟩ => ⟨S33792x1, .f32⟩
  | .hbm, ⟨21, _⟩ => ⟨S33792x1, .f32⟩
  | .hbm, ⟨22, _⟩ => ⟨S33792x2048, .f32⟩
  | .hbm, ⟨23, _⟩ => ⟨S33792x2048, .f32⟩
  | .hbm, ⟨24, _⟩ => ⟨S1x2048, .f32⟩
  | .hbm, ⟨25, _⟩ => ⟨S33792x2048, .f32⟩
  | .hbm, ⟨26, _⟩ => ⟨S33792x2048, .f32⟩
  | .hbm, ⟨27, _⟩ => ⟨S1x2048x15184, .f32⟩
  | .hbm, ⟨28, _⟩ => ⟨S2048x15184, .f32⟩
  | .hbm, ⟨29, _⟩ => ⟨S33792x15184, .f32⟩
  | .hbm, ⟨30, _⟩ => ⟨S33792x6992, .f32⟩
  | .hbm, ⟨31, _⟩ => ⟨S33792x8192, .f32⟩
  | .hbm, ⟨32, _⟩ => ⟨S33792x4x2048, .f32⟩
  | .hbm, ⟨33, _⟩ => ⟨S33792x4x2048, .f32⟩
  | .hbm, ⟨34, _⟩ => ⟨S33792x4x2048, .f32⟩
  | .hbm, ⟨35, _⟩ => ⟨S_, .f32⟩
  | .hbm, ⟨36, _⟩ => ⟨S33792x4x2048, .f32⟩
  | .hbm, ⟨37, _⟩ => ⟨S33792x4x2048, .f32⟩
  | .hbm, ⟨38, _⟩ => ⟨S_, .f32⟩
  | .hbm, ⟨39, _⟩ => ⟨S33792x4x2048, .f32⟩
  | .hbm, ⟨40, _⟩ => ⟨S33792x4x2048, .f32⟩
  | .hbm, ⟨41, _⟩ => ⟨S33792x1x2048, .f32⟩
  | .hbm, ⟨42, _⟩ => ⟨S33792x2048, .f32⟩
  | .hbm, ⟨43, _⟩ => ⟨S1x1x512x2048, .f32⟩
  | .hbm, ⟨44, _⟩ => ⟨S512x2048, .f32⟩
  | .hbm, ⟨45, _⟩ => ⟨S33792x2048, .f32⟩
  | .hbm, ⟨46, _⟩ => ⟨S33792x2048, .f32⟩
  | .hbm, ⟨47, _⟩ => ⟨S33792x1x2048, .f32⟩
  | .hbm, ⟨48, _⟩ => ⟨S33792x2048, .f32⟩
  | .hbm, ⟨49, _⟩ => ⟨S1x1x512x2048, .f32⟩
  | .hbm, ⟨50, _⟩ => ⟨S512x2048, .f32⟩
  | .hbm, ⟨51, _⟩ => ⟨S33792x2048, .f32⟩
  | .hbm, ⟨52, _⟩ => ⟨S33792x2048, .f32⟩
  | .hbm, ⟨53, _⟩ => ⟨S33792x2048, .f32⟩
  | .hbm, ⟨54, _⟩ => ⟨S33792x1x2048, .f32⟩
  | .hbm, ⟨55, _⟩ => ⟨S33792x2048, .f32⟩
  | .hbm, ⟨56, _⟩ => ⟨S1x1x512x2048, .f32⟩
  | .hbm, ⟨57, _⟩ => ⟨S512x2048, .f32⟩
  | .hbm, ⟨58, _⟩ => ⟨S33792x2048, .f32⟩
  | .hbm, ⟨59, _⟩ => ⟨S33792x2048, .f32⟩
  | .hbm, ⟨60, _⟩ => ⟨S33792x2048, .f32⟩
  | .hbm, ⟨61, _⟩ => ⟨S33792x1x2048, .f32⟩
  | .hbm, ⟨62, _⟩ => ⟨S33792x2048, .f32⟩
  | .hbm, ⟨63, _⟩ => ⟨S1x1x512x2048, .f32⟩
  | .hbm, ⟨64, _⟩ => ⟨S512x2048, .f32⟩
  | .hbm, ⟨65, _⟩ => ⟨S33792x2048, .f32⟩
  | .hbm, ⟨66, _⟩ => ⟨S33792x2048, .f32⟩
  | .hbm, ⟨67, _⟩ => ⟨S33792x2048, .f32⟩
  | .hbm, ⟨68, _⟩ => ⟨S1x2048x2048, .f32⟩
  | .hbm, ⟨69, _⟩ => ⟨S2048x2048, .f32⟩
  | .hbm, ⟨70, _⟩ => ⟨S33792x2048, .f32⟩
  | .hbm, ⟨71, _⟩ => ⟨S33792x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel4.lean ====
abbrev S33792x2048 : Shape := ⟨2, ![33792, 2048]⟩
abbrev S2x2048 : Shape := ⟨2, ![2, 2048]⟩
abbrev S2x2048x15184 : Shape := ⟨3, ![2, 2048, 15184]⟩
abbrev S1x2048x15184 : Shape := ⟨3, ![1, 2048, 15184]⟩
abbrev S2048x15184 : Shape := ⟨2, ![2048, 15184]⟩
abbrev S2048x2048 : Shape := ⟨2, ![2048, 2048]⟩
abbrev S2048x1024 : Shape := ⟨2, ![2048, 1024]⟩
abbrev S2048x1536 : Shape := ⟨2, ![2048, 1536]⟩
abbrev S2048x512 : Shape := ⟨2, ![2048, 512]⟩
abbrev S2048x128 : Shape := ⟨2, ![2048, 128]⟩
abbrev S2048x80 : Shape := ⟨2, ![2048, 80]⟩
abbrev S_ : Shape := ⟨0, ![]⟩
abbrev S2048x176 : Shape := ⟨2, ![2048, 176]⟩
abbrev S2048x7168 : Shape := ⟨2, ![2048, 7168]⟩
abbrev S2048x8192 : Shape := ⟨2, ![2048, 8192]⟩
abbrev S1x2048 : Shape := ⟨2, ![1, 2048]⟩
abbrev S2048 : Shape := ⟨1, ![2048]⟩
abbrev S33792x7168 : Shape := ⟨2, ![33792, 7168]⟩
abbrev S1024x2048 : Shape := ⟨2, ![1024, 2048]⟩
abbrev S2048x1792 : Shape := ⟨2, ![2048, 1792]⟩
abbrev S1024x1792 : Shape := ⟨2, ![1024, 1792]⟩
abbrev S1024 : Shape := ⟨1, ![1024]⟩
abbrev S1024x1 : Shape := ⟨2, ![1024, 1]⟩
abbrev S33792x3840 : Shape := ⟨2, ![33792, 3840]⟩
abbrev S33792x1024 : Shape := ⟨2, ![33792, 1024]⟩
abbrev S33792x80 : Shape := ⟨2, ![33792, 80]⟩
abbrev S33792x6992 : Shape := ⟨2, ![33792, 6992]⟩

abbrev nBuf : Space → Nat
  | .hbm => 28
  | .vmem => 8
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x15184, .f32⟩
  | .hbm, ⟨3, _⟩ => ⟨S1x2048x15184, .f32⟩
  | .hbm, ⟨4, _⟩ => ⟨S2048x15184, .f32⟩
  | .hbm, ⟨5, _⟩ => ⟨S2048x2048, .f32⟩
  | .hbm, ⟨6, _⟩ => ⟨S2048x1024, .f32⟩
  | .hbm, ⟨7, _⟩ => ⟨S2048x1536, .f32⟩
  | .hbm, ⟨8, _⟩ => ⟨S2048x1536, .f32⟩
  | .hbm, ⟨9, _⟩ => ⟨S2048x512, .f32⟩
  | .hbm, ⟨10, _⟩ => ⟨S2048x128, .f32⟩
  | .hbm, ⟨11, _⟩ => ⟨S2048x128, .f32⟩
  | .hbm, ⟨12, _⟩ => ⟨S2048x80, .f32⟩
  | .hbm, ⟨13, _⟩ => ⟨S_, .f32⟩
  | .hbm, ⟨14, _⟩ => ⟨S2048x176, .f32⟩
  | .hbm, ⟨15, _⟩ => ⟨S2048x7168, .f32⟩
  | .hbm, ⟨16, _⟩ => ⟨S2048x7168, .bf16⟩
  | .hbm, ⟨17, _⟩ => ⟨S2048x8192, .f32⟩
  | .hbm, ⟨18, _⟩ => ⟨S2048x8192, .bf16⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S33792x7168, .f32⟩
  | .hbm, ⟨23, _⟩ => ⟨S33792x2048, .f32⟩
  | .hbm, ⟨24, _⟩ => ⟨S33792x3840, .f32⟩
  | .hbm, ⟨25, _⟩ => ⟨S33792x1024, .f32⟩
  | .hbm, ⟨26, _⟩ => ⟨S33792x80, .f32⟩
  | .hbm, ⟨27, _⟩ => ⟨S33792x6992, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S1024x1792, .f32⟩
  | .local _ .vmem, ⟨6, _⟩ => ⟨S1024x1792, .f32⟩
  | .local _ .vmem, ⟨7, _⟩ => ⟨S1024x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S33792x2048 : Shape := ⟨2, ![33792, 2048]⟩
abbrev S2x2048 : Shape := ⟨2, ![2, 2048]⟩
abbrev S2x2048x15184 : Shape := ⟨3, ![2, 2048, 15184]⟩
abbrev S1x2048 : Shape := ⟨2, ![1, 2048]⟩
abbrev S2048 : Shape := ⟨1, ![2048]⟩
abbrev S_ : Shape := ⟨0, ![]⟩
abbrev S33792 : Shape := ⟨1, ![33792]⟩
abbrev S33792x1 : Shape := ⟨2, ![33792, 1]⟩
abbrev S1x2048x15184 : Shape := ⟨3, ![1, 2048, 15184]⟩
abbrev S2048x15184 : Shape := ⟨2, ![2048, 15184]⟩
abbrev S33792x15184 : Shape := ⟨2, ![33792, 15184]⟩
abbrev S33792x6992 : Shape := ⟨2, ![33792, 6992]⟩
abbrev S33792x8192 : Shape := ⟨2, ![33792, 8192]⟩

abbrev nBuf : Space → Nat
  | .hbm => 26
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x15184, .f32⟩
  | .hbm, ⟨3, _⟩ => ⟨S1x2048, .f32⟩
  | .hbm, ⟨4, _⟩ => ⟨S2048, .f32⟩
  | .hbm, ⟨5, _⟩ => ⟨S33792x2048, .f32⟩
  | .hbm, ⟨6, _⟩ => ⟨S_, .f32⟩
  | .hbm, ⟨7, _⟩ => ⟨S33792, .f32⟩
  | .hbm, ⟨8, _⟩ => ⟨S33792x1, .f32⟩
  | .hbm, ⟨9, _⟩ => ⟨S_, .f32⟩
  | .hbm, ⟨10, _⟩ => ⟨S33792x1, .f32⟩
  | .hbm, ⟨11, _⟩ => ⟨S33792x1, .f32⟩
  | .hbm, ⟨12, _⟩ => ⟨S_, .f32⟩
  | .hbm, ⟨13, _⟩ => ⟨S33792x1, .f32⟩
  | .hbm, ⟨14, _⟩ => ⟨S33792x1, .f32⟩
  | .hbm, ⟨15, _⟩ => ⟨S33792x1, .f32⟩
  | .hbm, ⟨16, _⟩ => ⟨S33792x2048, .f32⟩
  | .hbm, ⟨17, _⟩ => ⟨S33792x2048, .f32⟩
  | .hbm, ⟨18, _⟩ => ⟨S1x2048, .f32⟩
  | .hbm, ⟨19, _⟩ => ⟨S33792x2048, .f32⟩
  | .hbm, ⟨20, _⟩ => ⟨S33792x2048, .f32⟩
  | .hbm, ⟨21, _⟩ => ⟨S1x2048x15184, .f32⟩
  | .hbm, ⟨22, _⟩ => ⟨S2048x15184, .f32⟩
  | .hbm, ⟨23, _⟩ => ⟨S33792x15184, .f32⟩
  | .hbm, ⟨24, _⟩ => ⟨S33792x6992, .f32⟩
  | .hbm, ⟨25, _⟩ => ⟨S33792x8192, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel5.lean ====
abbrev S33792x6992 : Shape := ⟨2, ![33792, 6992]⟩
abbrev S2x3x512 : Shape := ⟨3, ![2, 3, 512]⟩
abbrev S_ : Shape := ⟨0, ![]⟩
abbrev S33792x176 : Shape := ⟨2, ![33792, 176]⟩
abbrev S33792x2048 : Shape := ⟨2, ![33792, 2048]⟩
abbrev S33792x1024 : Shape := ⟨2, ![33792, 1024]⟩
abbrev S33792x3840 : Shape := ⟨2, ![33792, 3840]⟩
abbrev S33792x80 : Shape := ⟨2, ![33792, 80]⟩
abbrev S33792x7168 : Shape := ⟨2, ![33792, 7168]⟩
abbrev S8x4224x7168 : Shape := ⟨3, ![8, 4224, 7168]⟩
abbrev S1x3x512 : Shape := ⟨3, ![1, 3, 512]⟩
abbrev S3x512 : Shape := ⟨2, ![3, 512]⟩
abbrev S8x512 : Shape := ⟨2, ![8, 512]⟩
abbrev S1 : Shape := ⟨1, ![1]⟩
abbrev S8x4224x512 : Shape := ⟨3, ![8, 4224, 512]⟩
abbrev S1x1408x512 : Shape := ⟨3, ![1, 1408, 512]⟩
abbrev S1408x512 : Shape := ⟨2, ![1408, 512]⟩
abbrev S1x512 : Shape := ⟨2, ![1, 512]⟩

abbrev nBuf : Space → Nat
  | .hbm => 19
  | .vmem => 10
  | .smem => 0
  | _ => 0

abbrev bufTy : (tb : Table) → Fin (tcTables nBuf tb) → BufTy
  | .hbm, ⟨0, _⟩ => ⟨S33792x6992, .f32⟩
  | .hbm, ⟨1, _⟩ => ⟨S2x3x512, .f32⟩
  | .hbm, ⟨2, _⟩ => ⟨S_, .f32⟩
  | .hbm, ⟨3, _⟩ => ⟨S33792x176, .f32⟩
  | .hbm, ⟨4, _⟩ => ⟨S33792x2048, .f32⟩
  | .hbm, ⟨5, _⟩ => ⟨S33792x1024, .f32⟩
  | .hbm, ⟨6, _⟩ => ⟨S33792x3840, .f32⟩
  | .hbm, ⟨7, _⟩ => ⟨S33792x80, .f32⟩
  | .hbm, ⟨8, _⟩ => ⟨S33792x7168, .f32⟩
  | .hbm, ⟨9, _⟩ => ⟨S8x4224x7168, .f32⟩
  | .hbm, ⟨10, _⟩ => ⟨S1x3x512, .f32⟩
  | .hbm, ⟨11, _⟩ => ⟨S3x512, .f32⟩
  | .hbm, ⟨12, _⟩ => ⟨S_, .f32⟩
  | .hbm, ⟨13, _⟩ => ⟨S8x512, .f32⟩
  | .hbm, ⟨14, _⟩ => ⟨S_, .i32⟩
  | .hbm, ⟨15, _⟩ => ⟨S1, .i32⟩
  | .hbm, ⟨16, _⟩ => ⟨S8x512, .f32⟩
  | .hbm, ⟨17, _⟩ => ⟨S8x4224x512, .bf16⟩
  | .hbm, ⟨18, _⟩ => ⟨S8x4224x512, .f32⟩
  | .local _ .vmem, ⟨0, _⟩ => ⟨S1x1408x512, .f32⟩
  | .local _ .vmem, ⟨1, _⟩ => ⟨S1x1408x512, .f32⟩
  | .local _ .vmem, ⟨2, _⟩ => ⟨S1x1408x512, .f32⟩
  | .local _ .vmem, ⟨3, _⟩ => ⟨S1x1408x512, .f32⟩
  | .local _ .vmem, ⟨4, _⟩ => ⟨S1x1408x512, .f32⟩
  | .local _ .vmem, ⟨5, _⟩ => ⟨S1x1408x512, .f32⟩
  | .local _ .vmem, ⟨6, _⟩ => ⟨S8x512, .f32⟩
  | .local _ .vmem, ⟨7, _⟩ => ⟨S1x1408x512, .bf16⟩
  | .local _ .vmem, ⟨8, _⟩ => ⟨S1x1408x512, .bf16⟩
  | .local _ .vmem, ⟨9, _⟩ => ⟨S8x512, .f32⟩
  | _, _ => ⟨S33792x6992, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S33792x6992 : Shape := ⟨2, ![33792, 6992]⟩
abbrev S2x3x512 : Shape := ⟨3, ![2, 3, 512]⟩
abbrev S8x4224x6992 : Shape := ⟨3, ![8, 4224, 6992]⟩
abbrev S8x4224x512 : Shape := ⟨3, ![8, 4224, 512]⟩
abbrev S8x4224x128 : Shape := ⟨3, ![8, 4224, 128]⟩
abbrev S8x4224x1024 : Shape := ⟨3, ![8, 4224, 1024]⟩
abbrev S8x4224x64 : Shape := ⟨3, ![8, 4224, 64]⟩
abbrev S8x4224x16 : Shape := ⟨3, ![8, 4224, 16]⟩
abbrev S1x3x512 : Shape := ⟨3, ![1, 3, 512]⟩
abbrev S3x512 : Shape := ⟨2, ![3, 512]⟩
abbrev S_ : Shape := ⟨0, ![]⟩
abbrev S8x4226x512 : Shape := ⟨3, ![8, 4226, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 46
  | .vmem => 0
  | .smem => 0
  | _ => 0

abbrev bufTy : (tb : Table) → Fin (tcTables nBuf tb) → BufTy
  | .hbm, ⟨0, _⟩ => ⟨S33792x6992, .f32⟩
  | .hbm, ⟨1, _⟩ => ⟨S2x3x512, .f32⟩
  | .hbm, ⟨2, _⟩ => ⟨S8x4224x6992, .f32⟩
  | .hbm, ⟨3, _⟩ => ⟨S8x4224x512, .f32⟩
  | .hbm, ⟨4, _⟩ => ⟨S8x4224x512, .f32⟩
  | .hbm, ⟨5, _⟩ => ⟨S8x4224x512, .f32⟩
  | .hbm, ⟨6, _⟩ => ⟨S8x4224x512, .f32⟩
  | .hbm, ⟨7, _⟩ => ⟨S8x4224x512, .f32⟩
  | .hbm, ⟨8, _⟩ => ⟨S8x4224x512, .f32⟩
  | .hbm, ⟨9, _⟩ => ⟨S8x4224x512, .f32⟩
  | .hbm, ⟨10, _⟩ => ⟨S8x4224x512, .f32⟩
  | .hbm, ⟨11, _⟩ => ⟨S8x4224x512, .f32⟩
  | .hbm, ⟨12, _⟩ => ⟨S8x4224x512, .f32⟩
  | .hbm, ⟨13, _⟩ => ⟨S8x4224x512, .f32⟩
  | .hbm, ⟨14, _⟩ => ⟨S8x4224x128, .f32⟩
  | .hbm, ⟨15, _⟩ => ⟨S8x4224x128, .f32⟩
  | .hbm, ⟨16, _⟩ => ⟨S8x4224x1024, .f32⟩
  | .hbm, ⟨17, _⟩ => ⟨S8x4224x64, .f32⟩
  | .hbm, ⟨18, _⟩ => ⟨S8x4224x16, .f32⟩
  | .hbm, ⟨19, _⟩ => ⟨S1x3x512, .f32⟩
  | .hbm, ⟨20, _⟩ => ⟨S3x512, .f32⟩
  | .hbm, ⟨21, _⟩ => ⟨S8x4224x512, .f32⟩
  | .hbm, ⟨22, _⟩ => ⟨S_, .i32⟩
  | .hbm, ⟨23, _⟩ => ⟨S_, .f32⟩
  | .hbm, ⟨24, _⟩ => ⟨S8x4226x512, .f32⟩
  | .hbm, ⟨25, _⟩ => ⟨S1x512, .f32⟩
  | .hbm, ⟨26, _⟩ => ⟨S512, .f32⟩
  | .hbm, ⟨27, _⟩ => ⟨S8x4224x512, .f32⟩
  | .hbm, ⟨28, _⟩ => ⟨S1x1x512, .f32⟩
  | .hbm, ⟨29, _⟩ => ⟨S8x4224x512, .f32⟩
  | .hbm, ⟨30, _⟩ => ⟨S8x4224x512, .f32⟩
  | .hbm, ⟨31, _⟩ => ⟨S1x512, .f32⟩
  | .hbm, ⟨32, _⟩ => ⟨S512, .f32⟩
  | .hbm, ⟨33, _⟩ => ⟨S8x4224x512, .f32⟩
  | .hbm, ⟨34, _⟩ => ⟨S1x1x512, .f32⟩
  | .hbm, ⟨35, _⟩ => ⟨S8x4224x512, .f32⟩
  | .hbm, ⟨36, _⟩ => ⟨S8x4224x512, .f32⟩
  | .hbm, ⟨37, _⟩ => ⟨S8x4224x512, .f32⟩
  | .hbm, ⟨38, _⟩ => ⟨S1x512, .f32⟩
  | .hbm, ⟨39, _⟩ => ⟨S512, .f32⟩
  | .hbm, ⟨40, _⟩ => ⟨S8x4224x512, .f32⟩
  | .hbm, ⟨41, _⟩ => ⟨S1x1x512, .f32⟩
  | .hbm, ⟨42, _⟩ => ⟨S8x4224x512, .f32⟩
  | .hbm, ⟨43, _⟩ => ⟨S8x4224x512, .f32⟩
  | .hbm, ⟨44, _⟩ => ⟨S8x4224x512, .f32⟩
  | .hbm, ⟨45, _⟩ => ⟨S8x4224x512, .f32⟩
  | _, _ => ⟨S33792x6992, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_call0_v0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩

abbrev nD : Nat := 1
abbrev τ : Topo := Topo.v7x

variable {F : FTy → Type} [FloatOps F]
-- ==== Kernel6.lean ====
abbrev S33792x6992 : Shape := ⟨2, ![33792, 6992]⟩
abbrev S2x64 : Shape := ⟨2, ![2, 64]⟩
abbrev S2x128 : Shape := ⟨2, ![2, 128]⟩
abbrev S_ : Shape := ⟨0, ![]⟩
abbrev S33792x176 : Shape := ⟨2, ![33792, 176]⟩
abbrev S33792x2048 : Shape := ⟨2, ![33792, 2048]⟩
abbrev S33792x1024 : Shape := ⟨2, ![33792, 1024]⟩
abbrev S33792x3840 : Shape := ⟨2, ![33792, 3840]⟩
abbrev S33792x80 : Shape := ⟨2, ![33792, 80]⟩
abbrev S33792x7168 : Shape := ⟨2, ![33792, 7168]⟩
abbrev S8x4224x7168 : Shape := ⟨3, ![8, 4224, 7168]⟩
abbrev S1x64 : Shape := ⟨2, ![1, 64]⟩
abbrev S64 : Shape := ⟨1, ![64]⟩
abbrev S1x128 : Shape := ⟨2, ![1, 128]⟩
abbrev S128 : Shape := ⟨1, ![128]⟩
abbrev S33792x512 : Shape := ⟨2, ![33792, 512]⟩
abbrev S264x512x128 : Shape := ⟨3, ![264, 512, 128]⟩
abbrev S33792x128 : Shape := ⟨2, ![33792, 128]⟩
abbrev S264x128x128 : Shape := ⟨3, ![264, 128, 128]⟩
abbrev S512x512 : Shape := ⟨2, ![512, 512]⟩
abbrev S512x128 : Shape := ⟨2, ![512, 128]⟩
abbrev S512x1024 : Shape := ⟨2, ![512, 1024]⟩
abbrev S4x512x128 : Shape := ⟨3, ![4, 512, 128]⟩
abbrev S4x128x128 : Shape := ⟨3, ![4, 128, 128]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S33792x4x2x64 : Shape := ⟨4, ![33792, 4, 2, 64]⟩
abbrev S264x128x512 : Shape := ⟨3, ![264, 128, 512]⟩
abbrev S33792x4x128 : Shape := ⟨3, ![33792, 4, 128]⟩
abbrev S33792x16x64 : Shape := ⟨3, ![33792, 16, 64]⟩
abbrev S33792x64 : Shape := ⟨2, ![33792, 64]⟩
abbrev S33792x16 : Shape := ⟨2, ![33792, 16]⟩

abbrev nBuf : Space → Nat
  | .hbm => 55
  | .vmem => 38
  | .smem => 0
  | _ => 0

abbrev bufTy : (tb : Table) → Fin (tcTables nBuf tb) → BufTy
  | .hbm, ⟨0, _⟩ => ⟨S33792x6992, .f32⟩
  | .hbm, ⟨1, _⟩ => ⟨S2x64, .f32⟩
  | .hbm, ⟨2, _⟩ => ⟨S2x64, .f32⟩
  | .hbm, ⟨3, _⟩ => ⟨S2x128, .f32⟩
  | .hbm, ⟨4, _⟩ => ⟨S2x128, .f32⟩
  | .hbm, ⟨5, _⟩ => ⟨S_, .f32⟩
  | .hbm, ⟨6, _⟩ => ⟨S33792x176, .f32⟩
  | .hbm, ⟨7, _⟩ => ⟨S33792x2048, .f32⟩
  | .hbm, ⟨8, _⟩ => ⟨S33792x1024, .f32⟩
  | .hbm, ⟨9, _⟩ => ⟨S33792x3840, .f32⟩
  | .hbm, ⟨10, _⟩ => ⟨S33792x80, .f32⟩
  | .hbm, ⟨11, _⟩ => ⟨S33792x7168, .f32⟩
  | .hbm, ⟨12, _⟩ => ⟨S8x4224x7168, .f32⟩
  | .hbm, ⟨13, _⟩ => ⟨S33792x7168, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S1x64, .f32⟩
  | .hbm, ⟨23, _⟩ => ⟨S2x64, .f32⟩
  | .hbm, ⟨24, _⟩ => ⟨S128, .f32⟩
  | .hbm, ⟨25, _⟩ => ⟨S1x128, .f32⟩
  | .hbm, ⟨26, _⟩ => ⟨S1x64, .f32⟩
  | .hbm, ⟨27, _⟩ => ⟨S2x64, .f32⟩
  | .hbm, ⟨28, _⟩ => ⟨S128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S33792x512, .bf16⟩
  | .hbm, ⟨33, _⟩ => ⟨S33792x512, .bf16⟩
  | .hbm, ⟨34, _⟩ => ⟨S264x512x128, .bf16⟩
  | .hbm, ⟨35, _⟩ => ⟨S33792x512, .bf16⟩
  | .hbm, ⟨36, _⟩ => ⟨S33792x128, .bf16⟩
  | .hbm, ⟨37, _⟩ => ⟨S264x128x128, .bf16⟩
  | .hbm, ⟨38, _⟩ => ⟨S33792x1024, .bf16⟩
  | .hbm, ⟨39, _⟩ => ⟨S33792x128, .bf16⟩
  | .hbm, ⟨40, _⟩ => ⟨S33792x128, .f32⟩
  | .hbm, ⟨41, _⟩ => ⟨S33792x4x2x64, .bf16⟩
  | .hbm, ⟨42, _⟩ => ⟨S33792x4x2x64, .f32⟩
  | .hbm, ⟨43, _⟩ => ⟨S264x128x512, .bf16⟩
  | .hbm, ⟨44, _⟩ => ⟨S33792x4x128, .bf16⟩
  | .hbm, ⟨45, _⟩ => ⟨S33792x4x128, .f32⟩
  | .hbm, ⟨46, _⟩ => ⟨S33792x128, .f32⟩
  | .hbm, ⟨47, _⟩ => ⟨S264x128x128, .bf16⟩
  | .hbm, ⟨48, _⟩ => ⟨S33792x128, .bf16⟩
  | .hbm, ⟨49, _⟩ => ⟨S33792x128, .f32⟩
  | .hbm, ⟨50, _⟩ => ⟨S33792x16x64, .bf16⟩
  | .hbm, ⟨51, _⟩ => ⟨S33792x16x64, .f32⟩
  | .hbm, ⟨52, _⟩ => ⟨S33792x64, .bf16⟩
  | .hbm, ⟨53, _⟩ => ⟨S33792x64, .f32⟩
  | .hbm, ⟨54, _⟩ => ⟨S33792x16, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S512x1024, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S4x512x128, .bf16⟩
  | .local _ .vmem, ⟨25, _⟩ => ⟨S4x512x128, .bf16⟩
  | .local _ .vmem, ⟨26, _⟩ => ⟨S512x512, .bf16⟩
  | .local _ .vmem, ⟨27, _⟩ => ⟨S512x512, .bf16⟩
  | .local _ .vmem, ⟨28, _⟩ => ⟨S512x128, .bf16⟩
  | .local _ .vmem, ⟨29, _⟩ => ⟨S512x128, .bf16⟩
  | .local _ .vmem, ⟨30, _⟩ => ⟨S4x128x128, .bf16⟩
  | .local _ .vmem, ⟨31, _⟩ => ⟨S4x128x128, .bf16⟩
  | .local _ .vmem, ⟨32, _⟩ => ⟨S512x1024, .bf16⟩
  | .local _ .vmem, ⟨33, _⟩ => ⟨S512x1024, .bf16⟩
  | .local _ .vmem, ⟨34, _⟩ => ⟨S512x128, .bf16⟩
  | .local _ .vmem, ⟨35, _⟩ => ⟨S512x128, .bf16⟩
  | .local _ .vmem, ⟨36, _⟩ => ⟨S512x128, .f32⟩
  | .local _ .vmem, ⟨37, _⟩ => ⟨S512x128, .f32⟩
  | _, _ => ⟨S33792x6992, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev main_v26_2 : Ref sig .tc := ⟨.hbm, 34, rfl⟩
abbrev main_v26_3 : Ref sig .tc := ⟨.hbm, 35, rfl⟩
abbrev main_v26_4 : Ref sig .tc := ⟨.hbm, 36, rfl⟩
abbrev main_v26_5 : Ref sig .tc := ⟨.hbm, 37, rfl⟩
abbrev main_v26_6 : Ref sig .tc := ⟨.hbm, 38, rfl⟩
abbrev main_v26_7 : Ref sig .tc := ⟨.hbm, 39, rfl⟩
abbrev main_v26_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c52_i32 : BitVec 32 := 52#32
  let c0_i32 : BitVec 32 := 0#32
  ![arg0.toNat, c52_i32.toNat]

def cc0_transform_5 (i : grid0.Coords) : Fin 2 → Nat :=
  let arg0 : BitVec 32 := BitVec.ofNat 32 (i 0).val
  let c53_i32 : BitVec 32 := 53#32
  let c0_i32 : BitVec 32 := 0#32
  ![arg0.toNat, c53_i32.toNat]

def cc0_transform_6 (i : grid0.Coords) : Fin 2 → Nat :=
  let arg0 : BitVec 32 := BitVec.ofNat 32 (i 0).val
  let c54_i32 : BitVec 32 := 54#32
  let c0_i32 : BitVec 32 := 0#32
  ![arg0.toNat, c54_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S33792x6992 : Shape := ⟨2, ![33792, 6992]⟩
abbrev S2x64 : Shape := ⟨2, ![2, 64]⟩
abbrev S2x128 : Shape := ⟨2, ![2, 128]⟩
abbrev S33792x512 : Shape := ⟨2, ![33792, 512]⟩
abbrev S33792x128 : Shape := ⟨2, ![33792, 128]⟩
abbrev S33792x1024 : Shape := ⟨2, ![33792, 1024]⟩
abbrev S33792x64 : Shape := ⟨2, ![33792, 64]⟩
abbrev S33792x16 : Shape := ⟨2, ![33792, 16]⟩
abbrev S33792x4x2x64 : Shape := ⟨4, ![33792, 4, 2, 64]⟩
abbrev S1x64 : Shape := ⟨2, ![1, 64]⟩
abbrev S64 : Shape := ⟨1, ![64]⟩
abbrev S_ : Shape := ⟨0, ![]⟩
abbrev S33792x4x2 : Shape := ⟨3, ![33792, 4, 2]⟩
abbrev S33792x4x2x1 : Shape := ⟨4, ![33792, 4, 2, 1]⟩
abbrev S1x1x1x64 : Shape := ⟨4, ![1, 1, 1, 64]⟩
abbrev S33792x4x128 : Shape := ⟨3, ![33792, 4, 128]⟩
abbrev S33792x16x64 : Shape := ⟨3, ![33792, 16, 64]⟩
abbrev S1x128 : Shape := ⟨2, ![1, 128]⟩
abbrev S128 : Shape := ⟨1, ![128]⟩
abbrev S33792 : Shape := ⟨1, ![33792]⟩
abbrev S33792x1 : Shape := ⟨2, ![33792, 1]⟩

abbrev nBuf : Space → Nat
  | .hbm => 66
  | .vmem => 0
  | .smem => 0
  | _ => 0

abbrev bufTy : (tb : Table) → Fin (tcTables nBuf tb) → BufTy
  | .hbm, ⟨0, _⟩ => ⟨S33792x6992, .f32⟩
  | .hbm, ⟨1, _⟩ => ⟨S2x64, .f32⟩
  | .hbm, ⟨2, _⟩ => ⟨S2x64, .f32⟩
  | .hbm, ⟨3, _⟩ => ⟨S2x128, .f32⟩
  | .hbm, ⟨4, _⟩ => ⟨S2x128, .f32⟩
  | .hbm, ⟨5, _⟩ => ⟨S33792x512, .f32⟩
  | .hbm, ⟨6, _⟩ => ⟨S33792x512, .f32⟩
  | .hbm, ⟨7, _⟩ => ⟨S33792x512, .f32⟩
  | .hbm, ⟨8, _⟩ => ⟨S33792x512, .f32⟩
  | .hbm, ⟨9, _⟩ => ⟨S33792x512, .f32⟩
  | .hbm, ⟨10, _⟩ => ⟨S33792x512, .f32⟩
  | .hbm, ⟨11, _⟩ => ⟨S33792x512, .f32⟩
  | .hbm, ⟨12, _⟩ => ⟨S33792x512, .f32⟩
  | .hbm, ⟨13, _⟩ => ⟨S33792x512, .f32⟩
  | .hbm, ⟨14, _⟩ => ⟨S33792x512, .f32⟩
  | .hbm, ⟨15, _⟩ => ⟨S33792x512, .f32⟩
  | .hbm, ⟨16, _⟩ => ⟨S33792x128, .f32⟩
  | .hbm, ⟨17, _⟩ => ⟨S33792x128, .f32⟩
  | .hbm, ⟨18, _⟩ => ⟨S33792x1024, .f32⟩
  | .hbm, ⟨19, _⟩ => ⟨S33792x64, .f32⟩
  | .hbm, ⟨20, _⟩ => ⟨S33792x16, .f32⟩
  | .hbm, ⟨21, _⟩ => ⟨S33792x4x2x64, .f32⟩
  | .hbm, ⟨22, _⟩ => ⟨S1x64, .f32⟩
  | .hbm, ⟨23, _⟩ => ⟨S64, .f32⟩
  | .hbm, ⟨24, _⟩ => ⟨S33792x4x2x64, .f32⟩
  | .hbm, ⟨25, _⟩ => ⟨S_, .f32⟩
  | .hbm, ⟨26, _⟩ => ⟨S33792x4x2, .f32⟩
  | .hbm, ⟨27, _⟩ => ⟨S33792x4x2x1, .f32⟩
  | .hbm, ⟨28, _⟩ => ⟨S_, .f32⟩
  | .hbm, ⟨29, _⟩ => ⟨S33792x4x2x1, .f32⟩
  | .hbm, ⟨30, _⟩ => ⟨S33792x4x2x1, .f32⟩
  | .hbm, ⟨31, _⟩ => ⟨S_, .f32⟩
  | .hbm, ⟨32, _⟩ => ⟨S33792x4x2x1, .f32⟩
  | .hbm, ⟨33, _⟩ => ⟨S33792x4x2x1, .f32⟩
  | .hbm, ⟨34, _⟩ => ⟨S33792x4x2x1, .f32⟩
  | .hbm, ⟨35, _⟩ => ⟨S33792x4x2x64, .f32⟩
  | .hbm, ⟨36, _⟩ => ⟨S33792x4x2x64, .f32⟩
  | .hbm, ⟨37, _⟩ => ⟨S1x1x1x64, .f32⟩
  | .hbm, ⟨38, _⟩ => ⟨S33792x4x2x64, .f32⟩
  | .hbm, ⟨39, _⟩ => ⟨S33792x4x2x64, .f32⟩
  | .hbm, ⟨40, _⟩ => ⟨S33792x4x128, .f32⟩
  | .hbm, ⟨41, _⟩ => ⟨S33792x16x64, .f32⟩
  | .hbm, ⟨42, _⟩ => ⟨S_, .f32⟩
  | .hbm, ⟨43, _⟩ => ⟨S33792x16x64, .f32⟩
  | .hbm, ⟨44, _⟩ => ⟨S33792x16x64, .f32⟩
  | .hbm, ⟨45, _⟩ => ⟨S_, .f32⟩
  | .hbm, ⟨46, _⟩ => ⟨S33792x16, .f32⟩
  | .hbm, ⟨47, _⟩ => ⟨S33792x16, .f32⟩
  | .hbm, ⟨48, _⟩ => ⟨S1x128, .f32⟩
  | .hbm, ⟨49, _⟩ => ⟨S128, .f32⟩
  | .hbm, ⟨50, _⟩ => ⟨S33792x128, .f32⟩
  | .hbm, ⟨51, _⟩ => ⟨S_, .f32⟩
  | .hbm, ⟨52, _⟩ => ⟨S33792, .f32⟩
  | .hbm, ⟨53, _⟩ => ⟨S33792x1, .f32⟩
  | .hbm, ⟨54, _⟩ => ⟨S_, .f32⟩
  | .hbm, ⟨55, _⟩ => ⟨S33792x1, .f32⟩
  | .hbm, ⟨56, _⟩ => ⟨S33792x1, .f32⟩
  | .hbm, ⟨57, _⟩ => ⟨S_, .f32⟩
  | .hbm, ⟨58, _⟩ => ⟨S33792x1, .f32⟩
  | .hbm, ⟨59, _⟩ => ⟨S33792x1, .f32⟩
  | .hbm, ⟨60, _⟩ => ⟨S33792x1, .f32⟩
  | .hbm, ⟨61, _⟩ => ⟨S33792x128, .f32⟩
  | .hbm, ⟨62, _⟩ => ⟨S33792x128, .f32⟩
  | .hbm, ⟨63, _⟩ => ⟨S1x128, .f32⟩
  | .hbm, ⟨64, _⟩ => ⟨S33792x128, .f32⟩
  | .hbm, ⟨65, _⟩ => ⟨S33792x128, .f32⟩
  | _, _ => ⟨S33792x6992, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Proof.FfnMath.lean ====
/- Hand-written, untrusted: the mathematics of the feed-forward block on one row, over the extended reals. -/
module

public import Idealize.ShloMosaic.Lib.Pipeline.ValueKit

@[expose] public section

set_option maxRecDepth 16384

noncomputable section

open Idealize.ShloMosaic
open scoped BigOperators

namespace Cert.Ffn

/-- The factor one half, as the float word both programs carry. -/
abbrev half : EReal := Ideal.ofBits .f32 0x3F000000#32

theorem half_eq : half = (((1 / 2 : ℝ)) : EReal) := by
  simp [Ideal.ofBits, Ideal.ieee, -EReal.coe_mul]; norm_num

/-- A row divided by the root of its mean square (plus the small constant), scaled by the gains. -/
def nrm (x g : Fin 2048 → EReal) (k : Fin 2048) : EReal :=
  x k * Ideal.rsqrt (Ideal.div (∑ i, x i * x i) (Ideal.ofBits .f32 0x45000000#32) + Ideal.ofBits .f32 0x358637BD#32) * g k

/-- One hidden unit's part of a result entry as the kernel adds it: the half sits on the linear branch. -/
def unitK (n wg wu : Fin 2048 → EReal) (d : EReal) : EReal :=
  (∑ k, n k * wg k) * Ideal.logistic (∑ k, n k * wg k) * (half * ∑ k, n k * wu k) * d

/-- The same part as the reference has it, without the half. -/
def unitR (n wg wu : Fin 2048 → EReal) (d : EReal) : EReal :=
  (∑ k, n k * wg k) * Ideal.div 1 (1 + Ideal.exp (-∑ k, n k * wg k)) * (∑ k, n k * wu k) * d

theorem unitK_eq (n wg wu : Fin 2048 → EReal) (d : EReal) : unitK n wg wu d = half * unitR n wg wu d := by
  show (∑ k, n k * wg k) * Ideal.logistic (∑ k, n k * wg k) * (half * ∑ k, n k * wu k) * d
    = half * ((∑ k, n k * wg k) * Ideal.logistic (∑ k, n k * wg k) * (∑ k, n k * wu k) * d)
  ac_rfl

/-- A product with one half goes through a finite sum. -/
theorem half_mul_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih]
    rw [half_eq]
    exact EReal.left_distrib_of_nonneg_of_ne_top (by positivity) (EReal.coe_ne_top _) _ _

/-- The result entry: the row's entry plus half the sum over the hidden units. -/
def out (x g : Fin 2048 → EReal) (wg wu : Fin 5632 → Fin 2048 → EReal) (d : Fin 5632 → EReal) (e : EReal) : EReal :=
  e + half * ∑ f, unitR (nrm x g) (wg f) (wu f) (d f)

/-- The kernel's order of summation: eleven blocks of 512 hidden units. -/
theorem out_blocks (x g : Fin 2048 → EReal) (wg wu : Fin 5632 → Fin 2048 → EReal) (d : Fin 5632 → EReal) (e : EReal) :
    out x g wg wu d e = e + ∑ s : Fin 11, ∑ y : Fin 512,
      unitK (nrm x g) (wg ⟨s.val * 512 + y.val, by omega⟩) (wu ⟨s.val * 512 + y.val, by omega⟩) (d ⟨s.val * 512 + y.val, by omega⟩) := by
  unfold out
  rw [half_mul_sum]
  congr 1
  symm
  refine Fin.sum_mul_add_congr fun s k hl => ?_
  exact unitK_eq _ _ _ _

end Cert.Ffn

end
-- ==== Proof.FfnKernel.lean ====
/- Hand-written, untrusted: what the kept-rows feed-forward call leaves in its result array. -/
module

public import proofs.«01_k».proof.Proof.Gen.KernelIdeal.Frame
public import proofs.«01_k».proof.Proof.FfnMath

@[expose] public section

set_option maxRecDepth 16384

noncomputable section

open Idealize.ShloMosaic Idealize.ShloMosaic.TcCoe Idealize.SL.Sem
open Idealize.ShloMosaic.Pipeline (Dat)
open scoped BigOperators

namespace Cert.KernelIdeal.FfnValue

open Cert.KernelIdeal Cert.KernelIdeal.Gen

variable (m : (ℓ : Loc nD τ sig) → Buf (Elt Ideal) ℓ)

theorem idx_val : ∀ t : Fin cfg0.N, win0_0.index t = ![t.val / 44 * 4224 + 16 + t.val / 11 % 4 * 1024, 0]
    ∧ win0_1.index t = ![0, 0]
    ∧ win0_2.index t = ![1, 0, t.val % 11]
    ∧ win0_3.index t = ![1, t.val % 11, 0]
    ∧ win0_4.index t = ![t.val / 11, 0] :=
  (by decide +kernel : ∀ t : Fin grid0.N, _)

theorem blk0_emb (t : Fin cfg0.N) (y : S1024x2048.Idx) :
    (((cfg0.win 0).blk t).view.emb y : S33792x2048.Idx)
      = ix2 ⟨t.val / 44 * 4224 + 16 + t.val / 11 % 4 * 1024 + (y 0).val, by have := lt_of_lt_of_eq t.isLt N_0; have : (y 0).val < 1024 := (y 0).isLt; show _ < 33792; omega⟩ (y 1) := by
  have e := (idx_val t).1
  funext a; apply Fin.ext
  match a with
  | ⟨0, _⟩ =>
    show win0_0.index t (0 : Fin 2) + 1 * (y 0).val = t.val / 44 * 4224 + 16 + t.val / 11 % 4 * 1024 + (y 0).val
    rw [e, Nat.one_mul]; rfl
  | ⟨1, _⟩ =>
    show win0_0.index t (1 : Fin 2) + 1 * (y 1).val = (y 1).val
    rw [e, Nat.one_mul]; exact Nat.zero_add _

theorem iblk0_at (c : Dev nD) (t : Fin cfg0.N) (y : S1024x2048.Idx) :
    (iblk m c 0 t : S1024x2048.Idx → EReal) y = m ((c : Thread nD τ).loc main_arg0) (ix2 ⟨t.val / 44 * 4224 + 16 + t.val / 11 % 4 * 1024 + (y 0).val, by have := lt_of_lt_of_eq t.isLt N_0; have : (y 0).val < 1024 := (y 0).isLt; show _ < 33792; omega⟩ (y 1) : S33792x2048.Idx) := by
  show V m c main_arg0 (((cfg0.win 0).blk t).view.emb y) = _
  rw [V_main_arg0, blk0_emb]
  rfl

theorem iblk0_prev (c : Dev nD) (t : Fin cfg0.N) (h : ¬t.val % 11 = 0) (ht : t.val - 1 < cfg0.N) :
    iblk m c 0 ⟨t.val - 1, ht⟩ = iblk m c 0 t := by
  refine funext fun (y : S1024x2048.Idx) => ?_
  have hN := lt_of_lt_of_eq t.isLt N_0
  refine (iblk0_at m c ⟨t.val - 1, ht⟩ y).trans (Eq.trans ?_ (iblk0_at m c t y).symm)
  congr 2
  apply Fin.ext
  show (t.val - 1) / 44 * 4224 + 16 + (t.val - 1) / 11 % 4 * 1024 + (y 0).val = t.val / 44 * 4224 + 16 + t.val / 11 % 4 * 1024 + (y 0).val
  omega

theorem iblk1_prev (c : Dev nD) (t : Fin cfg0.N) (h : ¬t.val % 11 = 0) (ht : t.val - 1 < cfg0.N) :
    iblk m c 1 ⟨t.val - 1, ht⟩ = iblk m c 1 t := by
  funext y
  blk_point [iblk, idx_val t, idx_val ⟨t.val - 1, ht⟩]

theorem scratch_eq (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    rw [outsAt0_A m c ⟨0, hn⟩ rfl]; dsimp only
    frame_out
  | succ n ih =>
    intro hn
    by_cases h : (n + 1) % 11 = 0
    · rw [outsAt0_A m c ⟨n + 1, hn⟩ h]; dsimp only
      frame_out
    · rw [outsAt0_B m c ⟨n + 1, hn⟩ h]
      exact (ih (Nat.lt_of_succ_lt hn)).trans (congrArg₂ (k0_pay1 (F := Ideal))
        (iblk0_prev m c ⟨n + 1, hn⟩ h (Nat.lt_of_succ_lt hn)) (iblk1_prev m c ⟨n + 1, hn⟩ h (Nat.lt_of_succ_lt hn)))

theorem iblk1_at (c : Dev nD) (t : Fin cfg0.N) (k : Fin 2048) :
    (iblk m c 1 t : S1x2048.Idx → EReal) (ix2 0 k) = m ((c : Thread nD τ).loc main_arg1) (ix2 1 k : S2x2048.Idx) := by
  blk_simp [iblk, idx_val t]
  entry_read
  pointwise
  blk_ext [idx_val t]

theorem iblk2_gate (c : Dev nD) (t : Fin cfg0.N) (k : Fin 2048) (y : Fin 512) :
    (iblk m c 2 t : S1x2048x1024.Idx → EReal) (ix3 0 k ⟨y.val, by omega⟩) = m ((c : Thread nD τ).loc main_arg2) (ix3 1 k ⟨t.val % 11 * 512 + y.val, by show _ < 11264; omega⟩ : S2x2048x11264.Idx) := by
  blk_simp [iblk, idx_val t]
  entry_read
  pointwise
  blk_ext [idx_val t]

theorem iblk2_up (c : Dev nD) (t : Fin cfg0.N) (k : Fin 2048) (y : Fin 512) :
    (iblk m c 2 t : S1x2048x1024.Idx → EReal) (ix3 0 k ⟨512 + y.val, by omega⟩) = m ((c : Thread nD τ).loc main_arg2) (ix3 1 k ⟨5632 + (t.val % 11 * 512 + y.val), by show _ < 11264; omega⟩ : S2x2048x11264.Idx) := by
  blk_simp [iblk, idx_val t]
  entry_read
  pointwise
  blk_ext [idx_val t]

theorem iblk3_at (c : Dev nD) (t : Fin cfg0.N) (y : Fin 512) (k : Fin 2048) :
    (iblk m c 3 t : S1x512x2048.Idx → EReal) (ix3 0 y k) = m ((c : Thread nD τ).loc main_arg3) (ix3 1 ⟨t.val % 11 * 512 + y.val, by show _ < 5632; omega⟩ k : S2x5632x2048.Idx) := by
  blk_simp [iblk, idx_val t]
  entry_read
  pointwise
  blk_ext [idx_val t]

theorem pay1_at (x : FVec Ideal S1024x2048 .f32) (g : FVec Ideal S1x2048 .f32) (r : Fin 1024) (k : Fin 2048) :
    k0_pay1 (F := Ideal) x g (ix2 r k) = Ffn.nrm (fun k => x (ix2 r k)) (fun k => g (ix2 0 k)) k := by
  pointwise [k0_pay1]
  rfl

theorem pay2_at (v3 : FVec Ideal S1024x2048 .bf16) (v4 : FVec Ideal S1x2048x1024 .bf16) (v15 : FVec Ideal S1024x2048 .f32)
    (v17 : FVec Ideal S1x512x2048 .bf16) (j : S1024x2048.Idx) :
    k0_pay2 (F := Ideal) v3 v4 v15 v17 j = v15 j + ∑ y : Fin 512, Ffn.unitK (fun k => v3 (ix2 (j 0) k))
      (fun k => v4 (ix3 0 k ⟨y.val, by omega⟩)) (fun k => v4 (ix3 0 k ⟨512 + y.val, by omega⟩)) (v17 (ix3 0 y (j 1))) := by
  pointwise [k0_pay2]
  rfl

/-- The row of the stream that row `r` of the result is computed from. -/
def row (r : Fin 32768) : Fin 33792 := ⟨r.val / 4096 * 4224 + 16 + r.val % 4096, by omega⟩

/-- The result as a function of the four arguments. -/
def OUT (a0 : FVec Ideal S33792x2048 .f32) (a1 : FVec Ideal S2x2048 .f32) (a2 : FVec Ideal S2x2048x11264 .f32)
    (a3 : FVec Ideal S2x5632x2048 .f32) : FVec Ideal S32768x2048 .f32 := fun i =>
  Ffn.out (fun k => a0 (ix2 (row (i 0)) k)) (fun k => a1 (ix2 1 k))
    (fun f k => a2 (ix3 1 k ⟨f.val, by omega⟩)) (fun f k => a2 (ix3 1 k ⟨5632 + f.val, by omega⟩))
    (fun f => a3 (ix3 1 f (i 1))) (a0 (ix2 (row (i 0)) (i 1)))

/-- The windows' blocks at a point, at their own types. -/
def xb (c : Dev nD) (t : Fin cfg0.N) : FVec Ideal S1024x2048 .f32 := iblk m c 0 t
def gb (c : Dev nD) (t : Fin cfg0.N) : FVec Ideal S1x2048 .f32 := iblk m c 1 t
def wb (c : Dev nD) (t : Fin cfg0.N) : FVec Ideal S1x2048x1024 .bf16 := iblk m c 2 t
def db (c : Dev nD) (t : Fin cfg0.N) : FVec Ideal S1x512x2048 .bf16 := iblk m c 3 t
/-- What the result's staging block holds after a point. -/
def ob (c : Dev nD) (n : ℕ) (h : n < cfg0.N) : FVec Ideal S1024x2048 .f32 := (outsAt0 m c n h).1

/-- One point's part of an entry of the block. -/
def part (c : Dev nD) (t : Fin cfg0.N) (j : S1024x2048.Idx) : EReal :=
  ∑ y : Fin 512, Ffn.unitK
    (Ffn.nrm (fun k => xb m c t (ix2 (j 0) k)) (fun k => gb m c t (ix2 0 k)))
    (fun k => wb m c t (ix3 0 k ⟨y.val, by omega⟩))
    (fun k => wb m c t (ix3 0 k ⟨512 + y.val, by omega⟩))
    (db m c t (ix3 0 y (j 1)))

theorem step (x : FVec Ideal S1024x2048 .f32) (g : FVec Ideal S1x2048 .f32) (v4 : FVec Ideal S1x2048x1024 .bf16) (v15 : FVec Ideal S1024x2048 .f32)
    (v17 : FVec Ideal S1x512x2048 .bf16) (j : S1024x2048.Idx) :
    k0_pay2 (F := Ideal) (k0_pay1 (F := Ideal) x g) v4 v15 v17 j = v15 j + ∑ y : Fin 512, Ffn.unitK
      (Ffn.nrm (fun k => x (ix2 (j 0) k)) (fun k => g (ix2 0 k)))
      (fun k => v4 (ix3 0 k ⟨y.val, by omega⟩)) (fun k => v4 (ix3 0 k ⟨512 + y.val, by omega⟩)) (v17 (ix3 0 y (j 1))) := by
  rw [pay2_at]
  exact congrArg (fun n => v15 j + ∑ y : Fin 512, Ffn.unitK n
      (fun k => v4 (ix3 0 k ⟨y.val, by omega⟩)) (fun k => v4 (ix3 0 k ⟨512 + y.val, by omega⟩)) (v17 (ix3 0 y (j 1))))
    (funext fun k => pay1_at x g (j 0) k)

/-- At the first point of a run the block is the stream's rows and the point's part. -/
theorem out_A (c : Dev nD) (t : Fin cfg0.N) (h : t.val % 11 = 0) (j : S1024x2048.Idx) :
    ob m c t.val t.isLt j = xb m c t j + part m c t j := by
  unfold ob
  rw [outsAt0_A m c t h]
  frame_out
  exact step (xb m c t) (gb m c t) (wb m c t) (xb m c t) (db m c t) j

/-- At the others the point's part is added to what is there. -/
theorem out_B (c : Dev nD) (t : Fin cfg0.N) (h : ¬t.val % 11 = 0) (j : S1024x2048.Idx) :
    ob m c t.val t.isLt j = ob m c (t.val - 1) (Nat.lt_of_le_of_lt (Nat.sub_le _ _) t.isLt) j + part m c t j := by
  have e : (outsAt0 m c (t.val - 1) (Nat.lt_of_le_of_lt (Nat.sub_le _ _) t.isLt)).2 = k0_pay1 (F := Ideal) (xb m c t) (gb m c t) :=
    (scratch_eq m c (t.val - 1) _).trans (congrArg₂ (k0_pay1 (F := Ideal)) (iblk0_prev m c t h _) (iblk1_prev m c t h _))
  refine Eq.trans ?_ ((congrArg (fun v => k0_pay2 (F := Ideal) v (wb m c t) (ob m c (t.val - 1) (Nat.lt_of_le_of_lt (Nat.sub_le _ _) t.isLt)) (db m c t) j) e).trans
    (step (xb m c t) (gb m c t) (wb m c t) (ob m c (t.val - 1) (Nat.lt_of_le_of_lt (Nat.sub_le _ _) t.isLt)) (db m c t) j))
  unfold ob wb db
  rw [outsAt0_B m c t h]
  frame_out
  exact congrArg (fun v => k0_pay2 (F := Ideal) v (iblk m c 2 t) (outsAt0 m c (t.val - 1) (Nat.lt_of_le_of_lt (Nat.sub_le _ _) t.isLt)).1 (iblk m c 3 t) j)
    (Memref.IsWhole.read_unread (Memref.isWhole_whole cc0_scratch0) _)

theorem acc (c : Dev nD) (t : Fin cfg0.N) (h : t.val % 11 = 10) (j : S1024x2048.Idx) :
    ob m c t.val t.isLt j = xb m c ⟨11 * (t.val / 11), by have := t.isLt; omega⟩ j
      + ∑ s : Fin 11, part m c ⟨11 * (t.val / 11) + s.val, Pipeline.run_point_lt_of_flush t h s⟩ j := by
  rw [Pipeline.eq_sum_fin_of_reset_step_apply_of_flush (fun n h => ob m c n h) 11 (fun _ => 0)
    (fun t j => (if t.val % 11 = 0 then xb m c t j else 0) + part m c t j)
    (fun t h j => by rw [out_A m c t h, if_pos h, zero_add]) (fun t h j => by rw [out_B m c t h, if_neg h, zero_add])
    t h j, zero_add, Finset.sum_add_distrib]
  congr 1
  rw [Fin.sum_univ_succ]
  rw [if_pos (show (11 * (t.val / 11) + (0 : Fin 11).val) % 11 = 0 by simp)]
  rw [Finset.sum_eq_zero (fun s _ => if_neg (show ¬(11 * (t.val / 11) + (Fin.succ s).val) % 11 = 0 by rw [Fin.val_succ]; omega)), add_zero]
  rfl

theorem part_eq (c : Dev nD) (t : Fin cfg0.N) (h : t.val % 11 = 10) (s : Fin 11) (j : S1024x2048.Idx) (i : S32768x2048.Idx)
    (hi0 : (i 0).val = t.val / 11 * 1024 + (j 0).val) (hi1 : i 1 = j 1) :
    part m c ⟨11 * (t.val / 11) + s.val, Pipeline.run_point_lt_of_flush t h s⟩ j = ∑ y : Fin 512, Ffn.unitK
      (Ffn.nrm (fun k => m ((c : Thread nD τ).loc main_arg0) (ix2 (row (i 0)) k : S33792x2048.Idx)) (fun k => m ((c : Thread nD τ).loc main_arg1) (ix2 1 k : S2x2048.Idx)))
      (fun k => m ((c : Thread nD τ).loc main_arg2) (ix3 1 k ⟨s.val * 512 + y.val, by show _ < 11264; omega⟩ : S2x2048x11264.Idx))
      (fun k => m ((c : Thread nD τ).loc main_arg2) (ix3 1 k ⟨5632 + (s.val * 512 + y.val), by show _ < 11264; omega⟩ : S2x2048x11264.Idx))
      (m ((c : Thread nD τ).loc main_arg3) (ix3 1 ⟨s.val * 512 + y.val, by show _ < 5632; omega⟩ (i 1) : S2x5632x2048.Idx)) := by
  have hN := lt_of_lt_of_eq t.isLt N_0
  have hj : (j 0).val < 1024 := (j 0).isLt
  have e1 : (11 * (t.val / 11) + s.val) % 11 = s.val := by omega
  unfold part
  refine Finset.sum_congr rfl fun y _ => ?_
  have a0 : (fun k : Fin 2048 => xb m c ⟨11 * (t.val / 11) + s.val, Pipeline.run_point_lt_of_flush t h s⟩ (ix2 (j 0) k)) = fun k => m ((c : Thread nD τ).loc main_arg0) (ix2 (row (i 0)) k : S33792x2048.Idx) := by
    funext k
    refine (iblk0_at m c _ _).trans (congrArg (fun r => m ((c : Thread nD τ).loc main_arg0) (ix2 r k : S33792x2048.Idx)) (Fin.ext ?_))
    show (11 * (t.val / 11) + s.val) / 44 * 4224 + 16 + (11 * (t.val / 11) + s.val) / 11 % 4 * 1024 + (j 0).val = (i 0).val / 4096 * 4224 + 16 + (i 0).val % 4096
    omega
  have a1 : (fun k : Fin 2048 => gb m c ⟨11 * (t.val / 11) + s.val, Pipeline.run_point_lt_of_flush t h s⟩ (ix2 0 k)) = fun k => m ((c : Thread nD τ).loc main_arg1) (ix2 1 k : S2x2048.Idx) :=
    funext fun k => iblk1_at m c _ k
  have a2 : (fun k : Fin 2048 => wb m c ⟨11 * (t.val / 11) + s.val, Pipeline.run_point_lt_of_flush t h s⟩ (ix3 0 k ⟨y.val, by omega⟩)) = fun k => m ((c : Thread nD τ).loc main_arg2) (ix3 1 k ⟨s.val * 512 + y.val, by show _ < 11264; omega⟩ : S2x2048x11264.Idx) := by
    funext k
    refine (iblk2_gate m c _ k y).trans (congrArg (fun r => m ((c : Thread nD τ).loc main_arg2) (ix3 1 k r : S2x2048x11264.Idx)) (Fin.ext ?_))
    show (11 * (t.val / 11) + s.val) % 11 * 512 + y.val = s.val * 512 + y.val
    rw [e1]
  have a3 : (fun k : Fin 2048 => wb m c ⟨11 * (t.val / 11) + s.val, Pipeline.run_point_lt_of_flush t h s⟩ (ix3 0 k ⟨512 + y.val, by omega⟩)) = fun k => m ((c : Thread nD τ).loc main_arg2) (ix3 1 k ⟨5632 + (s.val * 512 + y.val), by show _ < 11264; omega⟩ : S2x2048x11264.Idx) := by
    funext k
    refine (iblk2_up m c _ k y).trans (congrArg (fun r => m ((c : Thread nD τ).loc main_arg2) (ix3 1 k r : S2x2048x11264.Idx)) (Fin.ext ?_))
    show 5632 + ((11 * (t.val / 11) + s.val) % 11 * 512 + y.val) = 5632 + (s.val * 512 + y.val)
    rw [e1]
  have a4 : db m c ⟨11 * (t.val / 11) + s.val, Pipeline.run_point_lt_of_flush t h s⟩ (ix3 0 y (j 1)) = m ((c : Thread nD τ).loc main_arg3) (ix3 1 ⟨s.val * 512 + y.val, by show _ < 5632; omega⟩ (i 1) : S2x5632x2048.Idx) := by
    rw [hi1]
    refine (iblk3_at m c _ y _).trans (congrArg (fun r => m ((c : Thread nD τ).loc main_arg3) (ix3 1 r (j 1) : S2x5632x2048.Idx)) (Fin.ext ?_))
    show (11 * (t.val / 11) + s.val) % 11 * 512 + y.val = s.val * 512 + y.val
    rw [e1]
  rw [a0, a1, a2, a3, a4]

/-- The result array after the run, as a function of the arguments. -/
theorem final (c : Dev nD) : (dats m 0 c).arrAt 4 (cfgs 0).N = OUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have h := (flush0_4 t).mp hf
  have hN := lt_of_lt_of_eq t.isLt N_0
  have hy : (y 0).val < 1024 := (y 0).isLt
  have e4 := (idx_val t).2.2.2.2
  have hi0 : ((win0_4.blk t).view.emb y 0).val = t.val / 11 * 1024 + (y 0).val := by
    show win0_4.index t (0 : Fin 2) * 1024 + 1 * (y 0).val = _
    rw [e4, Nat.one_mul]; rfl
  have hi1 : (win0_4.blk t).view.emb y 1 = y 1 := by
    apply Fin.ext
    show win0_4.index t (1 : Fin 2) * 2048 + 1 * (y 1).val = _
    rw [e4, Nat.one_mul]; exact Nat.zero_add _
  refine (acc m c t h y).trans ?_
  unfold OUT
  rw [Ffn.out_blocks]
  refine congrArg₂ (· + ·) ?_ (Finset.sum_congr rfl fun s _ => part_eq m c t h s y _ hi0 hi1)
  rw [hi1]
  refine (iblk0_at m c _ y).trans (congrArg (fun r => m ((c : Thread nD τ).loc main_arg0) (ix2 r (y 1) : S33792x2048.Idx)) (Fin.ext ?_))
  show 11 * (t.val / 11) / 44 * 4224 + 16 + 11 * (t.val / 11) / 11 % 4 * 1024 + (y 0).val = ((win0_4.blk t).view.emb y 0).val / 4096 * 4224 + 16 + ((win0_4.blk t).view.emb y 0).val % 4096
  rw [hi0]
  omega

end Cert.KernelIdeal.FfnValue

end
-- ==== Proof.FfnRef.lean ====
/- Hand-written, untrusted: the reference's feed-forward result as a function of its arguments, entry by entry. -/
module

public import proofs.«01_k».proof.Proof.Gen.ReferenceIdeal.Run
public import proofs.«01_k».proof.Proof.FfnMath

@[expose] public section

set_option maxRecDepth 16384

noncomputable section

open Idealize.ShloMosaic Idealize.ShloMosaic.TcCoe Idealize.SL.Sem
open scoped BigOperators

namespace Cert.ReferenceIdeal.FfnRef
open Cert.ReferenceIdeal Cert.ReferenceIdeal.Gen

/-- The residual stream without the padding rows. -/
def strm (a0 : FVec Ideal S33792x2048 .f32) : FVec Ideal S8x4112x2048 .f32 :=
  extractStridedSlice S8x4112x2048 ![0, 0, 0] (shapeCast S8x4224x2048 a0 shapeCasts_S33792x2048_S8x4224x2048) slices_S8x4224x2048_S8x4112x2048_0_0_0

/-- Its rows normalised and scaled. -/
def nrm (x : FVec Ideal S8x4112x2048 .f32) (a1 : FVec Ideal S2x2048 .f32) : FVec Ideal S8x4112x2048 .f32 :=
  mulf (mulf x (broadcastInDim S8x4112x2048 ![0, 1, 2] bcast_S8x4112x1_S8x4112x2048_0_1_2 (Host.rsqrt (addf (Host.divf (broadcastInDim S8x4112x1 ![0, 1] bcast_S8x4112_S8x4112x1_0_1 (Host.reduceAdd (mulf x x) (constant S_ .f32 0x00000000#32) reducesTo_S8x4112x2048_S8x4112_d2 h_S_)) (broadcastInDim S8x4112x1 ![] bcast_S_S8x4112x1 (constant S_ .f32 0x45000000#32))) (broadcastInDim S8x4112x1 ![] bcast_S_S8x4112x1 (constant S_ .f32 0x358637BD#32)))))) (broadcastInDim S8x4112x2048 ![0, 1, 2] bcast_S1x1x2048_S8x4112x2048_0_1_2 (broadcastInDim S1x1x2048 ![2] bcast_S2048_S1x1x2048_2 (shapeCast S2048 (extractStridedSlice S1x2048 ![1, 0] a1 slices_S2x2048_S1x2048_1_0) shapeCasts_S1x2048_S2048)))

/-- The two hidden projections side by side. -/
def hid (n : FVec Ideal S8x4112x2048 .f32) (a2 : FVec Ideal S2x2048x11264 .f32) : FVec Ideal S8x4112x11264 .f32 :=
  Host.dotGeneral dot_S8x4112x2048_S2048x11264_S8x4112x11264_2_0_01_1_n_n none n (shapeCast S2048x11264 (extractStridedSlice S1x2048x11264 ![1, 0, 0] a2 slices_S2x2048x11264_S1x2048x11264_1_0_0) shapeCasts_S1x2048x11264_S2048x11264)

/-- The gated product. -/
def act (h : FVec Ideal S8x4112x11264 .f32) : FVec Ideal S8x4112x5632 .f32 :=
  mulf (mulf (extractStridedSlice S8x4112x5632 ![0, 0, 0] h slices_S8x4112x11264_S8x4112x5632_0_0_0) (Host.divf (broadcastInDim S8x4112x5632 ![] bcast_S_S8x4112x5632 (constant S_ .f32 0x3F800000#32)) (addf (broadcastInDim S8x4112x5632 ![] bcast_S_S8x4112x5632 (constant S_ .f32 0x3F800000#32)) (Host.exp (Host.negf (extractStridedSlice S8x4112x5632 ![0, 0, 0] h slices_S8x4112x11264_S8x4112x5632_0_0_0)))))) (extractStridedSlice S8x4112x5632 ![0, 0, 5632] h slices_S8x4112x11264_S8x4112x5632_0_0_5632)

/-- The stream with half of the block's result added, the first sixteen rows of each sequence dropped. -/
def fin (x : FVec Ideal S8x4112x2048 .f32) (y : FVec Ideal S8x4112x5632 .f32) (a3 : FVec Ideal S2x5632x2048 .f32) : FVec Ideal S32768x2048 .f32 :=
  shapeCast S32768x2048 (extractStridedSlice S8x4096x2048 ![0, 16, 0] (addf x (mulf (broadcastInDim S8x4112x2048 ![] bcast_S_S8x4112x2048 (constant S_ .f32 0x3F000000#32)) (Host.dotGeneral dot_S8x4112x5632_S5632x2048_S8x4112x2048_2_0_01_1_n_n none y (shapeCast S5632x2048 (extractStridedSlice S1x5632x2048 ![1, 0, 0] a3 slices_S2x5632x2048_S1x5632x2048_1_0_0) shapeCasts_S1x5632x2048_S5632x2048)))) slices_S8x4112x2048_S8x4096x2048_0_16_0) shapeCasts_S8x4096x2048_S32768x2048

theorem res_eq (m : (ℓ : Loc Cert.ReferenceIdeal.nD Cert.ReferenceIdeal.τ Cert.ReferenceIdeal.sig) → Buf (Elt Ideal) ℓ) (c) :
   Cert.ReferenceIdeal.Value.res_main_v31 (F := Ideal) m c = fin (strm (m ((c.tc : Thread nD τ).loc main_arg0))) (act (hid (nrm (strm (m ((c.tc : Thread nD τ).loc main_arg0))) (m ((c.tc : Thread nD τ).loc main_arg1))) (m ((c.tc : Thread nD τ).loc main_arg2)))) (m ((c.tc : Thread nD τ).loc main_arg3)) := by
  rfl

theorem strm_at (a0 : FVec Ideal S33792x2048 .f32) (i : S8x4112x2048.Idx) :
    strm a0 i = a0 (ix2 ⟨(i 0).val * 4224 + (i 1).val, by have : (i 0).val < 8 := (i 0).isLt; have : (i 1).val < 4112 := (i 1).isLt; show _ < 33792; omega⟩ (i 2)) := by
  pointwise [strm]

theorem nrm_at (x : FVec Ideal S8x4112x2048 .f32) (a1 : FVec Ideal S2x2048 .f32) (b : Fin 8) (r : Fin 4112) (k : Fin 2048) :
    nrm x a1 (ix3 b r k) = Ffn.nrm (fun k => x (ix3 b r k)) (fun k => a1 (ix2 1 k)) k := by
  pointwise [nrm]
  rfl

theorem hid_at (x : FVec Ideal S8x4112x2048 .f32) (a2 : FVec Ideal S2x2048x11264 .f32) (i : S8x4112x11264.Idx) :
    hid x a2 i = ∑ k : Fin 2048, x (ix3 (i 0) (i 1) k) * a2 (ix3 1 k (i 2)) := by
  pointwise [hid]

theorem act_at (x : FVec Ideal S8x4112x11264 .f32) (i : S8x4112x5632.Idx) :
    act x i = x (ix3 (i 0) (i 1) ⟨(i 2).val, by have : (i 2).val < 5632 := (i 2).isLt; show _ < 11264; omega⟩)
        * Ideal.div 1 (1 + Ideal.exp (-x (ix3 (i 0) (i 1) ⟨(i 2).val, by have : (i 2).val < 5632 := (i 2).isLt; show _ < 11264; omega⟩)))
      * x (ix3 (i 0) (i 1) ⟨5632 + (i 2).val, by have : (i 2).val < 5632 := (i 2).isLt; show _ < 11264; omega⟩) := by
  pointwise [act]

theorem fin_at (x : FVec Ideal S8x4112x2048 .f32) (y : FVec Ideal S8x4112x5632 .f32) (a3 : FVec Ideal S2x5632x2048 .f32) (i : S32768x2048.Idx) :
    fin x y a3 i = x (ix3 ⟨(i 0).val / 4096, by have : (i 0).val < 32768 := (i 0).isLt; show _ < 8; omega⟩ ⟨16 + (i 0).val % 4096, by show _ < 4112; omega⟩ (i 1))
      + Ffn.half * ∑ f : Fin 5632, y (ix3 ⟨(i 0).val / 4096, by have : (i 0).val < 32768 := (i 0).isLt; show _ < 8; omega⟩ ⟨16 + (i 0).val % 4096, by show _ < 4112; omega⟩ f) * a3 (ix3 1 f (i 1)) := by
  pointwise [fin]

/-- The row of the stream that row `r` of the result is computed from. -/
def row (r : Fin 32768) : Fin 33792 := ⟨r.val / 4096 * 4224 + (16 + r.val % 4096), by omega⟩

/-- The reference's result at an index. -/
theorem res_at (a0 : FVec Ideal S33792x2048 .f32) (a1 : FVec Ideal S2x2048 .f32) (a2 : FVec Ideal S2x2048x11264 .f32)
    (a3 : FVec Ideal S2x5632x2048 .f32) (i : S32768x2048.Idx) :
    fin (strm a0) (act (hid (nrm (strm a0) a1) a2)) a3 i
      = Ffn.out (fun k => a0 (ix2 (row (i 0)) k)) (fun k => a1 (ix2 1 k))
          (fun f k => a2 (ix3 1 k ⟨f.val, by omega⟩)) (fun f k => a2 (ix3 1 k ⟨5632 + f.val, by omega⟩))
          (fun f => a3 (ix3 1 f (i 1))) (a0 (ix2 (row (i 0)) (i 1))) := by
  rw [fin_at]
  simp only [act_at, hid_at]
  unfold Ffn.out Ffn.unitR
  refine congrArg₂ (· + ·) (strm_at _ _) (congrArg (Ffn.half * ·) (Finset.sum_congr rfl fun f _ => ?_))
  have e : ∀ k : Fin 2048, nrm (strm a0) a1 (ix3 ⟨(i 0).val / 4096, by have : (i 0).val < 32768 := (i 0).isLt; show _ < 8; omega⟩ ⟨16 + (i 0).val % 4096, by show _ < 4112; omega⟩ k)
      = Ffn.nrm (fun k => a0 (ix2 (row (i 0)) k)) (fun k => a1 (ix2 1 k)) k := by
    intro k
    rw [nrm_at]
    exact congrArg (fun x => Ffn.nrm x (fun k => a1 (ix2 1 k)) k) (funext fun k => strm_at a0 _)
  have e' := funext e
  simp only [← e]
  rfl

end Cert.ReferenceIdeal.FfnRef

end
-- ==== Proof.Ffn2Kernel.lean ====
/- Hand-written, untrusted: what the feed-forward call over all rows leaves in its result array. -/
module

public import proofs.«01_k».proof.Proof.Gen.Kernel2Ideal.Frame
public import proofs.«01_k».proof.Proof.FfnMath

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.FfnValue

open Cert.Kernel2Ideal Cert.Kernel2Ideal.Gen

variable (m : (ℓ : Loc nD τ sig) → Buf (Elt Ideal) ℓ)

theorem idx_val : ∀ t : Fin cfg0.N, win0_0.index t = ![t.val / 11, 0]
    ∧ win0_1.index t = ![0, 0]
    ∧ win0_2.index t = ![0, 0, t.val % 11]
    ∧ win0_3.index t = ![0, t.val % 11, 0]
    ∧ win0_4.index t = ![t.val / 11, 0] :=
  (by decide +kernel : ∀ t : Fin grid0.N, _)

theorem iblk0_at (c : Dev nD) (t : Fin cfg0.N) (y : S1024x2048.Idx) :
    (iblk m c 0 t : S1024x2048.Idx → EReal) y = m ((c : Thread nD τ).loc main_arg0) (ix2 ⟨t.val / 11 * 1024 + (y 0).val, by have := lt_of_lt_of_eq t.isLt N_0; have : (y 0).val < 1024 := (y 0).isLt; show _ < 33792; omega⟩ (y 1) : S33792x2048.Idx) := by
  blk_simp [iblk, idx_val t]
  entry_read
  blk_ext [idx_val t]

theorem iblk0_prev (c : Dev nD) (t : Fin cfg0.N) (h : ¬t.val % 11 = 0) (ht : t.val - 1 < cfg0.N) :
    iblk m c 0 ⟨t.val - 1, ht⟩ = iblk m c 0 t := by
  refine funext fun (y : S1024x2048.Idx) => ?_
  have hN := lt_of_lt_of_eq t.isLt N_0
  refine (iblk0_at m c ⟨t.val - 1, ht⟩ y).trans (Eq.trans ?_ (iblk0_at m c t y).symm)
  congr 2
  apply Fin.ext
  show (t.val - 1) / 11 * 1024 + (y 0).val = t.val / 11 * 1024 + (y 0).val
  omega

theorem iblk1_prev (c : Dev nD) (t : Fin cfg0.N) (h : ¬t.val % 11 = 0) (ht : t.val - 1 < cfg0.N) :
    iblk m c 1 ⟨t.val - 1, ht⟩ = iblk m c 1 t := by
  funext y
  blk_point [iblk, idx_val t, idx_val ⟨t.val - 1, ht⟩]

theorem scratch_eq (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    rw [outsAt0_A m c ⟨0, hn⟩ rfl]; dsimp only
    frame_out
  | succ n ih =>
    intro hn
    by_cases h : (n + 1) % 11 = 0
    · rw [outsAt0_A m c ⟨n + 1, hn⟩ h]; dsimp only
      frame_out
    · rw [outsAt0_B m c ⟨n + 1, hn⟩ h]
      exact (ih (Nat.lt_of_succ_lt hn)).trans (congrArg₂ (k0_pay1 (F := Ideal))
        (iblk0_prev m c ⟨n + 1, hn⟩ h (Nat.lt_of_succ_lt hn)) (iblk1_prev m c ⟨n + 1, hn⟩ h (Nat.lt_of_succ_lt hn)))

theorem iblk1_at (c : Dev nD) (t : Fin cfg0.N) (k : Fin 2048) :
    (iblk m c 1 t : S1x2048.Idx → EReal) (ix2 0 k) = m ((c : Thread nD τ).loc main_arg1) (ix2 0 k : S2x2048.Idx) := by
  blk_simp [iblk, idx_val t]
  entry_read
  pointwise
  blk_ext [idx_val t]

theorem iblk2_gate (c : Dev nD) (t : Fin cfg0.N) (k : Fin 2048) (y : Fin 512) :
    (iblk m c 2 t : S1x2048x1024.Idx → EReal) (ix3 0 k ⟨y.val, by omega⟩) = m ((c : Thread nD τ).loc main_arg2) (ix3 0 k ⟨t.val % 11 * 512 + y.val, by show _ < 11264; omega⟩ : S2x2048x11264.Idx) := by
  blk_simp [iblk, idx_val t]
  entry_read
  pointwise
  blk_ext [idx_val t]

theorem iblk2_up (c : Dev nD) (t : Fin cfg0.N) (k : Fin 2048) (y : Fin 512) :
    (iblk m c 2 t : S1x2048x1024.Idx → EReal) (ix3 0 k ⟨512 + y.val, by omega⟩) = m ((c : Thread nD τ).loc main_arg2) (ix3 0 k ⟨5632 + (t.val % 11 * 512 + y.val), by show _ < 11264; omega⟩ : S2x2048x11264.Idx) := by
  blk_simp [iblk, idx_val t]
  entry_read
  pointwise
  blk_ext [idx_val t]

theorem iblk3_at (c : Dev nD) (t : Fin cfg0.N) (y : Fin 512) (k : Fin 2048) :
    (iblk m c 3 t : S1x512x2048.Idx → EReal) (ix3 0 y k) = m ((c : Thread nD τ).loc main_arg3) (ix3 0 ⟨t.val % 11 * 512 + y.val, by show _ < 5632; omega⟩ k : S2x5632x2048.Idx) := by
  blk_simp [iblk, idx_val t]
  entry_read
  pointwise
  blk_ext [idx_val t]

theorem pay1_at (x : FVec Ideal S1024x2048 .f32) (g : FVec Ideal S1x2048 .f32) (r : Fin 1024) (k : Fin 2048) :
    k0_pay1 (F := Ideal) x g (ix2 r k) = Ffn.nrm (fun k => x (ix2 r k)) (fun k => g (ix2 0 k)) k := by
  pointwise [k0_pay1]
  rfl

theorem pay2_at (v3 : FVec Ideal S1024x2048 .bf16) (v4 : FVec Ideal S1x2048x1024 .bf16) (v15 : FVec Ideal S1024x2048 .f32)
    (v17 : FVec Ideal S1x512x2048 .bf16) (j : S1024x2048.Idx) :
    k0_pay2 (F := Ideal) v3 v4 v15 v17 j = v15 j + ∑ y : Fin 512, Ffn.unitK (fun k => v3 (ix2 (j 0) k))
      (fun k => v4 (ix3 0 k ⟨y.val, by omega⟩)) (fun k => v4 (ix3 0 k ⟨512 + y.val, by omega⟩)) (v17 (ix3 0 y (j 1))) := by
  pointwise [k0_pay2]
  rfl

/-- The result as a function of the four arguments. -/
def OUT (a0 : FVec Ideal S33792x2048 .f32) (a1 : FVec Ideal S2x2048 .f32) (a2 : FVec Ideal S2x2048x11264 .f32)
    (a3 : FVec Ideal S2x5632x2048 .f32) : FVec Ideal S33792x2048 .f32 := fun i =>
  Ffn.out (fun k => a0 (ix2 (i 0) k)) (fun k => a1 (ix2 0 k))
    (fun f k => a2 (ix3 0 k ⟨f.val, by omega⟩)) (fun f k => a2 (ix3 0 k ⟨5632 + f.val, by omega⟩))
    (fun f => a3 (ix3 0 f (i 1))) (a0 (ix2 (i 0) (i 1)))

/-- The windows' blocks at a point, at their own types. -/
def xb (c : Dev nD) (t : Fin cfg0.N) : FVec Ideal S1024x2048 .f32 := iblk m c 0 t
def gb (c : Dev nD) (t : Fin cfg0.N) : FVec Ideal S1x2048 .f32 := iblk m c 1 t
def wb (c : Dev nD) (t : Fin cfg0.N) : FVec Ideal S1x2048x1024 .bf16 := iblk m c 2 t
def db (c : Dev nD) (t : Fin cfg0.N) : FVec Ideal S1x512x2048 .bf16 := iblk m c 3 t
/-- What the result's staging block holds after a point. -/
def ob (c : Dev nD) (n : ℕ) (h : n < cfg0.N) : FVec Ideal S1024x2048 .f32 := (outsAt0 m c n h).1

/-- One point's part of an entry of the block. -/
def part (c : Dev nD) (t : Fin cfg0.N) (j : S1024x2048.Idx) : EReal :=
  ∑ y : Fin 512, Ffn.unitK
    (Ffn.nrm (fun k => xb m c t (ix2 (j 0) k)) (fun k => gb m c t (ix2 0 k)))
    (fun k => wb m c t (ix3 0 k ⟨y.val, by omega⟩))
    (fun k => wb m c t (ix3 0 k ⟨512 + y.val, by omega⟩))
    (db m c t (ix3 0 y (j 1)))

theorem step (x : FVec Ideal S1024x2048 .f32) (g : FVec Ideal S1x2048 .f32) (v4 : FVec Ideal S1x2048x1024 .bf16) (v15 : FVec Ideal S1024x2048 .f32)
    (v17 : FVec Ideal S1x512x2048 .bf16) (j : S1024x2048.Idx) :
    k0_pay2 (F := Ideal) (k0_pay1 (F := Ideal) x g) v4 v15 v17 j = v15 j + ∑ y : Fin 512, Ffn.unitK
      (Ffn.nrm (fun k => x (ix2 (j 0) k)) (fun k => g (ix2 0 k)))
      (fun k => v4 (ix3 0 k ⟨y.val, by omega⟩)) (fun k => v4 (ix3 0 k ⟨512 + y.val, by omega⟩)) (v17 (ix3 0 y (j 1))) := by
  rw [pay2_at]
  exact congrArg (fun n => v15 j + ∑ y : Fin 512, Ffn.unitK n
      (fun k => v4 (ix3 0 k ⟨y.val, by omega⟩)) (fun k => v4 (ix3 0 k ⟨512 + y.val, by omega⟩)) (v17 (ix3 0 y (j 1))))
    (funext fun k => pay1_at x g (j 0) k)

/-- At the first point of a run the block is the stream's rows and the point's part. -/
theorem out_A (c : Dev nD) (t : Fin cfg0.N) (h : t.val % 11 = 0) (j : S1024x2048.Idx) :
    ob m c t.val t.isLt j = xb m c t j + part m c t j := by
  unfold ob
  rw [outsAt0_A m c t h]
  frame_out
  exact step (xb m c t) (gb m c t) (wb m c t) (xb m c t) (db m c t) j

/-- At the others the point's part is added to what is there. -/
theorem out_B (c : Dev nD) (t : Fin cfg0.N) (h : ¬t.val % 11 = 0) (j : S1024x2048.Idx) :
    ob m c t.val t.isLt j = ob m c (t.val - 1) (Nat.lt_of_le_of_lt (Nat.sub_le _ _) t.isLt) j + part m c t j := by
  have e : (outsAt0 m c (t.val - 1) (Nat.lt_of_le_of_lt (Nat.sub_le _ _) t.isLt)).2 = k0_pay1 (F := Ideal) (xb m c t) (gb m c t) :=
    (scratch_eq m c (t.val - 1) _).trans (congrArg₂ (k0_pay1 (F := Ideal)) (iblk0_prev m c t h _) (iblk1_prev m c t h _))
  refine Eq.trans ?_ ((congrArg (fun v => k0_pay2 (F := Ideal) v (wb m c t) (ob m c (t.val - 1) (Nat.lt_of_le_of_lt (Nat.sub_le _ _) t.isLt)) (db m c t) j) e).trans
    (step (xb m c t) (gb m c t) (wb m c t) (ob m c (t.val - 1) (Nat.lt_of_le_of_lt (Nat.sub_le _ _) t.isLt)) (db m c t) j))
  unfold ob wb db
  rw [outsAt0_B m c t h]
  frame_out
  exact congrArg (fun v => k0_pay2 (F := Ideal) v (iblk m c 2 t) (outsAt0 m c (t.val - 1) (Nat.lt_of_le_of_lt (Nat.sub_le _ _) t.isLt)).1 (iblk m c 3 t) j)
    (Memref.IsWhole.read_unread (Memref.isWhole_whole cc0_scratch0) _)

theorem acc (c : Dev nD) (t : Fin cfg0.N) (h : t.val % 11 = 10) (j : S1024x2048.Idx) :
    ob m c t.val t.isLt j = xb m c ⟨11 * (t.val / 11), by have := t.isLt; omega⟩ j
      + ∑ s : Fin 11, part m c ⟨11 * (t.val / 11) + s.val, Pipeline.run_point_lt_of_flush t h s⟩ j := by
  rw [Pipeline.eq_sum_fin_of_reset_step_apply_of_flush (fun n h => ob m c n h) 11 (fun _ => 0)
    (fun t j => (if t.val % 11 = 0 then xb m c t j else 0) + part m c t j)
    (fun t h j => by rw [out_A m c t h, if_pos h, zero_add]) (fun t h j => by rw [out_B m c t h, if_neg h, zero_add])
    t h j, zero_add, Finset.sum_add_distrib]
  congr 1
  rw [Fin.sum_univ_succ]
  rw [if_pos (show (11 * (t.val / 11) + (0 : Fin 11).val) % 11 = 0 by simp)]
  rw [Finset.sum_eq_zero (fun s _ => if_neg (show ¬(11 * (t.val / 11) + (Fin.succ s).val) % 11 = 0 by rw [Fin.val_succ]; omega)), add_zero]
  rfl

theorem part_eq (c : Dev nD) (t : Fin cfg0.N) (h : t.val % 11 = 10) (s : Fin 11) (j : S1024x2048.Idx) (i : S33792x2048.Idx)
    (hi0 : (i 0).val = t.val / 11 * 1024 + (j 0).val) (hi1 : i 1 = j 1) :
    part m c ⟨11 * (t.val / 11) + s.val, Pipeline.run_point_lt_of_flush t h s⟩ j = ∑ y : Fin 512, Ffn.unitK
      (Ffn.nrm (fun k => m ((c : Thread nD τ).loc main_arg0) (ix2 (i 0) k : S33792x2048.Idx)) (fun k => m ((c : Thread nD τ).loc main_arg1) (ix2 0 k : S2x2048.Idx)))
      (fun k => m ((c : Thread nD τ).loc main_arg2) (ix3 0 k ⟨s.val * 512 + y.val, by show _ < 11264; omega⟩ : S2x2048x11264.Idx))
      (fun k => m ((c : Thread nD τ).loc main_arg2) (ix3 0 k ⟨5632 + (s.val * 512 + y.val), by show _ < 11264; omega⟩ : S2x2048x11264.Idx))
      (m ((c : Thread nD τ).loc main_arg3) (ix3 0 ⟨s.val * 512 + y.val, by show _ < 5632; omega⟩ (i 1) : S2x5632x2048.Idx)) := by
  have hN := lt_of_lt_of_eq t.isLt N_0
  have hj : (j 0).val < 1024 := (j 0).isLt
  have e1 : (11 * (t.val / 11) + s.val) % 11 = s.val := by omega
  unfold part
  refine Finset.sum_congr rfl fun y _ => ?_
  have a0 : (fun k : Fin 2048 => xb m c ⟨11 * (t.val / 11) + s.val, Pipeline.run_point_lt_of_flush t h s⟩ (ix2 (j 0) k)) = fun k => m ((c : Thread nD τ).loc main_arg0) (ix2 (i 0) k : S33792x2048.Idx) := by
    funext k
    refine (iblk0_at m c _ _).trans (congrArg (fun r => m ((c : Thread nD τ).loc main_arg0) (ix2 r k : S33792x2048.Idx)) (Fin.ext ?_))
    show (11 * (t.val / 11) + s.val) / 11 * 1024 + (j 0).val = (i 0).val
    omega
  have a1 : (fun k : Fin 2048 => gb m c ⟨11 * (t.val / 11) + s.val, Pipeline.run_point_lt_of_flush t h s⟩ (ix2 0 k)) = fun k => m ((c : Thread nD τ).loc main_arg1) (ix2 0 k : S2x2048.Idx) :=
    funext fun k => iblk1_at m c _ k
  have a2 : (fun k : Fin 2048 => wb m c ⟨11 * (t.val / 11) + s.val, Pipeline.run_point_lt_of_flush t h s⟩ (ix3 0 k ⟨y.val, by omega⟩)) = fun k => m ((c : Thread nD τ).loc main_arg2) (ix3 0 k ⟨s.val * 512 + y.val, by show _ < 11264; omega⟩ : S2x2048x11264.Idx) := by
    funext k
    refine (iblk2_gate m c _ k y).trans (congrArg (fun r => m ((c : Thread nD τ).loc main_arg2) (ix3 0 k r : S2x2048x11264.Idx)) (Fin.ext ?_))
    show (11 * (t.val / 11) + s.val) % 11 * 512 + y.val = s.val * 512 + y.val
    rw [e1]
  have a3 : (fun k : Fin 2048 => wb m c ⟨11 * (t.val / 11) + s.val, Pipeline.run_point_lt_of_flush t h s⟩ (ix3 0 k ⟨512 + y.val, by omega⟩)) = fun k => m ((c : Thread nD τ).loc main_arg2) (ix3 0 k ⟨5632 + (s.val * 512 + y.val), by show _ < 11264; omega⟩ : S2x2048x11264.Idx) := by
    funext k
    refine (iblk2_up m c _ k y).trans (congrArg (fun r => m ((c : Thread nD τ).loc main_arg2) (ix3 0 k r : S2x2048x11264.Idx)) (Fin.ext ?_))
    show 5632 + ((11 * (t.val / 11) + s.val) % 11 * 512 + y.val) = 5632 + (s.val * 512 + y.val)
    rw [e1]
  have a4 : db m c ⟨11 * (t.val / 11) + s.val, Pipeline.run_point_lt_of_flush t h s⟩ (ix3 0 y (j 1)) = m ((c : Thread nD τ).loc main_arg3) (ix3 0 ⟨s.val * 512 + y.val, by show _ < 5632; omega⟩ (i 1) : S2x5632x2048.Idx) := by
    rw [hi1]
    refine (iblk3_at m c _ y _).trans (congrArg (fun r => m ((c : Thread nD τ).loc main_arg3) (ix3 0 r (j 1) : S2x5632x2048.Idx)) (Fin.ext ?_))
    show (11 * (t.val / 11) + s.val) % 11 * 512 + y.val = s.val * 512 + y.val
    rw [e1]
  rw [a0, a1, a2, a3, a4]

/-- The result array after the run, as a function of the arguments. -/
theorem final (c : Dev nD) : (dats m 0 c).arrAt 4 (cfgs 0).N = OUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have h := (flush0_4 t).mp hf
  have hN := lt_of_lt_of_eq t.isLt N_0
  have hy : (y 0).val < 1024 := (y 0).isLt
  have e4 := (idx_val t).2.2.2.2
  have hi0 : ((win0_4.blk t).view.emb y 0).val = t.val / 11 * 1024 + (y 0).val := by
    show win0_4.index t (0 : Fin 2) * 1024 + 1 * (y 0).val = _
    rw [e4, Nat.one_mul]; rfl
  have hi1 : (win0_4.blk t).view.emb y 1 = y 1 := by
    apply Fin.ext
    show win0_4.index t (1 : Fin 2) * 2048 + 1 * (y 1).val = _
    rw [e4, Nat.one_mul]; exact Nat.zero_add _
  refine (acc m c t h y).trans ?_
  unfold OUT
  rw [Ffn.out_blocks]
  refine congrArg₂ (· + ·) ?_ (Finset.sum_congr rfl fun s _ => part_eq m c t h s y _ hi0 hi1)
  rw [hi1]
  refine (iblk0_at m c _ y).trans (congrArg (fun r => m ((c : Thread nD τ).loc main_arg0) (ix2 r (y 1) : S33792x2048.Idx)) (Fin.ext ?_))
  show 11 * (t.val / 11) / 11 * 1024 + (y 0).val = ((win0_4.blk t).view.emb y 0).val
  rw [hi0]
  omega

end Cert.Kernel2Ideal.FfnValue

end
-- ==== Proof.Ffn2Ref.lean ====
/- Hand-written, untrusted: the second reference's feed-forward result as a function of its arguments, entry by entry. -/
module

public import proofs.«01_k».proof.Proof.Gen.Reference2Ideal.Run
public import proofs.«01_k».proof.Proof.FfnMath

@[expose] public section

set_option maxRecDepth 16384

noncomputable section

open Idealize.ShloMosaic Idealize.ShloMosaic.TcCoe Idealize.SL.Sem
open scoped BigOperators

namespace Cert.Reference2Ideal.FfnRef
open Cert.Reference2Ideal Cert.Reference2Ideal.Gen

/-- The rows normalised and scaled. -/
def nrm (x : FVec Ideal S33792x2048 .f32) (a1 : FVec Ideal S2x2048 .f32) : FVec Ideal S33792x2048 .f32 :=
  mulf (mulf x (broadcastInDim S33792x2048 ![0, 1] bcast_S33792x1_S33792x2048_0_1 (Host.rsqrt (addf (Host.divf (broadcastInDim S33792x1 ![0] bcast_S33792_S33792x1_0 (Host.reduceAdd (mulf x x) (constant S_ .f32 0x00000000#32) reducesTo_S33792x2048_S33792_d1 h_S_)) (broadcastInDim S33792x1 ![] bcast_S_S33792x1 (constant S_ .f32 0x45000000#32))) (broadcastInDim S33792x1 ![] bcast_S_S33792x1 (constant S_ .f32 0x358637BD#32)))))) (broadcastInDim S33792x2048 ![0, 1] bcast_S1x2048_S33792x2048_0_1 (broadcastInDim S1x2048 ![1] bcast_S2048_S1x2048_1 (shapeCast S2048 (extractStridedSlice S1x2048 ![0, 0] a1 slices_S2x2048_S1x2048_0_0) shapeCasts_S1x2048_S2048)))

/-- The two hidden projections side by side. -/
def hid (n : FVec Ideal S33792x2048 .f32) (a2 : FVec Ideal S2x2048x11264 .f32) : FVec Ideal S33792x11264 .f32 :=
  Host.dotGeneral dot_S33792x2048_S2048x11264_S33792x11264_1_0_0_1_n_n none n (shapeCast S2048x11264 (extractStridedSlice S1x2048x11264 ![0, 0, 0] a2 slices_S2x2048x11264_S1x2048x11264_0_0_0) shapeCasts_S1x2048x11264_S2048x11264)

/-- The gated product. -/
def act (h : FVec Ideal S33792x11264 .f32) : FVec Ideal S33792x5632 .f32 :=
  mulf (mulf (extractStridedSlice S33792x5632 ![0, 0] h slices_S33792x11264_S33792x5632_0_0) (Host.divf (broadcastInDim S33792x5632 ![] bcast_S_S33792x5632 (constant S_ .f32 0x3F800000#32)) (addf (broadcastInDim S33792x5632 ![] bcast_S_S33792x5632 (constant S_ .f32 0x3F800000#32)) (Host.exp (Host.negf (extractStridedSlice S33792x5632 ![0, 0] h slices_S33792x11264_S33792x5632_0_0)))))) (extractStridedSlice S33792x5632 ![0, 5632] h slices_S33792x11264_S33792x5632_0_5632)

/-- The stream with half of the block's result added. -/
def fin (x : FVec Ideal S33792x2048 .f32) (y : FVec Ideal S33792x5632 .f32) (a3 : FVec Ideal S2x5632x2048 .f32) : FVec Ideal S33792x2048 .f32 :=
  addf x (mulf (broadcastInDim S33792x2048 ![] bcast_S_S33792x2048 (constant S_ .f32 0x3F000000#32)) (Host.dotGeneral dot_S33792x5632_S5632x2048_S33792x2048_1_0_0_1_n_n none y (shapeCast S5632x2048 (extractStridedSlice S1x5632x2048 ![0, 0, 0] a3 slices_S2x5632x2048_S1x5632x2048_0_0_0) shapeCasts_S1x5632x2048_S5632x2048)))

theorem res_eq (m : (ℓ : Loc Cert.Reference2Ideal.nD Cert.Reference2Ideal.τ Cert.Reference2Ideal.sig) → Buf (Elt Ideal) ℓ) (c) :
   Cert.Reference2Ideal.Value.res_main_v27 (F := Ideal) m c = fin (m ((c.tc : Thread nD τ).loc main_arg0)) (act (hid (nrm (m ((c.tc : Thread nD τ).loc main_arg0)) (m ((c.tc : Thread nD τ).loc main_arg1))) (m ((c.tc : Thread nD τ).loc main_arg2)))) (m ((c.tc : Thread nD τ).loc main_arg3)) := by
  rfl

theorem nrm_at (x : FVec Ideal S33792x2048 .f32) (a1 : FVec Ideal S2x2048 .f32) (r : Fin 33792) (k : Fin 2048) :
    nrm x a1 (ix2 r k) = Ffn.nrm (fun k => x (ix2 r k)) (fun k => a1 (ix2 0 k)) k := by
  pointwise [nrm]
  rfl

theorem hid_at (x : FVec Ideal S33792x2048 .f32) (a2 : FVec Ideal S2x2048x11264 .f32) (i : S33792x11264.Idx) :
    hid x a2 i = ∑ k : Fin 2048, x (ix2 (i 0) k) * a2 (ix3 0 k (i 1)) := by
  pointwise [hid]

theorem act_at (x : FVec Ideal S33792x11264 .f32) (i : S33792x5632.Idx) :
    act x i = x (ix2 (i 0) ⟨(i 1).val, by have : (i 1).val < 5632 := (i 1).isLt; show _ < 11264; omega⟩)
        * Ideal.div 1 (1 + Ideal.exp (-x (ix2 (i 0) ⟨(i 1).val, by have : (i 1).val < 5632 := (i 1).isLt; show _ < 11264; omega⟩)))
      * x (ix2 (i 0) ⟨5632 + (i 1).val, by have : (i 1).val < 5632 := (i 1).isLt; show _ < 11264; omega⟩) := by
  pointwise [act]

theorem fin_at (x : FVec Ideal S33792x2048 .f32) (y : FVec Ideal S33792x5632 .f32) (a3 : FVec Ideal S2x5632x2048 .f32) (i : S33792x2048.Idx) :
    fin x y a3 i = x (ix2 (i 0) (i 1)) + Ffn.half * ∑ f : Fin 5632, y (ix2 (i 0) f) * a3 (ix3 0 f (i 1)) := by
  pointwise [fin]

/-- The reference's result at an index. -/
theorem res_at (a0 : FVec Ideal S33792x2048 .f32) (a1 : FVec Ideal S2x2048 .f32) (a2 : FVec Ideal S2x2048x11264 .f32)
    (a3 : FVec Ideal S2x5632x2048 .f32) (i : S33792x2048.Idx) :
    fin a0 (act (hid (nrm a0 a1) a2)) a3 i
      = Ffn.out (fun k => a0 (ix2 (i 0) k)) (fun k => a1 (ix2 0 k))
          (fun f k => a2 (ix3 0 k ⟨f.val, by omega⟩)) (fun f k => a2 (ix3 0 k ⟨5632 + f.val, by omega⟩))
          (fun f => a3 (ix3 0 f (i 1))) (a0 (ix2 (i 0) (i 1))) := by
  rw [fin_at]
  simp only [act_at, hid_at]
  unfold Ffn.out Ffn.unitR
  have e : ∀ k : Fin 2048, nrm a0 a1 (ix2 (i 0) k) = Ffn.nrm (fun k => a0 (ix2 (i 0) k)) (fun k => a1 (ix2 0 k)) k :=
    fun k => nrm_at a0 a1 (i 0) k
  simp only [← e]
  rfl

end Cert.Reference2Ideal.FfnRef

end
-- ==== Proof.MergeMath.lean ====
/- Hand-written, untrusted: the mathematics of the merge on one row, over the extended reals. -/
module

public import proofs.«01_k».proof.Proof.FfnMath

@[expose] public section

set_option maxRecDepth 16384

noncomputable section

open Idealize.ShloMosaic
open scoped BigOperators

namespace Cert.Merge

/-- One merged column: the four branches' projections, each behind its gate. -/
def col (n : Fin 2048 → EReal) (g : Fin 4 → Fin 2048 → EReal) (b w : Fin 4 → Fin 512 → EReal) : EReal :=
  Ideal.logistic (∑ k, n k * g 0 k) * (∑ v, b 0 v * w 0 v) + Ideal.logistic (∑ k, n k * g 1 k) * (∑ v, b 1 v * w 1 v)
    + Ideal.logistic (∑ k, n k * g 2 k) * (∑ v, b 2 v * w 2 v) + Ideal.logistic (∑ k, n k * g 3 k) * (∑ v, b 3 v * w 3 v)

/-- A result entry: the stream's entry plus the merged columns' projection. -/
def out (x g : Fin 2048 → EReal) (gw : Fin 2048 → Fin 4 → Fin 2048 → EReal) (b : Fin 4 → Fin 512 → EReal)
    (w : Fin 2048 → Fin 4 → Fin 512 → EReal) (d : Fin 2048 → EReal) (e : EReal) : EReal :=
  e + ∑ f, col (Ffn.nrm x g) (gw f) b (w f) * d f

/-- The kernel's order of summation: four blocks of 512 merged columns. -/
theorem out_blocks (x g : Fin 2048 → EReal) (gw : Fin 2048 → Fin 4 → Fin 2048 → EReal) (b : Fin 4 → Fin 512 → EReal)
    (w : Fin 2048 → Fin 4 → Fin 512 → EReal) (d : Fin 2048 → EReal) (e : EReal) :
    out x g gw b w d e = e + ∑ s : Fin 4, ∑ y : Fin 512,
      col (Ffn.nrm x g) (gw ⟨s.val * 512 + y.val, by omega⟩) b (w ⟨s.val * 512 + y.val, by omega⟩) * d ⟨s.val * 512 + y.val, by omega⟩ := by
  unfold out
  congr 1
  symm
  exact Fin.sum_mul_add_congr fun s k hl => rfl

end Cert.Merge

end
-- ==== Proof.MergeKernel.lean ====
/- Hand-written, untrusted: what the merging call leaves in its result array. -/
module

public import proofs.«01_k».proof.Proof.Gen.Kernel3Ideal.Frame
public import proofs.«01_k».proof.Proof.MergeMath

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.MergeValue

open Cert.Kernel3Ideal Cert.Kernel3Ideal.Gen

variable (m : (ℓ : Loc nD τ sig) → Buf (Elt Ideal) ℓ)

theorem idx_val : ∀ t : Fin cfg0.N, win0_0.index t = ![t.val / 4, 0]
    ∧ win0_1.index t = ![0, 0]
    ∧ win0_2.index t = ![t.val / 4, 0]
    ∧ win0_3.index t = ![t.val / 4, 0]
    ∧ win0_4.index t = ![t.val / 4, 0]
    ∧ win0_5.index t = ![t.val / 4, 0]
    ∧ win0_6.index t = ![0, t.val % 4]
    ∧ win0_7.index t = ![0, 4 + t.val % 4]
    ∧ win0_8.index t = ![0, 8 + t.val % 4]
    ∧ win0_9.index t = ![0, 12 + t.val % 4]
    ∧ win0_10.index t = ![0, 0, 0, t.val % 4]
    ∧ win0_11.index t = ![0, t.val % 4, 0]
    ∧ win0_12.index t = ![t.val / 4, 0] :=
  (by decide +kernel : ∀ t : Fin grid0.N, _)

theorem iblk0_at (c : Dev nD) (t : Fin cfg0.N) (r : Fin 512) (k : Fin 2048) :
    (iblk m c 0 t : S512x2048.Idx → EReal) (ix2 r k) = m ((c : Thread nD τ).loc main_arg0) (ix2 ⟨t.val / 4 * 512 + r.val, by have := lt_of_lt_of_eq t.isLt N_0; show _ < 33792; omega⟩ k : S33792x2048.Idx) := by
  blk_simp [iblk, idx_val t]
  entry_read
  blk_ext [idx_val t]

theorem iblk1_at (c : Dev nD) (t : Fin cfg0.N) (k : Fin 2048) :
    (iblk m c 1 t : S1x2048.Idx → EReal) (ix2 0 k) = m ((c : Thread nD τ).loc main_arg1) (ix2 0 k : S2x2048.Idx) := by
  blk_simp [iblk, idx_val t]
  entry_read
  pointwise
  blk_ext [idx_val t]

theorem iblk2_at (c : Dev nD) (t : Fin cfg0.N) (r : Fin 512) (k : Fin 512) :
    (iblk m c 2 t : S512x512.Idx → EReal) (ix2 r k) = m ((c : Thread nD τ).loc main_arg3) (ix2 ⟨t.val / 4 * 512 + r.val, by have := lt_of_lt_of_eq t.isLt N_0; show _ < 33792; omega⟩ k : S33792x512.Idx) := by
  blk_simp [iblk, idx_val t]
  entry_read
  pointwise
  blk_ext [idx_val t]

theorem iblk6_at (c : Dev nD) (t : Fin cfg0.N) (k : Fin 2048) (y : Fin 512) :
    (iblk m c 6 t : S2048x512.Idx → EReal) (ix2 k y) = m ((c : Thread nD τ).loc main_arg2) (ix3 0 k ⟨6992 + (0 * 2048 + (t.val % 4 * 512 + y.val)), by show _ < 15184; omega⟩ : S2x2048x15184.Idx) := by
  blk_simp [iblk, idx_val t]
  entry_read
  pointwise
  blk_ext [idx_val t]

theorem iblk3_at (c : Dev nD) (t : Fin cfg0.N) (r : Fin 512) (k : Fin 512) :
    (iblk m c 3 t : S512x512.Idx → EReal) (ix2 r k) = m ((c : Thread nD τ).loc main_arg4) (ix2 ⟨t.val / 4 * 512 + r.val, by have := lt_of_lt_of_eq t.isLt N_0; show _ < 33792; omega⟩ k : S33792x512.Idx) := by
  blk_simp [iblk, idx_val t]
  entry_read
  pointwise
  blk_ext [idx_val t]

theorem iblk7_at (c : Dev nD) (t : Fin cfg0.N) (k : Fin 2048) (y : Fin 512) :
    (iblk m c 7 t : S2048x512.Idx → EReal) (ix2 k y) = m ((c : Thread nD τ).loc main_arg2) (ix3 0 k ⟨6992 + (1 * 2048 + (t.val % 4 * 512 + y.val)), by show _ < 15184; omega⟩ : S2x2048x15184.Idx) := by
  blk_simp [iblk, idx_val t]
  entry_read
  pointwise
  blk_ext [idx_val t]

theorem iblk4_at (c : Dev nD) (t : Fin cfg0.N) (r : Fin 512) (k : Fin 512) :
    (iblk m c 4 t : S512x512.Idx → EReal) (ix2 r k) = m ((c : Thread nD τ).loc main_arg5) (ix2 ⟨t.val / 4 * 512 + r.val, by have := lt_of_lt_of_eq t.isLt N_0; show _ < 33792; omega⟩ k : S33792x512.Idx) := by
  blk_simp [iblk, idx_val t]
  entry_read
  pointwise
  blk_ext [idx_val t]

theorem iblk8_at (c : Dev nD) (t : Fin cfg0.N) (k : Fin 2048) (y : Fin 512) :
    (iblk m c 8 t : S2048x512.Idx → EReal) (ix2 k y) = m ((c : Thread nD τ).loc main_arg2) (ix3 0 k ⟨6992 + (2 * 2048 + (t.val % 4 * 512 + y.val)), by show _ < 15184; omega⟩ : S2x2048x15184.Idx) := by
  blk_simp [iblk, idx_val t]
  entry_read
  pointwise
  blk_ext [idx_val t]

theorem iblk5_at (c : Dev nD) (t : Fin cfg0.N) (r : Fin 512) (k : Fin 512) :
    (iblk m c 5 t : S512x512.Idx → EReal) (ix2 r k) = m ((c : Thread nD τ).loc main_arg6) (ix2 ⟨t.val / 4 * 512 + r.val, by have := lt_of_lt_of_eq t.isLt N_0; show _ < 33792; omega⟩ k : S33792x512.Idx) := by
  blk_simp [iblk, idx_val t]
  entry_read
  pointwise
  blk_ext [idx_val t]

theorem iblk9_at (c : Dev nD) (t : Fin cfg0.N) (k : Fin 2048) (y : Fin 512) :
    (iblk m c 9 t : S2048x512.Idx → EReal) (ix2 k y) = m ((c : Thread nD τ).loc main_arg2) (ix3 0 k ⟨6992 + (3 * 2048 + (t.val % 4 * 512 + y.val)), by show _ < 15184; omega⟩ : S2x2048x15184.Idx) := by
  blk_simp [iblk, idx_val t]
  entry_read
  pointwise
  blk_ext [idx_val t]

theorem iblk10_at (c : Dev nD) (t : Fin cfg0.N) (q : Fin 4) (v y : Fin 512) :
    (iblk m c 10 t : S1x4x512x512.Idx → EReal) (ix4 0 q v y) = m ((c : Thread nD τ).loc main_arg7) (ix4 0 q v ⟨t.val % 4 * 512 + y.val, by show _ < 2048; omega⟩ : S2x4x512x2048.Idx) := by
  blk_simp [iblk, idx_val t]
  entry_read
  pointwise
  blk_ext [idx_val t]

theorem iblk11_at (c : Dev nD) (t : Fin cfg0.N) (y : Fin 512) (k : Fin 2048) :
    (iblk m c 11 t : S1x512x2048.Idx → EReal) (ix3 0 y k) = m ((c : Thread nD τ).loc main_arg8) (ix3 0 ⟨t.val % 4 * 512 + y.val, by show _ < 2048; omega⟩ k : S2x2048x2048.Idx) := by
  blk_simp [iblk, idx_val t]
  entry_read
  pointwise
  blk_ext [idx_val t]

theorem iblk0_prev (c : Dev nD) (t : Fin cfg0.N) (h : ¬t.val % 4 = 0) (ht : t.val - 1 < cfg0.N) :
    iblk m c 0 ⟨t.val - 1, ht⟩ = iblk m c 0 t := by
  refine funext fun (y : S512x2048.Idx) => ?_
  have hN := lt_of_lt_of_eq t.isLt N_0
  have hy : (ix2 (y 0) (y 1) : S512x2048.Idx) = y := by funext a; match a with | ⟨0, _⟩ => rfl | ⟨1, _⟩ => rfl
  rw [← hy]
  refine (iblk0_at m c ⟨t.val - 1, ht⟩ (y 0) (y 1)).trans (Eq.trans ?_ (iblk0_at m c t (y 0) (y 1)).symm)
  congr 2
  apply Fin.ext
  show (t.val - 1) / 4 * 512 + (y 0).val = t.val / 4 * 512 + (y 0).val
  omega

theorem iblk1_prev (c : Dev nD) (t : Fin cfg0.N) (h : ¬t.val % 4 = 0) (ht : t.val - 1 < cfg0.N) :
    iblk m c 1 ⟨t.val - 1, ht⟩ = iblk m c 1 t := by
  funext y
  blk_point [iblk, idx_val t, idx_val ⟨t.val - 1, ht⟩]

theorem scratch_eq (c : Dev nD) : ∀ (n : ℕ) (hn : n < cfg0.N),
    (outsAt0 m c n hn).2 = k0_pay2 (F := Ideal) (iblk m c 0 ⟨n, hn⟩) (iblk m c 1 ⟨n, hn⟩) := by
  intro n
  induction n with
  | zero =>
    intro hn
    rw [outsAt0_A m c ⟨0, hn⟩ rfl]; dsimp only
    frame_out
  | succ n ih =>
    intro hn
    by_cases h : (n + 1) % 4 = 0
    · rw [outsAt0_A m c ⟨n + 1, hn⟩ h]; dsimp only
      frame_out
    · rw [outsAt0_B m c ⟨n + 1, hn⟩ h]
      exact (ih (Nat.lt_of_succ_lt hn)).trans (congrArg₂ (k0_pay2 (F := Ideal))
        (iblk0_prev m c ⟨n + 1, hn⟩ h (Nat.lt_of_succ_lt hn)) (iblk1_prev m c ⟨n + 1, hn⟩ h (Nat.lt_of_succ_lt hn)))

theorem pay2_at (x : FVec Ideal S512x2048 .f32) (g : FVec Ideal S1x2048 .f32) (r : Fin 512) (k : Fin 2048) :
    k0_pay2 (F := Ideal) x g (ix2 r k) = Ffn.nrm (fun k => x (ix2 r k)) (fun k => g (ix2 0 k)) k := by
  pointwise [k0_pay2]
  rfl

theorem pay3_at (v3 : FVec Ideal S512x2048 .bf16) (v4 : FVec Ideal S2048x512 .bf16) (v8 : FVec Ideal S512x512 .bf16) (v10 : FVec Ideal S1x1x512x512 .bf16)
    (v14 : FVec Ideal S2048x512 .bf16) (v18 : FVec Ideal S512x512 .bf16) (v20 : FVec Ideal S1x1x512x512 .bf16) (r y : Fin 512) :
    k0_pay3 (F := Ideal) v3 v4 v8 v10 v14 v18 v20 (ix2 r y)
      = Ideal.logistic (∑ k : Fin 2048, v3 (ix2 r k) * v4 (ix2 k y)) * (∑ v : Fin 512, v8 (ix2 r v) * v10 (ix4 0 0 v y))
        + Ideal.logistic (∑ k : Fin 2048, v3 (ix2 r k) * v14 (ix2 k y)) * (∑ v : Fin 512, v18 (ix2 r v) * v20 (ix4 0 0 v y)) := by
  pointwise [k0_pay3]

theorem pay4_at (v3 : FVec Ideal S512x2048 .bf16) (v25 : FVec Ideal S2048x512 .bf16) (r y : Fin 512) :
    k0_pay4 (F := Ideal) v3 v25 (ix2 r y) = Ideal.logistic (∑ k : Fin 2048, v3 (ix2 r k) * v25 (ix2 k y)) := by
  pointwise [k0_pay4]

theorem pay1_at (v3 : FVec Ideal S512x2048 .bf16) (v24 v28 : FVec Ideal S512x512 .f32) (v29 : FVec Ideal S512x512 .bf16) (v31 : FVec Ideal S1x1x512x512 .bf16)
    (v36 : FVec Ideal S2048x512 .bf16) (v40 : FVec Ideal S512x512 .bf16) (v42 : FVec Ideal S1x1x512x512 .bf16) (v47 : FVec Ideal S512x2048 .f32)
    (v50 : FVec Ideal S1x512x2048 .bf16) (j : S512x2048.Idx) :
    k0_pay1 (F := Ideal) v3 v24 v28 v29 v31 v36 v40 v42 v47 v50 j = v47 j + ∑ y : Fin 512,
      (v24 (ix2 (j 0) y) + v28 (ix2 (j 0) y) * (∑ v : Fin 512, v29 (ix2 (j 0) v) * v31 (ix4 0 0 v y))
        + Ideal.logistic (∑ k : Fin 2048, v3 (ix2 (j 0) k) * v36 (ix2 k y)) * (∑ v : Fin 512, v40 (ix2 (j 0) v) * v42 (ix4 0 0 v y)))
      * v50 (ix3 0 y (j 1)) := by
  pointwise [k0_pay1]

/-- Slab 0 of the block of branch weights. -/
def slab0 (x : Vec Ideal S1x4x512x512 .bf16) : Vec Ideal S1x1x512x512 .bf16 :=
  View.ld (Val := Elt Ideal) (S := S1x4x512x512) x (Rect.unit (s := S1x4x512x512) ![0, 0, 0, 0] S1x1x512x512.size inb_S1x4x512x512_S1x1x512x512_0_0_0_0)

theorem slab0_at (x : FVec Ideal S1x4x512x512 .bf16) (v y : Fin 512) : slab0 x (ix4 0 0 v y) = x (ix4 0 0 v y) := by
  pointwise [slab0]

/-- Slab 1 of the block of branch weights. -/
def slab1 (x : Vec Ideal S1x4x512x512 .bf16) : Vec Ideal S1x1x512x512 .bf16 :=
  View.ld (Val := Elt Ideal) (S := S1x4x512x512) x (Rect.unit (s := S1x4x512x512) ![0, 1, 0, 0] S1x1x512x512.size inb_S1x4x512x512_S1x1x512x512_0_1_0_0)

theorem slab1_at (x : FVec Ideal S1x4x512x512 .bf16) (v y : Fin 512) : slab1 x (ix4 0 0 v y) = x (ix4 0 1 v y) := by
  pointwise [slab1]

/-- Slab 2 of the block of branch weights. -/
def slab2 (x : Vec Ideal S1x4x512x512 .bf16) : Vec Ideal S1x1x512x512 .bf16 :=
  View.ld (Val := Elt Ideal) (S := S1x4x512x512) x (Rect.unit (s := S1x4x512x512) ![0, 2, 0, 0] S1x1x512x512.size inb_S1x4x512x512_S1x1x512x512_0_2_0_0)

theorem slab2_at (x : FVec Ideal S1x4x512x512 .bf16) (v y : Fin 512) : slab2 x (ix4 0 0 v y) = x (ix4 0 2 v y) := by
  pointwise [slab2]

/-- Slab 3 of the block of branch weights. -/
def slab3 (x : Vec Ideal S1x4x512x512 .bf16) : Vec Ideal S1x1x512x512 .bf16 :=
  View.ld (Val := Elt Ideal) (S := S1x4x512x512) x (Rect.unit (s := S1x4x512x512) ![0, 3, 0, 0] S1x1x512x512.size inb_S1x4x512x512_S1x1x512x512_0_3_0_0)

theorem slab3_at (x : FVec Ideal S1x4x512x512 .bf16) (v y : Fin 512) : slab3 x (ix4 0 0 v y) = x (ix4 0 3 v y) := by
  pointwise [slab3]

/-- The windows' blocks at a point, at their own types. -/
def xb (c : Dev nD) (t : Fin cfg0.N) : FVec Ideal S512x2048 .f32 := iblk m c 0 t
def nb (c : Dev nD) (t : Fin cfg0.N) : FVec Ideal S1x2048 .f32 := iblk m c 1 t
def bb (c : Dev nD) (t : Fin cfg0.N) : Fin 4 → FVec Ideal S512x512 .bf16 := ![iblk m c 2 t, iblk m c 3 t, iblk m c 4 t, iblk m c 5 t]
def gb (c : Dev nD) (t : Fin cfg0.N) : Fin 4 → FVec Ideal S2048x512 .bf16 := ![iblk m c 6 t, iblk m c 7 t, iblk m c 8 t, iblk m c 9 t]
def wb (c : Dev nD) (t : Fin cfg0.N) : FVec Ideal S1x4x512x512 .bf16 := iblk m c 10 t
def db (c : Dev nD) (t : Fin cfg0.N) : FVec Ideal S1x512x2048 .bf16 := iblk m c 11 t
/-- What the result's staging block holds after a point. -/
def ob (c : Dev nD) (n : ℕ) (h : n < cfg0.N) : FVec Ideal S512x2048 .f32 := (outsAt0 m c n h).1

/-- What a point stores in the result's block, of the normalized rows, the gates' and branches' blocks and the block before. -/
def stepv (n : FVec Ideal S512x2048 .bf16) (g : Fin 4 → FVec Ideal S2048x512 .bf16) (b : Fin 4 → FVec Ideal S512x512 .bf16)
    (w : FVec Ideal S1x4x512x512 .bf16) (p : FVec Ideal S512x2048 .f32) (d : FVec Ideal S1x512x2048 .bf16) : FVec Ideal S512x2048 .f32 :=
  k0_pay1 (F := Ideal) n (k0_pay3 (F := Ideal) n (g 0) (b 0) (slab0 w) (g 1) (b 1) (slab1 w)) (k0_pay4 (F := Ideal) n (g 2)) (b 2) (slab2 w) (g 3) (b 3) (slab3 w) p d

/-- One point's part of an entry of the block. -/
def part (c : Dev nD) (t : Fin cfg0.N) (j : S512x2048.Idx) : EReal :=
  ∑ y : Fin 512, Merge.col (Ffn.nrm (fun k => xb m c t (ix2 (j 0) k)) (fun k => nb m c t (ix2 0 k)))
    (fun q k => gb m c t q (ix2 k y)) (fun q v => bb m c t q (ix2 (j 0) v)) (fun q v => wb m c t (ix4 0 q v y)) * db m c t (ix3 0 y (j 1))

theorem stepv_at (n : FVec Ideal S512x2048 .bf16) (g : Fin 4 → FVec Ideal S2048x512 .bf16) (b : Fin 4 → FVec Ideal S512x512 .bf16)
    (w : FVec Ideal S1x4x512x512 .bf16) (p : FVec Ideal S512x2048 .f32) (d : FVec Ideal S1x512x2048 .bf16) (j : S512x2048.Idx) :
    stepv n g b w p d j = p j + ∑ y : Fin 512, Merge.col (fun k => n (ix2 (j 0) k))
      (fun q k => g q (ix2 k y)) (fun q v => b q (ix2 (j 0) v)) (fun q v => w (ix4 0 q v y)) * d (ix3 0 y (j 1)) := by
  unfold stepv
  rw [pay1_at]
  congr 1
  refine Finset.sum_congr rfl fun y _ => ?_
  congr 1
  refine (congrArg₂ (fun u v => u + v * _ + _) (pay3_at n (g 0) (b 0) (slab0 w) (g 1) (b 1) (slab1 w) (j 0) y) (pay4_at n (g 2) (j 0) y)).trans ?_
  simp only [slab0_at, slab1_at, slab2_at, slab3_at]
  rfl

theorem step (x : FVec Ideal S512x2048 .f32) (a : FVec Ideal S1x2048 .f32) (g : Fin 4 → FVec Ideal S2048x512 .bf16) (b : Fin 4 → FVec Ideal S512x512 .bf16)
    (w : FVec Ideal S1x4x512x512 .bf16) (p : FVec Ideal S512x2048 .f32) (d : FVec Ideal S1x512x2048 .bf16) (j : S512x2048.Idx) :
    stepv (k0_pay2 (F := Ideal) x a) g b w p d j = p j + ∑ y : Fin 512, Merge.col (Ffn.nrm (fun k => x (ix2 (j 0) k)) (fun k => a (ix2 0 k)))
      (fun q k => g q (ix2 k y)) (fun q v => b q (ix2 (j 0) v)) (fun q v => w (ix4 0 q v y)) * d (ix3 0 y (j 1)) := by
  rw [stepv_at]
  exact congrArg (fun n => p j + ∑ y : Fin 512, Merge.col n (fun q k => g q (ix2 k y)) (fun q v => b q (ix2 (j 0) v)) (fun q v => w (ix4 0 q v y)) * d (ix3 0 y (j 1)))
    (funext fun k => pay2_at x a (j 0) k)

/-- At the first point of a run the block is the stream's rows and the point's part. -/
theorem out_A (c : Dev nD) (t : Fin cfg0.N) (h : t.val % 4 = 0) (j : S512x2048.Idx) :
    ob m c t.val t.isLt j = xb m c t j + part m c t j := by
  refine (congrFun (congrArg Prod.fst (outsAt0_A m c t h)) j).trans ?_
  dsimp only
  frame_out
  exact step (xb m c t) (nb m c t) (gb m c t) (bb m c t) (wb m c t) (xb m c t) (db m c t) j

set_option maxHeartbeats 2000000 in
/-- At the others the point's part is added to what is there. -/
theorem out_B (c : Dev nD) (t : Fin cfg0.N) (h : ¬t.val % 4 = 0) (j : S512x2048.Idx) :
    ob m c t.val t.isLt j = ob m c (t.val - 1) (Nat.lt_of_le_of_lt (Nat.sub_le _ _) t.isLt) j + part m c t j := by
  have e : (outsAt0 m c (t.val - 1) (Nat.lt_of_le_of_lt (Nat.sub_le _ _) t.isLt)).2 = k0_pay2 (F := Ideal) (xb m c t) (nb m c t) :=
    (scratch_eq m c (t.val - 1) _).trans (congrArg₂ (k0_pay2 (F := Ideal)) (iblk0_prev m c t h _) (iblk1_prev m c t h _))
  refine Eq.trans ?_ ((congrArg (fun v => stepv v (gb m c t) (bb m c t) (wb m c t) (ob m c (t.val - 1) (Nat.lt_of_le_of_lt (Nat.sub_le _ _) t.isLt)) (db m c t) j) e).trans
    (step (xb m c t) (nb m c t) (gb m c t) (bb m c t) (wb m c t) (ob m c (t.val - 1) (Nat.lt_of_le_of_lt (Nat.sub_le _ _) t.isLt)) (db m c t) j))
  refine (congrFun (congrArg Prod.fst (outsAt0_B m c t h)) j).trans ?_
  dsimp only
  frame_out
  exact congrArg (fun v => stepv v (gb m c t) (bb m c t) (wb m c t) (outsAt0 m c (t.val - 1) (Nat.lt_of_le_of_lt (Nat.sub_le _ _) t.isLt)).1 (db m c t) j)
    (Memref.IsWhole.read_unread (Memref.isWhole_whole cc0_scratch0) _)

theorem acc (c : Dev nD) (t : Fin cfg0.N) (h : t.val % 4 = 3) (j : S512x2048.Idx) :
    ob m c t.val t.isLt j = xb m c ⟨4 * (t.val / 4), by have := t.isLt; omega⟩ j
      + ∑ s : Fin 4, part m c ⟨4 * (t.val / 4) + s.val, Pipeline.run_point_lt_of_flush t h s⟩ j := by
  rw [Pipeline.eq_sum_fin_of_reset_step_apply_of_flush (fun n h => ob m c n h) 4 (fun _ => 0)
    (fun t j => (if t.val % 4 = 0 then xb m c t j else 0) + part m c t j)
    (fun t h j => by rw [out_A m c t h, if_pos h, zero_add]) (fun t h j => by rw [out_B m c t h, if_neg h, zero_add])
    t h j, zero_add, Finset.sum_add_distrib]
  congr 1
  rw [Fin.sum_univ_succ]
  rw [if_pos (show (4 * (t.val / 4) + (0 : Fin 4).val) % 4 = 0 by simp)]
  rw [Finset.sum_eq_zero (fun s _ => if_neg (show ¬(4 * (t.val / 4) + (Fin.succ s).val) % 4 = 0 by rw [Fin.val_succ]; omega)), add_zero]
  rfl

/-- The result as a function of the nine arguments. -/
def OUT (a0 : FVec Ideal S33792x2048 .f32) (a1 : FVec Ideal S2x2048 .f32) (a2 : FVec Ideal S2x2048x15184 .f32)
    (a3 a4 a5 a6 : FVec Ideal S33792x512 .f32) (a7 : FVec Ideal S2x4x512x2048 .f32) (a8 : FVec Ideal S2x2048x2048 .f32) : FVec Ideal S33792x2048 .f32 := fun i =>
  Merge.out (fun k => a0 (ix2 (i 0) k)) (fun k => a1 (ix2 0 k))
    (fun f q k => a2 (ix3 0 k ⟨6992 + (q.val * 2048 + f.val), by omega⟩))
    (fun q v => (![a3, a4, a5, a6] q : FVec Ideal S33792x512 .f32) (ix2 (i 0) v))
    (fun f q v => a7 (ix4 0 q v f)) (fun f => a8 (ix3 0 f (i 1))) (a0 i)

theorem gb_at (c : Dev nD) (t : Fin cfg0.N) (q : Fin 4) (k : Fin 2048) (y : Fin 512) :
    gb m c t q (ix2 k y) = m ((c : Thread nD τ).loc main_arg2) (ix3 0 k ⟨6992 + (q.val * 2048 + (t.val % 4 * 512 + y.val)), by show _ < 15184; omega⟩ : S2x2048x15184.Idx) := by
  match q with
  | ⟨0, _⟩ => exact iblk6_at m c t k y
  | ⟨1, _⟩ => exact iblk7_at m c t k y
  | ⟨2, _⟩ => exact iblk8_at m c t k y
  | ⟨3, _⟩ => exact iblk9_at m c t k y

/-- A branch's result by its number. -/
def br (c : Dev nD) : Fin 4 → FVec Ideal S33792x512 .f32 :=
  ![m ((c : Thread nD τ).loc main_arg3), m ((c : Thread nD τ).loc main_arg4), m ((c : Thread nD τ).loc main_arg5), m ((c : Thread nD τ).loc main_arg6)]

theorem bb_at (c : Dev nD) (t : Fin cfg0.N) (q : Fin 4) (r v : Fin 512) :
    bb m c t q (ix2 r v) = br m c q (ix2 ⟨t.val / 4 * 512 + r.val, by have := lt_of_lt_of_eq t.isLt N_0; show _ < 33792; omega⟩ v) := by
  match q with
  | ⟨0, _⟩ => exact iblk2_at m c t r v
  | ⟨1, _⟩ => exact iblk3_at m c t r v
  | ⟨2, _⟩ => exact iblk4_at m c t r v
  | ⟨3, _⟩ => exact iblk5_at m c t r v

theorem part_eq (c : Dev nD) (t : Fin cfg0.N) (h : t.val % 4 = 3) (s : Fin 4) (j : S512x2048.Idx) (i : S33792x2048.Idx)
    (hi0 : (i 0).val = t.val / 4 * 512 + (j 0).val) (hi1 : i 1 = j 1) :
    part m c ⟨4 * (t.val / 4) + s.val, Pipeline.run_point_lt_of_flush t h s⟩ j = ∑ y : Fin 512, Merge.col
      (Ffn.nrm (fun k => m ((c : Thread nD τ).loc main_arg0) (ix2 (i 0) k : S33792x2048.Idx)) (fun k => m ((c : Thread nD τ).loc main_arg1) (ix2 0 k : S2x2048.Idx)))
      (fun q k => m ((c : Thread nD τ).loc main_arg2) (ix3 0 k ⟨6992 + (q.val * 2048 + (s.val * 512 + y.val)), by show _ < 15184; omega⟩ : S2x2048x15184.Idx))
      (fun q v => br m c q (ix2 (i 0) v))
      (fun q v => m ((c : Thread nD τ).loc main_arg7) (ix4 0 q v ⟨s.val * 512 + y.val, by show _ < 2048; omega⟩ : S2x4x512x2048.Idx))
      * m ((c : Thread nD τ).loc main_arg8) (ix3 0 ⟨s.val * 512 + y.val, by show _ < 2048; omega⟩ (i 1) : S2x2048x2048.Idx) := by
  have hN := lt_of_lt_of_eq t.isLt N_0
  have hj : (j 0).val < 512 := (j 0).isLt
  have e1 : (4 * (t.val / 4) + s.val) % 4 = s.val := by omega
  have e0 : (4 * (t.val / 4) + s.val) / 4 * 512 + (j 0).val = (i 0).val := by omega
  unfold part
  refine Finset.sum_congr rfl fun y _ => ?_
  have a0 : (fun k : Fin 2048 => xb m c ⟨4 * (t.val / 4) + s.val, Pipeline.run_point_lt_of_flush t h s⟩ (ix2 (j 0) k)) = fun k => m ((c : Thread nD τ).loc main_arg0) (ix2 (i 0) k : S33792x2048.Idx) :=
    funext fun k => (iblk0_at m c _ (j 0) k).trans (congrArg (fun r => m ((c : Thread nD τ).loc main_arg0) (ix2 r k : S33792x2048.Idx)) (Fin.ext e0))
  have a1 : (fun k : Fin 2048 => nb m c ⟨4 * (t.val / 4) + s.val, Pipeline.run_point_lt_of_flush t h s⟩ (ix2 0 k)) = fun k => m ((c : Thread nD τ).loc main_arg1) (ix2 0 k : S2x2048.Idx) :=
    funext fun k => iblk1_at m c _ k
  have a2 : (fun (q : Fin 4) (k : Fin 2048) => gb m c ⟨4 * (t.val / 4) + s.val, Pipeline.run_point_lt_of_flush t h s⟩ q (ix2 k y))
      = fun q k => m ((c : Thread nD τ).loc main_arg2) (ix3 0 k ⟨6992 + (q.val * 2048 + (s.val * 512 + y.val)), by show _ < 15184; omega⟩ : S2x2048x15184.Idx) := by
    funext q k
    refine (gb_at m c _ q k y).trans (congrArg (fun r => m ((c : Thread nD τ).loc main_arg2) (ix3 0 k r : S2x2048x15184.Idx)) (Fin.ext ?_))
    show 6992 + (q.val * 2048 + ((4 * (t.val / 4) + s.val) % 4 * 512 + y.val)) = 6992 + (q.val * 2048 + (s.val * 512 + y.val))
    rw [e1]
  have a3 : (fun (q : Fin 4) (v : Fin 512) => bb m c ⟨4 * (t.val / 4) + s.val, Pipeline.run_point_lt_of_flush t h s⟩ q (ix2 (j 0) v))
      = fun q v => br m c q (ix2 (i 0) v) := by
    funext q v
    exact (bb_at m c _ q (j 0) v).trans (congrArg (fun r => br m c q (ix2 r v : S33792x512.Idx)) (Fin.ext e0))
  have a4 : (fun (q : Fin 4) (v : Fin 512) => wb m c ⟨4 * (t.val / 4) + s.val, Pipeline.run_point_lt_of_flush t h s⟩ (ix4 0 q v y))
      = fun q v => m ((c : Thread nD τ).loc main_arg7) (ix4 0 q v ⟨s.val * 512 + y.val, by show _ < 2048; omega⟩ : S2x4x512x2048.Idx) := by
    funext q v
    refine (iblk10_at m c _ q v y).trans (congrArg (fun r => m ((c : Thread nD τ).loc main_arg7) (ix4 0 q v r : S2x4x512x2048.Idx)) (Fin.ext ?_))
    show (4 * (t.val / 4) + s.val) % 4 * 512 + y.val = s.val * 512 + y.val
    rw [e1]
  have a5 : db m c ⟨4 * (t.val / 4) + s.val, Pipeline.run_point_lt_of_flush t h s⟩ (ix3 0 y (j 1)) = m ((c : Thread nD τ).loc main_arg8) (ix3 0 ⟨s.val * 512 + y.val, by show _ < 2048; omega⟩ (i 1) : S2x2048x2048.Idx) := by
    rw [hi1]
    refine (iblk11_at m c _ y _).trans (congrArg (fun r => m ((c : Thread nD τ).loc main_arg8) (ix3 0 r (j 1) : S2x2048x2048.Idx)) (Fin.ext ?_))
    show (4 * (t.val / 4) + s.val) % 4 * 512 + y.val = s.val * 512 + y.val
    rw [e1]
  rw [a0, a1, a2, a3, a4, a5]

/-- The result array after the run, as a function of the arguments. -/
theorem final (c : Dev nD) : (dats m 0 c).arrAt 12 (cfgs 0).N = OUT (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) := by
  refine (dats m 0 c).arrAt_eq_of_covers 12 _ (by decide +kernel) fun t hf y => ?_
  blk_simp
  rw [after0_12]
  have h := (flush0_12 t).mp hf
  have hN := lt_of_lt_of_eq t.isLt N_0
  have hy : (y 0).val < 512 := (y 0).isLt
  have e4 := (idx_val t).2.2.2.2.2.2.2.2.2.2.2.2
  have hi0 : ((win0_12.blk t).view.emb y 0).val = t.val / 4 * 512 + (y 0).val := by
    show win0_12.index t (0 : Fin 2) * 512 + 1 * (y 0).val = _
    rw [e4, Nat.one_mul]; rfl
  have hi1 : (win0_12.blk t).view.emb y 1 = y 1 := by
    apply Fin.ext
    show win0_12.index t (1 : Fin 2) * 2048 + 1 * (y 1).val = _
    rw [e4, Nat.one_mul]; exact Nat.zero_add _
  refine (acc m c t h y).trans ?_
  unfold OUT
  rw [Merge.out_blocks]
  refine congrArg₂ (· + ·) ?_ (Finset.sum_congr rfl fun s _ => part_eq m c t h s y _ hi0 hi1)
  have hye : (ix2 (y 0) (y 1) : S512x2048.Idx) = y := by funext a; match a with | ⟨0, _⟩ => rfl | ⟨1, _⟩ => rfl
  have hie : (ix2 ((win0_12.blk t).view.emb y 0) (y 1) : S33792x2048.Idx) = (win0_12.blk t).view.emb y := by
    funext a
    match a with
    | ⟨0, _⟩ => rfl
    | ⟨1, _⟩ => exact hi1.symm
  refine (congrArg (xb m c _) hye.symm).trans ((iblk0_at m c _ (y 0) (y 1)).trans ((congrArg (fun r => m ((c : Thread nD τ).loc main_arg0) (ix2 r (y 1) : S33792x2048.Idx)) (Fin.ext ?_)).trans (congrArg (m ((c : Thread nD τ).loc main_arg0)) hie)))
  show 4 * (t.val / 4) / 4 * 512 + (y 0).val = ((win0_12.blk t).view.emb y 0).val
  rw [hi0]
  omega

end Cert.Kernel3Ideal.MergeValue

end
-- ==== Proof.MergeRef.lean ====
/- Hand-written, untrusted: the third reference's merge as a function of its arguments, entry by entry. -/
module

public import proofs.«01_k».proof.Proof.Gen.Reference3Ideal.Run
public import proofs.«01_k».proof.Proof.MergeMath

@[expose] public section

set_option maxRecDepth 16384

noncomputable section

open Idealize.ShloMosaic Idealize.ShloMosaic.TcCoe Idealize.SL.Sem
open scoped BigOperators

namespace Cert.Reference3Ideal.MergeRef
open Cert.Reference3Ideal Cert.Reference3Ideal.Gen

/-- The rows normalised and scaled. -/
def nrm (x : FVec Ideal S33792x2048 .f32) (a1 : FVec Ideal S2x2048 .f32) : FVec Ideal S33792x2048 .f32 :=
  mulf (mulf x (broadcastInDim S33792x2048 ![0, 1] bcast_S33792x1_S33792x2048_0_1 (Host.rsqrt (addf (Host.divf (broadcastInDim S33792x1 ![0] bcast_S33792_S33792x1_0 (Host.reduceAdd (mulf x x) (constant S_ .f32 0x00000000#32) reducesTo_S33792x2048_S33792_d1 h_S_)) (broadcastInDim S33792x1 ![] bcast_S_S33792x1 (constant S_ .f32 0x45000000#32))) (broadcastInDim S33792x1 ![] bcast_S_S33792x1 (constant S_ .f32 0x358637BD#32)))))) (broadcastInDim S33792x2048 ![0, 1] bcast_S1x2048_S33792x2048_0_1 (broadcastInDim S1x2048 ![1] bcast_S2048_S1x2048_1 (shapeCast S2048 (extractStridedSlice S1x2048 ![0, 0] a1 slices_S2x2048_S1x2048_0_0) shapeCasts_S1x2048_S2048)))

/-- The input projection. -/
def proj (n : FVec Ideal S33792x2048 .f32) (a2 : FVec Ideal S2x2048x15184 .f32) : FVec Ideal S33792x15184 .f32 :=
  Host.dotGeneral dot_S33792x2048_S2048x15184_S33792x15184_1_0_0_1_n_n none n (shapeCast S2048x15184 (extractStridedSlice S1x2048x15184 ![0, 0, 0] a2 slices_S2x2048x15184_S1x2048x15184_0_0_0) shapeCasts_S1x2048x15184_S2048x15184)

/-- The gates: its last columns, branch by branch, through the logistic function. -/
def gates (p : FVec Ideal S33792x15184 .f32) : FVec Ideal S33792x4x2048 .f32 :=
  Host.divf (broadcastInDim S33792x4x2048 ![] bcast_S_S33792x4x2048 (constant S_ .f32 0x3F800000#32)) (addf (broadcastInDim S33792x4x2048 ![] bcast_S_S33792x4x2048 (constant S_ .f32 0x3F800000#32)) (Host.exp (Host.negf (shapeCast S33792x4x2048 (extractStridedSlice S33792x8192 ![0, 6992] p slices_S33792x15184_S33792x8192_0_6992) shapeCasts_S33792x8192_S33792x4x2048))))

/-- Branch 0 behind its gate. -/
def unit0 (g : FVec Ideal S33792x4x2048 .f32) (b : FVec Ideal S33792x512 .f32) (a7 : FVec Ideal S2x4x512x2048 .f32) : FVec Ideal S33792x2048 .f32 :=
  mulf (shapeCast S33792x2048 (extractStridedSlice S33792x1x2048 ![0, 0, 0] g slices_S33792x4x2048_S33792x1x2048_0_0_0) shapeCasts_S33792x1x2048_S33792x2048) (Host.dotGeneral dot_S33792x512_S512x2048_S33792x2048_1_0_0_1_n_n none b (shapeCast S512x2048 (extractStridedSlice S1x1x512x2048 ![0, 0, 0, 0] a7 slices_S2x4x512x2048_S1x1x512x2048_0_0_0_0) shapeCasts_S1x1x512x2048_S512x2048))

/-- Branch 1 behind its gate. -/
def unit1 (g : FVec Ideal S33792x4x2048 .f32) (b : FVec Ideal S33792x512 .f32) (a7 : FVec Ideal S2x4x512x2048 .f32) : FVec Ideal S33792x2048 .f32 :=
  mulf (shapeCast S33792x2048 (extractStridedSlice S33792x1x2048 ![0, 1, 0] g slices_S33792x4x2048_S33792x1x2048_0_1_0) shapeCasts_S33792x1x2048_S33792x2048) (Host.dotGeneral dot_S33792x512_S512x2048_S33792x2048_1_0_0_1_n_n none b (shapeCast S512x2048 (extractStridedSlice S1x1x512x2048 ![0, 1, 0, 0] a7 slices_S2x4x512x2048_S1x1x512x2048_0_1_0_0) shapeCasts_S1x1x512x2048_S512x2048))

/-- Branch 2 behind its gate. -/
def unit2 (g : FVec Ideal S33792x4x2048 .f32) (b : FVec Ideal S33792x512 .f32) (a7 : FVec Ideal S2x4x512x2048 .f32) : FVec Ideal S33792x2048 .f32 :=
  mulf (shapeCast S33792x2048 (extractStridedSlice S33792x1x2048 ![0, 2, 0] g slices_S33792x4x2048_S33792x1x2048_0_2_0) shapeCasts_S33792x1x2048_S33792x2048) (Host.dotGeneral dot_S33792x512_S512x2048_S33792x2048_1_0_0_1_n_n none b (shapeCast S512x2048 (extractStridedSlice S1x1x512x2048 ![0, 2, 0, 0] a7 slices_S2x4x512x2048_S1x1x512x2048_0_2_0_0) shapeCasts_S1x1x512x2048_S512x2048))

/-- Branch 3 behind its gate. -/
def unit3 (g : FVec Ideal S33792x4x2048 .f32) (b : FVec Ideal S33792x512 .f32) (a7 : FVec Ideal S2x4x512x2048 .f32) : FVec Ideal S33792x2048 .f32 :=
  mulf (shapeCast S33792x2048 (extractStridedSlice S33792x1x2048 ![0, 3, 0] g slices_S33792x4x2048_S33792x1x2048_0_3_0) shapeCasts_S33792x1x2048_S33792x2048) (Host.dotGeneral dot_S33792x512_S512x2048_S33792x2048_1_0_0_1_n_n none b (shapeCast S512x2048 (extractStridedSlice S1x1x512x2048 ![0, 3, 0, 0] a7 slices_S2x4x512x2048_S1x1x512x2048_0_3_0_0) shapeCasts_S1x1x512x2048_S512x2048))

/-- The stream with the merged branches' projection added. -/
def fin (x : FVec Ideal S33792x2048 .f32) (y : FVec Ideal S33792x2048 .f32) (a8 : FVec Ideal S2x2048x2048 .f32) : FVec Ideal S33792x2048 .f32 :=
  addf x (Host.dotGeneral dot_S33792x2048_S2048x2048_S33792x2048_1_0_0_1_n_n none y (shapeCast S2048x2048 (extractStridedSlice S1x2048x2048 ![0, 0, 0] a8 slices_S2x2048x2048_S1x2048x2048_0_0_0) shapeCasts_S1x2048x2048_S2048x2048))

/-- The whole merge. -/
def res (a0 : FVec Ideal S33792x2048 .f32) (a1 : FVec Ideal S2x2048 .f32) (a2 : FVec Ideal S2x2048x15184 .f32)
    (b0 b1 b2 b3 : FVec Ideal S33792x512 .f32) (a7 : FVec Ideal S2x4x512x2048 .f32) (a8 : FVec Ideal S2x2048x2048 .f32) : FVec Ideal S33792x2048 .f32 :=
  fin a0 (addf (addf (addf (unit0 (gates (proj (nrm a0 a1) a2)) b0 a7) (unit1 (gates (proj (nrm a0 a1) a2)) b1 a7)) (unit2 (gates (proj (nrm a0 a1) a2)) b2 a7)) (unit3 (gates (proj (nrm a0 a1) a2)) b3 a7)) a8

theorem res_eq (m : (ℓ : Loc Cert.Reference3Ideal.nD Cert.Reference3Ideal.τ Cert.Reference3Ideal.sig) → Buf (Elt Ideal) ℓ) (c) :
   Cert.Reference3Ideal.Value.res_main_v57 (F := Ideal) m c = res (m ((c.tc : Thread nD τ).loc main_arg0)) (m ((c.tc : Thread nD τ).loc main_arg1)) (m ((c.tc : Thread nD τ).loc main_arg2))
     (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rfl

theorem nrm_at (x : FVec Ideal S33792x2048 .f32) (a1 : FVec Ideal S2x2048 .f32) (r : Fin 33792) (k : Fin 2048) :
    nrm x a1 (ix2 r k) = Ffn.nrm (fun k => x (ix2 r k)) (fun k => a1 (ix2 0 k)) k := by
  pointwise [nrm]
  rfl

theorem proj_at (x : FVec Ideal S33792x2048 .f32) (a2 : FVec Ideal S2x2048x15184 .f32) (r : Fin 33792) (f : Fin 15184) :
    proj x a2 (ix2 r f) = ∑ k : Fin 2048, x (ix2 r k) * a2 (ix3 0 k f) := by
  pointwise [proj]

theorem gates_at (p : FVec Ideal S33792x15184 .f32) (r : Fin 33792) (q : Fin 4) (f : Fin 2048) :
    gates p (ix3 r q f) = Ideal.logistic (p (ix2 r ⟨6992 + (q.val * 2048 + f.val), by omega⟩)) := by
  pointwise [gates]
  rfl

theorem unit0_at (g : FVec Ideal S33792x4x2048 .f32) (b : FVec Ideal S33792x512 .f32) (a7 : FVec Ideal S2x4x512x2048 .f32) (r : Fin 33792) (f : Fin 2048) :
    unit0 g b a7 (ix2 r f) = g (ix3 r 0 f) * ∑ v : Fin 512, b (ix2 r v) * a7 (ix4 0 0 v f) := by
  pointwise [unit0]

theorem unit1_at (g : FVec Ideal S33792x4x2048 .f32) (b : FVec Ideal S33792x512 .f32) (a7 : FVec Ideal S2x4x512x2048 .f32) (r : Fin 33792) (f : Fin 2048) :
    unit1 g b a7 (ix2 r f) = g (ix3 r 1 f) * ∑ v : Fin 512, b (ix2 r v) * a7 (ix4 0 1 v f) := by
  pointwise [unit1]

theorem unit2_at (g : FVec Ideal S33792x4x2048 .f32) (b : FVec Ideal S33792x512 .f32) (a7 : FVec Ideal S2x4x512x2048 .f32) (r : Fin 33792) (f : Fin 2048) :
    unit2 g b a7 (ix2 r f) = g (ix3 r 2 f) * ∑ v : Fin 512, b (ix2 r v) * a7 (ix4 0 2 v f) := by
  pointwise [unit2]

theorem unit3_at (g : FVec Ideal S33792x4x2048 .f32) (b : FVec Ideal S33792x512 .f32) (a7 : FVec Ideal S2x4x512x2048 .f32) (r : Fin 33792) (f : Fin 2048) :
    unit3 g b a7 (ix2 r f) = g (ix3 r 3 f) * ∑ v : Fin 512, b (ix2 r v) * a7 (ix4 0 3 v f) := by
  pointwise [unit3]

theorem fin_at (x : FVec Ideal S33792x2048 .f32) (y : FVec Ideal S33792x2048 .f32) (a8 : FVec Ideal S2x2048x2048 .f32) (i : S33792x2048.Idx) :
    fin x y a8 i = x i + ∑ f : Fin 2048, y (ix2 (i 0) f) * a8 (ix3 0 f (i 1)) := by
  pointwise [fin]

theorem gate_at (a0 : FVec Ideal S33792x2048 .f32) (a1 : FVec Ideal S2x2048 .f32) (a2 : FVec Ideal S2x2048x15184 .f32) (r : Fin 33792) (q : Fin 4) (f : Fin 2048) :
    gates (proj (nrm a0 a1) a2) (ix3 r q f) = Ideal.logistic (∑ k : Fin 2048, Ffn.nrm (fun k => a0 (ix2 r k)) (fun k => a1 (ix2 0 k)) k * a2 (ix3 0 k ⟨6992 + (q.val * 2048 + f.val), by omega⟩)) := by
  rw [gates_at, proj_at]
  exact congrArg Ideal.logistic (Finset.sum_congr rfl fun k _ => congrArg (· * _) (nrm_at a0 a1 r k))

/-- The reference's result at an index. -/
theorem res_at (a0 : FVec Ideal S33792x2048 .f32) (a1 : FVec Ideal S2x2048 .f32) (a2 : FVec Ideal S2x2048x15184 .f32)
    (b0 b1 b2 b3 : FVec Ideal S33792x512 .f32) (a7 : FVec Ideal S2x4x512x2048 .f32) (a8 : FVec Ideal S2x2048x2048 .f32) (i : S33792x2048.Idx) :
    res a0 a1 a2 b0 b1 b2 b3 a7 a8 i
      = Merge.out (fun k => a0 (ix2 (i 0) k)) (fun k => a1 (ix2 0 k))
          (fun f q k => a2 (ix3 0 k ⟨6992 + (q.val * 2048 + f.val), by omega⟩))
          (fun q v => (![b0, b1, b2, b3] q : FVec Ideal S33792x512 .f32) (ix2 (i 0) v))
          (fun f q v => a7 (ix4 0 q v f)) (fun f => a8 (ix3 0 f (i 1))) (a0 i) := by
  unfold res
  rw [fin_at]
  unfold Merge.out Merge.col
  congr 1
  refine Finset.sum_congr rfl fun f _ => ?_
  congr 1
  exact congrArg₂ (· + ·) (congrArg₂ (· + ·) (congrArg₂ (· + ·)
    ((unit0_at _ b0 a7 (i 0) f).trans (congrArg (· * _) (gate_at a0 a1 a2 (i 0) 0 f)))
    ((unit1_at _ b1 a7 (i 0) f).trans (congrArg (· * _) (gate_at a0 a1 a2 (i 0) 1 f))))
    ((unit2_at _ b2 a7 (i 0) f).trans (congrArg (· * _) (gate_at a0 a1 a2 (i 0) 2 f))))
    ((unit3_at _ b3 a7 (i 0) f).trans (congrArg (· * _) (gate_at a0 a1 a2 (i 0) 3 f)))

end Cert.Reference3Ideal.MergeRef

end
-- ==== Proof.ProjKernel.lean ====
/- Hand-written, untrusted: the input projection's result array after a run of the fourth kernel, as a function of its arguments. -/
module

public import proofs.«01_k».proof.Proof.Gen.Kernel4Ideal.Frame
public import proofs.«01_k».proof.Proof.FfnMath

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.ProjValue
open Cert.Kernel4Ideal Cert.Kernel4Ideal.Gen

variable (m : (ℓ : Loc nD τ sig) → Buf (Elt Ideal) ℓ)

theorem idx_val : ∀ t : Fin grid0.N,
    win0_0.index t = ![t.val / 4, 0] ∧ win0_1.index t = ![0, 0] ∧ win0_2.index t = ![0, t.val % 4] ∧ win0_3.index t = ![t.val / 4, t.val % 4] :=
  (by decide +kernel : ∀ t : Fin grid0.N,
    win0_0.index t = ![t.val / 4, 0] ∧ win0_1.index t = ![0, 0] ∧ win0_2.index t = ![0, t.val % 4] ∧ win0_3.index t = ![t.val / 4, t.val % 4])

theorem V_eq (c : Dev nD) (b : Ref sig .tc) : V m c b = StableHlo.after hostOps0 (fun b => m (c, b)) (Proc.devRef .tc b) :=
  congrArg (fun l => StableHlo.after l (fun b => m (c, b)) (Proc.devRef .tc b)) (List.append_nil hostOps0)

theorem iblk0_at (c : Dev nD) (t : Fin cfg0.N) (r : Fin 1024) (k : Fin 2048) :
    (iblk m c 0 t : S1024x2048.Idx → EReal) (ix2 r k) = m ((c : Thread nD τ).loc main_arg0) (ix2 ⟨t.val / 4 * 1024 + r.val, by have := lt_of_lt_of_eq t.isLt N_0; show _ < 33792; omega⟩ k : S33792x2048.Idx) := by
  blk_simp [iblk, idx_val t]
  entry_read
  blk_ext [idx_val t]

theorem iblk1_at (c : Dev nD) (t : Fin cfg0.N) (k : Fin 2048) :
    (iblk m c 1 t : S1x2048.Idx → EReal) (ix2 0 k) = m ((c : Thread nD τ).loc main_arg1) (ix2 0 k : S2x2048.Idx) := by
  blk_simp [iblk, idx_val t]
  rw [V_eq]
  entry_read
  pointwise
  blk_ext [idx_val t]

/-- Layer 0's input weights. -/
def w0 (a2 : FVec Ideal S2x2048x15184 .f32) : FVec Ideal S2048x15184 .f32 :=
  shapeCast S2048x15184 (extractStridedSlice S1x2048x15184 ![0, 0, 0] a2 slices_S2x2048x15184_S1x2048x15184_0_0_0) shapeCasts_S1x2048x15184_S2048x15184

/-- The packed pieces of the weights. -/
def pieces (w : FVec Ideal S2048x15184 .f32) : List ((s : Shape) × (s.Idx → EReal)) :=
  [⟨S2048x2048, extractStridedSlice S2048x2048 ![0, 0] w slices_S2048x15184_S2048x2048_0_0⟩, ⟨S2048x1024, extractStridedSlice S2048x1024 ![0, 5888] w slices_S2048x15184_S2048x1024_0_5888⟩, ⟨S2048x1536, extractStridedSlice S2048x1536 ![0, 2048] w slices_S2048x15184_S2048x1536_0_2048⟩, ⟨S2048x1536, extractStridedSlice S2048x1536 ![0, 3584] w slices_S2048x15184_S2048x1536_0_3584⟩, ⟨S2048x512, extractStridedSlice S2048x512 ![0, 5120] w slices_S2048x15184_S2048x512_0_5120⟩, ⟨S2048x128, extractStridedSlice S2048x128 ![0, 5632] w slices_S2048x15184_S2048x128_0_5632⟩, ⟨S2048x128, extractStridedSlice S2048x128 ![0, 5760] w slices_S2048x15184_S2048x128_0_5760⟩, ⟨S2048x80, extractStridedSlice S2048x80 ![0, 6912] w slices_S2048x15184_S2048x80_0_6912⟩,
   ⟨S2048x176, broadcastInDim S2048x176 ![] bcast_S_S2048x176 (constant (F := Ideal) S_ .f32 0x00000000#32)⟩]

/-- The packed weights. -/
def wm (a2 : FVec Ideal S2x2048x15184 .f32) : FVec Ideal S2048x7168 .f32 :=
  concatenate S2048x7168 1 (pieces (w0 a2)) concatenates_S2048x2048_S2048x1024_S2048x1536_S2048x1536_S2048x512_S2048x128_S2048x128_S2048x80_S2048x176_S2048x7168_d1

theorem V_main_v12 (c : Dev nD) : V m c main_v12 = truncf .bf16 (wm (m ((c : Thread nD τ).loc main_arg2))) bitsLt_bf16_f32 := by
  rw [V_eq]
  after_results <;> rfl

theorem w0_at (a2 : FVec Ideal S2x2048x15184 .f32) (k : Fin 2048) (f : Fin 15184) : w0 a2 (ix2 k f) = a2 (ix3 0 k f) := by
  pointwise [w0]

theorem wm_0 (a2 : FVec Ideal S2x2048x15184 .f32) (k : Fin 2048) (f : Fin 2048) :
    wm a2 (ix2 k ⟨0 + f.val, by omega⟩) = a2 (ix3 0 k ⟨0 + f.val, by omega⟩) := by
  refine (concatenate_apply_piece 1 (pieces (w0 a2)) _ (ix2 k ⟨0 + f.val, by omega⟩ : S2048x7168.Idx) 0 (by simp [pieces]) S2048x2048
    (extractStridedSlice S2048x2048 ![0, 0] (w0 a2) slices_S2048x15184_S2048x2048_0_0) (by simp [pieces]) rfl 0 (by simp [pieces]; try rfl)
    (ix2 k f : S2048x2048.Idx) (fun b hb => ?_) rfl).trans ?_
  · match b with
    | ⟨0, _⟩ => rfl
    | ⟨1, _⟩ => exact absurd rfl hb
  · pointwise [w0]

theorem wm_1 (a2 : FVec Ideal S2x2048x15184 .f32) (k : Fin 2048) (f : Fin 1024) :
    wm a2 (ix2 k ⟨2048 + f.val, by omega⟩) = a2 (ix3 0 k ⟨5888 + f.val, by omega⟩) := by
  refine (concatenate_apply_piece 1 (pieces (w0 a2)) _ (ix2 k ⟨2048 + f.val, by omega⟩ : S2048x7168.Idx) 1 (by simp [pieces]) S2048x1024
    (extractStridedSlice S2048x1024 ![0, 5888] (w0 a2) slices_S2048x15184_S2048x1024_0_5888) (by simp [pieces]) rfl 2048 (by simp [pieces]; try rfl)
    (ix2 k f : S2048x1024.Idx) (fun b hb => ?_) rfl).trans ?_
  · match b with
    | ⟨0, _⟩ => rfl
    | ⟨1, _⟩ => exact absurd rfl hb
  · pointwise [w0]

theorem wm_2 (a2 : FVec Ideal S2x2048x15184 .f32) (k : Fin 2048) (f : Fin 1536) :
    wm a2 (ix2 k ⟨3072 + f.val, by omega⟩) = a2 (ix3 0 k ⟨2048 + f.val, by omega⟩) := by
  refine (concatenate_apply_piece 1 (pieces (w0 a2)) _ (ix2 k ⟨3072 + f.val, by omega⟩ : S2048x7168.Idx) 2 (by simp [pieces]) S2048x1536
    (extractStridedSlice S2048x1536 ![0, 2048] (w0 a2) slices_S2048x15184_S2048x1536_0_2048) (by simp [pieces]) rfl 3072 (by simp [pieces]; try rfl)
    (ix2 k f : S2048x1536.Idx) (fun b hb => ?_) rfl).trans ?_
  · match b with
    | ⟨0, _⟩ => rfl
    | ⟨1, _⟩ => exact absurd rfl hb
  · pointwise [w0]

theorem wm_3 (a2 : FVec Ideal S2x2048x15184 .f32) (k : Fin 2048) (f : Fin 1536) :
    wm a2 (ix2 k ⟨4608 + f.val, by omega⟩) = a2 (ix3 0 k ⟨3584 + f.val, by omega⟩) := by
  refine (concatenate_apply_piece 1 (pieces (w0 a2)) _ (ix2 k ⟨4608 + f.val, by omega⟩ : S2048x7168.Idx) 3 (by simp [pieces]) S2048x1536
    (extractStridedSlice S2048x1536 ![0, 3584] (w0 a2) slices_S2048x15184_S2048x1536_0_3584) (by simp [pieces]) rfl 4608 (by simp [pieces]; try rfl)
    (ix2 k f : S2048x1536.Idx) (fun b hb => ?_) rfl).trans ?_
  · match b with
    | ⟨0, _⟩ => rfl
    | ⟨1, _⟩ => exact absurd rfl hb
  · pointwise [w0]

theorem wm_4 (a2 : FVec Ideal S2x2048x15184 .f32) (k : Fin 2048) (f : Fin 512) :
    wm a2 (ix2 k ⟨6144 + f.val, by omega⟩) = a2 (ix3 0 k ⟨5120 + f.val, by omega⟩) := by
  refine (concatenate_apply_piece 1 (pieces (w0 a2)) _ (ix2 k ⟨6144 + f.val, by omega⟩ : S2048x7168.Idx) 4 (by simp [pieces]) S2048x512
    (extractStridedSlice S2048x512 ![0, 5120] (w0 a2) slices_S2048x15184_S2048x512_0_5120) (by simp [pieces]) rfl 6144 (by simp [pieces]; try rfl)
    (ix2 k f : S2048x512.Idx) (fun b hb => ?_) rfl).trans ?_
  · match b with
    | ⟨0, _⟩ => rfl
    | ⟨1, _⟩ => exact absurd rfl hb
  · pointwise [w0]

theorem wm_5 (a2 : FVec Ideal S2x2048x15184 .f32) (k : Fin 2048) (f : Fin 128) :
    wm a2 (ix2 k ⟨6656 + f.val, by omega⟩) = a2 (ix3 0 k ⟨5632 + f.val, by omega⟩) := by
  refine (concatenate_apply_piece 1 (pieces (w0 a2)) _ (ix2 k ⟨6656 + f.val, by omega⟩ : S2048x7168.Idx) 5 (by simp [pieces]) S2048x128
    (extractStridedSlice S2048x128 ![0, 5632] (w0 a2) slices_S2048x15184_S2048x128_0_5632) (by simp [pieces]) rfl 6656 (by simp [pieces]; try rfl)
    (ix2 k f : S2048x128.Idx) (fun b hb => ?_) rfl).trans ?_
  · match b with
    | ⟨0, _⟩ => rfl
    | ⟨1, _⟩ => exact absurd rfl hb
  · pointwise [w0]

theorem wm_6 (a2 : FVec Ideal S2x2048x15184 .f32) (k : Fin 2048) (f : Fin 128) :
    wm a2 (ix2 k ⟨6784 + f.val, by omega⟩) = a2 (ix3 0 k ⟨5760 + f.val, by omega⟩) := by
  refine (concatenate_apply_piece 1 (pieces (w0 a2)) _ (ix2 k ⟨6784 + f.val, by omega⟩ : S2048x7168.Idx) 6 (by simp [pieces]) S2048x128
    (extractStridedSlice S2048x128 ![0, 5760] (w0 a2) slices_S2048x15184_S2048x128_0_5760) (by simp [pieces]) rfl 6784 (by simp [pieces]; try rfl)
    (ix2 k f : S2048x128.Idx) (fun b hb => ?_) rfl).trans ?_
  · match b with
    | ⟨0, _⟩ => rfl
    | ⟨1, _⟩ => exact absurd rfl hb
  · pointwise [w0]

theorem wm_7 (a2 : FVec Ideal S2x2048x15184 .f32) (k : Fin 2048) (f : Fin 80) :
    wm a2 (ix2 k ⟨6912 + f.val, by omega⟩) = a2 (ix3 0 k ⟨6912 + f.val, by omega⟩) := by
  refine (concatenate_apply_piece 1 (pieces (w0 a2)) _ (ix2 k ⟨6912 + f.val, by omega⟩ : S2048x7168.Idx) 7 (by simp [pieces]) S2048x80
    (extractStridedSlice S2048x80 ![0, 6912] (w0 a2) slices_S2048x15184_S2048x80_0_6912) (by simp [pieces]) rfl 6912 (by simp [pieces]; try rfl)
    (ix2 k f : S2048x80.Idx) (fun b hb => ?_) rfl).trans ?_
  · match b with
    | ⟨0, _⟩ => rfl
    | ⟨1, _⟩ => exact absurd rfl hb
  · pointwise [w0]

theorem iblk2_at (c : Dev nD) (t : Fin cfg0.N) (k : Fin 2048) (y : Fin 1792) :
    (iblk m c 2 t : S2048x1792.Idx → EReal) (ix2 k y) = wm (m ((c : Thread nD τ).loc main_arg2)) (ix2 k ⟨t.val % 4 * 1792 + y.val, by show _ < 7168; omega⟩ : S2048x7168.Idx) := by
  blk_simp [iblk, idx_val t]
  rw [V_main_v12]
  show wm (m ((c : Thread nD τ).loc main_arg2)) _ = _
  blk_ext [idx_val t]

theorem iblk0_prev (c : Dev nD) (t : Fin cfg0.N) (h : ¬t.val % 4 = 0) (ht : t.val - 1 < cfg0.N) :
    iblk m c 0 ⟨t.val - 1, ht⟩ = iblk m c 0 t := by
  refine funext fun (y : S1024x2048.Idx) => ?_
  have hN := lt_of_lt_of_eq t.isLt N_0
  have hy : (ix2 (y 0) (y 1) : S1024x2048.Idx) = y := by funext a; match a with | ⟨0, _⟩ => rfl | ⟨1, _⟩ => rfl
  rw [← hy]
  refine (iblk0_at m c ⟨t.val - 1, ht⟩ (y 0) (y 1)).trans (Eq.trans ?_ (iblk0_at m c t (y 0) (y 1)).symm)
  congr 2
  apply Fin.ext
  show (t.val - 1) / 4 * 1024 + (y 0).val = t.val / 4 * 1024 + (y 0).val
  omega

theorem iblk1_prev (c : Dev nD) (t : Fin cfg0.N) (h : ¬t.val % 4 = 0) (ht : t.val - 1 < cfg0.N) :
    iblk m c 1 ⟨t.val - 1, ht⟩ = iblk m c 1 t := by
  funext y
  blk_point [iblk, idx_val t, idx_val ⟨t.val - 1, ht⟩]

theorem scratch_eq (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    rw [outsAt0_A m c ⟨0, hn⟩ rfl]; dsimp only
    frame_out
  | succ n ih =>
    intro hn
    by_cases h : (n + 1) % 4 = 0
    · rw [outsAt0_A m c ⟨n + 1, hn⟩ h]; dsimp only
      frame_out
    · rw [outsAt0_B m c ⟨n + 1, hn⟩ h]
      exact (ih (Nat.lt_of_succ_lt hn)).trans (congrArg₂ (k0_pay1 (F := Ideal))
        (iblk0_prev m c ⟨n + 1, hn⟩ h (Nat.lt_of_succ_lt hn)) (iblk1_prev m c ⟨n + 1, hn⟩ h (Nat.lt_of_succ_lt hn)))

theorem pay1_at (x : FVec Ideal S1024x2048 .f32) (g : FVec Ideal S1x2048 .f32) (r : Fin 1024) (k : Fin 2048) :
    k0_pay1 (F := Ideal) x g (ix2 r k) = Ffn.nrm (fun k => x (ix2 r k)) (fun k => g (ix2 0 k)) k := by
  pointwise [k0_pay1]
  rfl

theorem pay2_at (v3 : FVec Ideal S1024x2048 .bf16) (v4 : FVec Ideal S2048x1792 .bf16) (j : S1024x1792.Idx) :
    k0_pay2 (F := Ideal) v3 v4 j = ∑ k : Fin 2048, v3 (ix2 (j 0) k) * v4 (ix2 k (j 1)) := by
  pointwise [k0_pay2]

/-- The windows' blocks at a point, at their own types. -/
def xb (c : Dev nD) (t : Fin cfg0.N) : FVec Ideal S1024x2048 .f32 := iblk m c 0 t
def gb (c : Dev nD) (t : Fin cfg0.N) : FVec Ideal S1x2048 .f32 := iblk m c 1 t
def wb (c : Dev nD) (t : Fin cfg0.N) : FVec Ideal S2048x1792 .bf16 := iblk m c 2 t
/-- What the result's staging block holds after a point. -/
def ob (c : Dev nD) (n : ℕ) (h : n < cfg0.N) : FVec Ideal S1024x1792 .f32 := (outsAt0 m c n h).1

theorem step (x : FVec Ideal S1024x2048 .f32) (g : FVec Ideal S1x2048 .f32) (v4 : FVec Ideal S2048x1792 .bf16) (j : S1024x1792.Idx) :
    k0_pay2 (F := Ideal) (k0_pay1 (F := Ideal) x g) v4 j = ∑ k : Fin 2048, Ffn.nrm (fun k => x (ix2 (j 0) k)) (fun k => g (ix2 0 k)) k * v4 (ix2 k (j 1)) := by
  rw [pay2_at]
  exact Finset.sum_congr rfl fun k _ => congrArg (· * _) (pay1_at x g (j 0) k)

theorem out_eq (c : Dev nD) (t : Fin cfg0.N) (j : S1024x1792.Idx) :
    ob m c t.val t.isLt j = ∑ k : Fin 2048, Ffn.nrm (fun k => xb m c t (ix2 (j 0) k)) (fun k => gb m c t (ix2 0 k)) k * wb m c t (ix2 k (j 1)) := by
  by_cases h : t.val % 4 = 0
  · refine (congrFun (congrArg Prod.fst (outsAt0_A m c t h)) j).trans ?_
    dsimp only
    frame_out
    exact step (xb m c t) (gb m c t) (wb m c t) j
  · have e : (outsAt0 m c (t.val - 1) (Nat.lt_of_le_of_lt (Nat.sub_le _ _) t.isLt)).2 = k0_pay1 (F := Ideal) (xb m c t) (gb m c t) :=
      (scratch_eq m c (t.val - 1) _).trans (congrArg₂ (k0_pay1 (F := Ideal)) (iblk0_prev m c t h _) (iblk1_prev m c t h _))
    refine Eq.trans ?_ ((congrArg (fun v => k0_pay2 (F := Ideal) v (wb m c t) j) e).trans (step (xb m c t) (gb m c t) (wb m c t) j))
    refine (congrFun (congrArg Prod.fst (outsAt0_B m c t h)) j).trans ?_
    dsimp only
    frame_out
    exact congrArg (fun v => k0_pay2 (F := Ideal) v (wb m c t) j) (Memref.IsWhole.read_unread (Memref.isWhole_whole cc0_scratch0) _)

/-- The kernel's own result as a function of the three arguments. -/
def PK (a0 : FVec Ideal S33792x2048 .f32) (a1 : FVec Ideal S2x2048 .f32) (a2 : FVec Ideal S2x2048x15184 .f32) : FVec Ideal S33792x7168 .f32 := fun i =>
  ∑ k : Fin 2048, Ffn.nrm (fun k => a0 (ix2 (i 0) k)) (fun k => a1 (ix2 0 k)) k * wm a2 (ix2 k (i 1))

/-- The kernel's result array after the run, as a function of the arguments. -/
theorem final (c : Dev nD) : (dats m 0 c).arrAt 3 (cfgs 0).N = PK (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hN := lt_of_lt_of_eq t.isLt N_0
  have hy : (y 0).val < 1024 := (y 0).isLt
  have e4 := (idx_val t).2.2.2
  have hi0 : ((win0_3.blk t).view.emb y 0).val = t.val / 4 * 1024 + (y 0).val := by
    show win0_3.index t (0 : Fin 2) * 1024 + 1 * (y 0).val = _
    rw [e4, Nat.one_mul]; rfl
  have hi1 : ((win0_3.blk t).view.emb y 1).val = t.val % 4 * 1792 + (y 1).val := by
    show win0_3.index t (1 : Fin 2) * 1792 + 1 * (y 1).val = _
    rw [e4, Nat.one_mul]; rfl
  refine (out_eq m c t y).trans ?_
  unfold PK
  have a0 : (fun k : Fin 2048 => xb m c t (ix2 (y 0) k)) = fun k => m ((c : Thread nD τ).loc main_arg0) (ix2 ((win0_3.blk t).view.emb y 0) k : S33792x2048.Idx) :=
    funext fun k => (iblk0_at m c t (y 0) k).trans (congrArg (fun r => m ((c : Thread nD τ).loc main_arg0) (ix2 r k : S33792x2048.Idx)) (Fin.ext hi0.symm))
  have a1 : (fun k : Fin 2048 => gb m c t (ix2 0 k)) = fun k => m ((c : Thread nD τ).loc main_arg1) (ix2 0 k : S2x2048.Idx) :=
    funext fun k => iblk1_at m c t k
  have a2 : (fun k : Fin 2048 => wb m c t (ix2 k (y 1))) = fun k => wm (m ((c : Thread nD τ).loc main_arg2)) (ix2 k ((win0_3.blk t).view.emb y 1)) :=
    funext fun k => (iblk2_at m c t k (y 1)).trans (congrArg (fun r => wm (m ((c : Thread nD τ).loc main_arg2)) (ix2 k r : S2048x7168.Idx)) (Fin.ext hi1.symm))
  rw [a0, a1]
  exact Finset.sum_congr rfl fun k _ => congrArg _ (congrFun a2 k)

/-- The pieces of the kernel's result in the order of the reference's columns. -/
def outs (p : FVec Ideal S33792x7168 .f32) : List ((s : Shape) × (s.Idx → EReal)) :=
  [⟨S33792x2048, extractStridedSlice S33792x2048 ![0, 0] p slices_S33792x7168_S33792x2048_0_0⟩, ⟨S33792x3840, extractStridedSlice S33792x3840 ![0, 3072] p slices_S33792x7168_S33792x3840_0_3072⟩, ⟨S33792x1024, extractStridedSlice S33792x1024 ![0, 2048] p slices_S33792x7168_S33792x1024_0_2048⟩, ⟨S33792x80, extractStridedSlice S33792x80 ![0, 6912] p slices_S33792x7168_S33792x80_0_6912⟩]

/-- The kernel's result with its columns in the reference's order. -/
def tail (p : FVec Ideal S33792x7168 .f32) : FVec Ideal S33792x6992 .f32 :=
  concatenate S33792x6992 1 (outs p) concatenates_S33792x2048_S33792x3840_S33792x1024_S33792x80_S33792x6992_d1

theorem after_v23 (c : Dev nD) : Pipeline.afterTail₀ cfgs (dats m) 0 (V0 m) [hostOps1] c main_v23 = tail ((dats m 0 c).arrAt 3 (cfgs 0).N) := by
  unfold Pipeline.afterTail₀
  rw [← Pipeline.withArrays_arr spec0 (by decide) c (V0 m c) (fun w => (dats m 0 c).arrAt w (cfgs 0).N) 3]
  show StableHlo.after (hostOps1 ++ []) _ _ = _
  rw [List.append_nil]
  after_results <;> rfl

theorem tail_0 (p : FVec Ideal S33792x7168 .f32) (r : Fin 33792) (f : Fin 2048) :
    tail p (ix2 r ⟨0 + f.val, by omega⟩) = p (ix2 r ⟨0 + f.val, by omega⟩) := by
  refine (concatenate_apply_piece 1 (outs p) _ (ix2 r ⟨0 + f.val, by omega⟩ : S33792x6992.Idx) 0 (by simp [outs]) S33792x2048
    (extractStridedSlice S33792x2048 ![0, 0] p slices_S33792x7168_S33792x2048_0_0) (by simp [outs]) rfl 0 (by simp [outs]; try rfl)
    (ix2 r f : S33792x2048.Idx) (fun b hb => ?_) rfl).trans ?_
  · match b with
    | ⟨0, _⟩ => rfl
    | ⟨1, _⟩ => exact absurd rfl hb
  · pointwise

theorem tail_1 (p : FVec Ideal S33792x7168 .f32) (r : Fin 33792) (f : Fin 3840) :
    tail p (ix2 r ⟨2048 + f.val, by omega⟩) = p (ix2 r ⟨3072 + f.val, by omega⟩) := by
  refine (concatenate_apply_piece 1 (outs p) _ (ix2 r ⟨2048 + f.val, by omega⟩ : S33792x6992.Idx) 1 (by simp [outs]) S33792x3840
    (extractStridedSlice S33792x3840 ![0, 3072] p slices_S33792x7168_S33792x3840_0_3072) (by simp [outs]) rfl 2048 (by simp [outs]; try rfl)
    (ix2 r f : S33792x3840.Idx) (fun b hb => ?_) rfl).trans ?_
  · match b with
    | ⟨0, _⟩ => rfl
    | ⟨1, _⟩ => exact absurd rfl hb
  · pointwise

theorem tail_2 (p : FVec Ideal S33792x7168 .f32) (r : Fin 33792) (f : Fin 1024) :
    tail p (ix2 r ⟨5888 + f.val, by omega⟩) = p (ix2 r ⟨2048 + f.val, by omega⟩) := by
  refine (concatenate_apply_piece 1 (outs p) _ (ix2 r ⟨5888 + f.val, by omega⟩ : S33792x6992.Idx) 2 (by simp [outs]) S33792x1024
    (extractStridedSlice S33792x1024 ![0, 2048] p slices_S33792x7168_S33792x1024_0_2048) (by simp [outs]) rfl 5888 (by simp [outs]; try rfl)
    (ix2 r f : S33792x1024.Idx) (fun b hb => ?_) rfl).trans ?_
  · match b with
    | ⟨0, _⟩ => rfl
    | ⟨1, _⟩ => exact absurd rfl hb
  · pointwise

theorem tail_3 (p : FVec Ideal S33792x7168 .f32) (r : Fin 33792) (f : Fin 80) :
    tail p (ix2 r ⟨6912 + f.val, by omega⟩) = p (ix2 r ⟨6912 + f.val, by omega⟩) := by
  refine (concatenate_apply_piece 1 (outs p) _ (ix2 r ⟨6912 + f.val, by omega⟩ : S33792x6992.Idx) 3 (by simp [outs]) S33792x80
    (extractStridedSlice S33792x80 ![0, 6912] p slices_S33792x7168_S33792x80_0_6912) (by simp [outs]) rfl 6912 (by simp [outs]; try rfl)
    (ix2 r f : S33792x80.Idx) (fun b hb => ?_) rfl).trans ?_
  · match b with
    | ⟨0, _⟩ => rfl
    | ⟨1, _⟩ => exact absurd rfl hb
  · pointwise

/-- The result as a function of the three arguments. -/
def OUT (a0 : FVec Ideal S33792x2048 .f32) (a1 : FVec Ideal S2x2048 .f32) (a2 : FVec Ideal S2x2048x15184 .f32) : FVec Ideal S33792x6992 .f32 := fun i =>
  ∑ k : Fin 2048, Ffn.nrm (fun k => a0 (ix2 (i 0) k)) (fun k => a1 (ix2 0 k)) k * a2 (ix3 0 k ⟨(i 1).val, by have : (i 1).val < 6992 := (i 1).isLt; show _ < 15184; omega⟩)

/-- One column of the kernel's result: the rows against the weights' column found there. -/
theorem PK_at (a0 : FVec Ideal S33792x2048 .f32) (a1 : FVec Ideal S2x2048 .f32) (a2 : FVec Ideal S2x2048x15184 .f32) (r : Fin 33792)
    (y : Fin 7168) (f : Fin 6992) (h : ∀ k : Fin 2048, wm a2 (ix2 k y) = a2 (ix3 0 k ⟨f.val, by omega⟩)) : PK a0 a1 a2 (ix2 r y) = OUT a0 a1 a2 (ix2 r f) :=
  Finset.sum_congr rfl fun k _ => congrArg _ (h k)

theorem tail_PK_at (a0 : FVec Ideal S33792x2048 .f32) (a1 : FVec Ideal S2x2048 .f32) (a2 : FVec Ideal S2x2048x15184 .f32) (r : Fin 33792) (f : Fin 6992) :
    tail (PK a0 a1 a2) (ix2 r f) = OUT a0 a1 a2 (ix2 r f) := by
  by_cases h0 : f.val < 2048
  · refine (congrArg (fun x => tail (PK a0 a1 a2) (ix2 r x : S33792x6992.Idx)) (Fin.ext (by show f.val = 0 + (f.val - 0); omega) : f = ⟨0 + (⟨f.val - 0, by omega⟩ : Fin 2048).val, by omega⟩)).trans
      ((tail_0 _ r ⟨f.val - 0, by omega⟩).trans (PK_at a0 a1 a2 r _ f fun k => ?_))
    refine (congrArg (fun x => wm a2 (ix2 k x : S2048x7168.Idx)) (Fin.ext (by show 0 + (f.val - 0) = 0 + (f.val - 0); omega))).trans
      ((wm_0 a2 k ⟨f.val - 0, by omega⟩).trans (congrArg (fun x => a2 (ix3 0 k x : S2x2048x15184.Idx)) (Fin.ext (by show 0 + (f.val - 0) = f.val; omega))))
  by_cases h2 : f.val < 3584
  · refine (congrArg (fun x => tail (PK a0 a1 a2) (ix2 r x : S33792x6992.Idx)) (Fin.ext (by show f.val = 2048 + (f.val - 2048); omega) : f = ⟨2048 + (⟨f.val - 2048, by omega⟩ : Fin 3840).val, by omega⟩)).trans
      ((tail_1 _ r ⟨f.val - 2048, by omega⟩).trans (PK_at a0 a1 a2 r _ f fun k => ?_))
    refine (congrArg (fun x => wm a2 (ix2 k x : S2048x7168.Idx)) (Fin.ext (by show 3072 + (f.val - 2048) = 3072 + (f.val - 2048); omega))).trans
      ((wm_2 a2 k ⟨f.val - 2048, by omega⟩).trans (congrArg (fun x => a2 (ix3 0 k x : S2x2048x15184.Idx)) (Fin.ext (by show 2048 + (f.val - 2048) = f.val; omega))))
  by_cases h3 : f.val < 5120
  · refine (congrArg (fun x => tail (PK a0 a1 a2) (ix2 r x : S33792x6992.Idx)) (Fin.ext (by show f.val = 2048 + (f.val - 2048); omega) : f = ⟨2048 + (⟨f.val - 2048, by omega⟩ : Fin 3840).val, by omega⟩)).trans
      ((tail_1 _ r ⟨f.val - 2048, by omega⟩).trans (PK_at a0 a1 a2 r _ f fun k => ?_))
    refine (congrArg (fun x => wm a2 (ix2 k x : S2048x7168.Idx)) (Fin.ext (by show 3072 + (f.val - 2048) = 4608 + (f.val - 3584); omega))).trans
      ((wm_3 a2 k ⟨f.val - 3584, by omega⟩).trans (congrArg (fun x => a2 (ix3 0 k x : S2x2048x15184.Idx)) (Fin.ext (by show 3584 + (f.val - 3584) = f.val; omega))))
  by_cases h4 : f.val < 5632
  · refine (congrArg (fun x => tail (PK a0 a1 a2) (ix2 r x : S33792x6992.Idx)) (Fin.ext (by show f.val = 2048 + (f.val - 2048); omega) : f = ⟨2048 + (⟨f.val - 2048, by omega⟩ : Fin 3840).val, by omega⟩)).trans
      ((tail_1 _ r ⟨f.val - 2048, by omega⟩).trans (PK_at a0 a1 a2 r _ f fun k => ?_))
    refine (congrArg (fun x => wm a2 (ix2 k x : S2048x7168.Idx)) (Fin.ext (by show 3072 + (f.val - 2048) = 6144 + (f.val - 5120); omega))).trans
      ((wm_4 a2 k ⟨f.val - 5120, by omega⟩).trans (congrArg (fun x => a2 (ix3 0 k x : S2x2048x15184.Idx)) (Fin.ext (by show 5120 + (f.val - 5120) = f.val; omega))))
  by_cases h5 : f.val < 5760
  · refine (congrArg (fun x => tail (PK a0 a1 a2) (ix2 r x : S33792x6992.Idx)) (Fin.ext (by show f.val = 2048 + (f.val - 2048); omega) : f = ⟨2048 + (⟨f.val - 2048, by omega⟩ : Fin 3840).val, by omega⟩)).trans
      ((tail_1 _ r ⟨f.val - 2048, by omega⟩).trans (PK_at a0 a1 a2 r _ f fun k => ?_))
    refine (congrArg (fun x => wm a2 (ix2 k x : S2048x7168.Idx)) (Fin.ext (by show 3072 + (f.val - 2048) = 6656 + (f.val - 5632); omega))).trans
      ((wm_5 a2 k ⟨f.val - 5632, by omega⟩).trans (congrArg (fun x => a2 (ix3 0 k x : S2x2048x15184.Idx)) (Fin.ext (by show 5632 + (f.val - 5632) = f.val; omega))))
  by_cases h6 : f.val < 5888
  · refine (congrArg (fun x => tail (PK a0 a1 a2) (ix2 r x : S33792x6992.Idx)) (Fin.ext (by show f.val = 2048 + (f.val - 2048); omega) : f = ⟨2048 + (⟨f.val - 2048, by omega⟩ : Fin 3840).val, by omega⟩)).trans
      ((tail_1 _ r ⟨f.val - 2048, by omega⟩).trans (PK_at a0 a1 a2 r _ f fun k => ?_))
    refine (congrArg (fun x => wm a2 (ix2 k x : S2048x7168.Idx)) (Fin.ext (by show 3072 + (f.val - 2048) = 6784 + (f.val - 5760); omega))).trans
      ((wm_6 a2 k ⟨f.val - 5760, by omega⟩).trans (congrArg (fun x => a2 (ix3 0 k x : S2x2048x15184.Idx)) (Fin.ext (by show 5760 + (f.val - 5760) = f.val; omega))))
  by_cases h1 : f.val < 6912
  · refine (congrArg (fun x => tail (PK a0 a1 a2) (ix2 r x : S33792x6992.Idx)) (Fin.ext (by show f.val = 5888 + (f.val - 5888); omega) : f = ⟨5888 + (⟨f.val - 5888, by omega⟩ : Fin 1024).val, by omega⟩)).trans
      ((tail_2 _ r ⟨f.val - 5888, by omega⟩).trans (PK_at a0 a1 a2 r _ f fun k => ?_))
    refine (congrArg (fun x => wm a2 (ix2 k x : S2048x7168.Idx)) (Fin.ext (by show 2048 + (f.val - 5888) = 2048 + (f.val - 5888); omega))).trans
      ((wm_1 a2 k ⟨f.val - 5888, by omega⟩).trans (congrArg (fun x => a2 (ix3 0 k x : S2x2048x15184.Idx)) (Fin.ext (by show 5888 + (f.val - 5888) = f.val; omega))))
  refine (congrArg (fun x => tail (PK a0 a1 a2) (ix2 r x : S33792x6992.Idx)) (Fin.ext (by show f.val = 6912 + (f.val - 6912); omega) : f = ⟨6912 + (⟨f.val - 6912, by omega⟩ : Fin 80).val, by omega⟩)).trans
    ((tail_3 _ r ⟨f.val - 6912, by omega⟩).trans (PK_at a0 a1 a2 r _ f fun k => ?_))
  refine (congrArg (fun x => wm a2 (ix2 k x : S2048x7168.Idx)) (Fin.ext (by show 6912 + (f.val - 6912) = 6912 + (f.val - 6912); omega))).trans
    ((wm_7 a2 k ⟨f.val - 6912, by omega⟩).trans (congrArg (fun x => a2 (ix3 0 k x : S2x2048x15184.Idx)) (Fin.ext (by show 6912 + (f.val - 6912) = f.val; omega))))

theorem tail_PK (a0 : FVec Ideal S33792x2048 .f32) (a1 : FVec Ideal S2x2048 .f32) (a2 : FVec Ideal S2x2048x15184 .f32) :
    tail (PK a0 a1 a2) = OUT a0 a1 a2 := by
  funext (i : S33792x6992.Idx)
  have hi : (ix2 (i 0) (i 1) : S33792x6992.Idx) = i := by funext a; match a with | ⟨0, _⟩ => rfl | ⟨1, _⟩ => rfl
  rw [← hi]
  exact tail_PK_at a0 a1 a2 (i 0) (i 1)

/-- The run: the result as that function of the arguments, which end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v23) = OUT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v23 (Pipeline.mem_restRefs_of main_v23 (by decide) (by decide))).trans
      ((after_v23 m c).trans ((congrArg tail (final m c)).trans (tail_PK _ _ _))), h.2 c⟩)
    (θ_run_and (run_main m ρ) (unchanged m ρ))

end Cert.Kernel4Ideal.ProjValue

end
-- ==== Proof.ProjRef.lean ====
/- Hand-written, untrusted: the fourth reference's projection as a function of its arguments, entry by entry. -/
module

public import proofs.«01_k».proof.Proof.Gen.Reference4Ideal.Run
public import proofs.«01_k».proof.Proof.FfnMath

@[expose] public section

set_option maxRecDepth 16384

noncomputable section

open Idealize.ShloMosaic Idealize.ShloMosaic.TcCoe Idealize.SL.Sem
open scoped BigOperators

namespace Cert.Reference4Ideal.ProjRef
open Cert.Reference4Ideal Cert.Reference4Ideal.Gen

/-- The rows normalised and scaled. -/
def nrm (x : FVec Ideal S33792x2048 .f32) (a1 : FVec Ideal S2x2048 .f32) : FVec Ideal S33792x2048 .f32 :=
  mulf (mulf x (broadcastInDim S33792x2048 ![0, 1] bcast_S33792x1_S33792x2048_0_1 (Host.rsqrt (addf (Host.divf (broadcastInDim S33792x1 ![0] bcast_S33792_S33792x1_0 (Host.reduceAdd (mulf x x) (constant S_ .f32 0x00000000#32) reducesTo_S33792x2048_S33792_d1 h_S_)) (broadcastInDim S33792x1 ![] bcast_S_S33792x1 (constant S_ .f32 0x45000000#32))) (broadcastInDim S33792x1 ![] bcast_S_S33792x1 (constant S_ .f32 0x358637BD#32)))))) (broadcastInDim S33792x2048 ![0, 1] bcast_S1x2048_S33792x2048_0_1 (broadcastInDim S1x2048 ![1] bcast_S2048_S1x2048_1 (shapeCast S2048 (extractStridedSlice S1x2048 ![0, 0] a1 slices_S2x2048_S1x2048_0_0) shapeCasts_S1x2048_S2048)))

/-- The input projection's columns before the gates'. -/
def res (n : FVec Ideal S33792x2048 .f32) (a2 : FVec Ideal S2x2048x15184 .f32) : FVec Ideal S33792x6992 .f32 :=
  extractStridedSlice S33792x6992 ![0, 0] (Host.dotGeneral dot_S33792x2048_S2048x15184_S33792x15184_1_0_0_1_n_n none n (shapeCast S2048x15184 (extractStridedSlice S1x2048x15184 ![0, 0, 0] a2 slices_S2x2048x15184_S1x2048x15184_0_0_0) shapeCasts_S1x2048x15184_S2048x15184)) slices_S33792x15184_S33792x6992_0_0

theorem nrm_at (x : FVec Ideal S33792x2048 .f32) (a1 : FVec Ideal S2x2048 .f32) (r : Fin 33792) (k : Fin 2048) :
    nrm x a1 (ix2 r k) = Ffn.nrm (fun k => x (ix2 r k)) (fun k => a1 (ix2 0 k)) k := by
  pointwise [nrm]
  rfl

theorem dot_at (x : FVec Ideal S33792x2048 .f32) (a2 : FVec Ideal S2x2048x15184 .f32) (i : S33792x6992.Idx) :
    res x a2 i = ∑ k : Fin 2048, x (ix2 (i 0) k) * a2 (ix3 0 k ⟨(i 1).val, by have : (i 1).val < 6992 := (i 1).isLt; show _ < 15184; omega⟩) := by
  pointwise [res]

/-- The reference's result at an index. -/
theorem res_at (a0 : FVec Ideal S33792x2048 .f32) (a1 : FVec Ideal S2x2048 .f32) (a2 : FVec Ideal S2x2048x15184 .f32) (i : S33792x6992.Idx) :
    res (nrm a0 a1) a2 i = ∑ k : Fin 2048, Ffn.nrm (fun k => a0 (ix2 (i 0) k)) (fun k => a1 (ix2 0 k)) k * a2 (ix3 0 k ⟨(i 1).val, by have : (i 1).val < 6992 := (i 1).isLt; show _ < 15184; omega⟩) :=
  (dot_at _ a2 i).trans (Finset.sum_congr rfl fun k _ => congrArg (· * _) (nrm_at a0 a1 (i 0) k))

end Cert.Reference4Ideal.ProjRef

end
-- ==== Proof.ConvMath.lean ====
/- Hand-written, untrusted: the gated short convolution's entry, over the extended reals. -/
module

public import Idealize.ShloMosaic.Lib.Pipeline.ValueKit

@[expose] public section

noncomputable section

namespace Cert.Conv

/-- The product that is convolved, at a row. -/
def zrow (p : Fin 33792 → Fin 6992 → EReal) (n : Fin 33792) (f : Fin 512) : EReal :=
  p n ⟨2560 + f.val, by omega⟩ * p n ⟨3072 + f.val, by omega⟩

/-- The same some positions back in the sequence, zero before its start. -/
def zs (p : Fin 33792 → Fin 6992 → EReal) (b : Fin 8) (s : Fin 4224) (f : Fin 512) (k : ℕ) : EReal :=
  if k ≤ s.val then zrow p ⟨b.val * 4224 + (s.val - k), by omega⟩ f else 0

/-- The result's entry: the gate times the three taps. -/
def out (p : Fin 33792 → Fin 6992 → EReal) (w : Fin 3 → Fin 512 → EReal) (b : Fin 8) (s : Fin 4224) (f : Fin 512) : EReal :=
  p ⟨b.val * 4224 + s.val, by omega⟩ ⟨2048 + f.val, by omega⟩ * (w 0 f * zs p b s f 0 + w 1 f * zs p b s f 1 + w 2 f * zs p b s f 2)

end Cert.Conv

end
-- ==== Proof.ConvKernel.lean ====
/- Hand-written, untrusted: the short convolution's result array after a run of the fifth kernel, as a function of its arguments. -/
module

public import proofs.«01_k».proof.Proof.Gen.Kernel5Ideal.Frame
public import proofs.«01_k».proof.Proof.FfnMath
public import proofs.«01_k».proof.Proof.ConvMath
public import Idealize.ShloMosaic.Lib.VecWindow
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.ConvValue
open Cert.Kernel5Ideal Cert.Kernel5Ideal.Gen

variable (m : (ℓ : Loc nD τ sig) → Buf (Elt Ideal) ℓ)

theorem idx_val : ∀ t : Fin grid0.N,
    win0_0.index t = ![t.val / 3, t.val % 3, 6] ∧ win0_1.index t = ![t.val / 3, t.val % 3, 7] ∧ win0_2.index t = ![t.val / 3, t.val % 3, 8]
      ∧ win0_3.index t = ![0, 0] ∧ win0_4.index t = ![t.val / 3, t.val % 3, 0] :=
  (by decide +kernel : ∀ t : Fin grid0.N,
    win0_0.index t = ![t.val / 3, t.val % 3, 6] ∧ win0_1.index t = ![t.val / 3, t.val % 3, 7] ∧ win0_2.index t = ![t.val / 3, t.val % 3, 8]
      ∧ win0_3.index t = ![0, 0] ∧ win0_4.index t = ![t.val / 3, t.val % 3, 0])

theorem V_eq (c : Dev nD) (b : Ref sig .tc) : V m c b = StableHlo.after hostOps0 (fun b => m (c, b)) (Proc.devRef .tc b) :=
  congrArg (fun l => StableHlo.after l (fun b => m (c, b)) (Proc.devRef .tc b)) (List.append_nil hostOps0)

/-- The packed pieces of the projected rows. -/
def pieces (p : FVec Ideal S33792x6992 .f32) : List ((s : Shape) × (s.Idx → EReal)) :=
  [⟨S33792x2048, extractStridedSlice S33792x2048 ![0, 0] p slices_S33792x6992_S33792x2048_0_0⟩,
   ⟨S33792x1024, extractStridedSlice S33792x1024 ![0, 5888] p slices_S33792x6992_S33792x1024_0_5888⟩,
   ⟨S33792x3840, extractStridedSlice S33792x3840 ![0, 2048] p slices_S33792x6992_S33792x3840_0_2048⟩,
   ⟨S33792x80, extractStridedSlice S33792x80 ![0, 6912] p slices_S33792x6992_S33792x80_0_6912⟩,
   ⟨S33792x176, broadcastInDim S33792x176 ![] bcast_S_S33792x176 (constant (F := Ideal) S_ .f32 0x00000000#32)⟩]

/-- The packed rows. -/
def pp (p : FVec Ideal S33792x6992 .f32) : FVec Ideal S33792x7168 .f32 :=
  concatenate S33792x7168 1 (pieces p) concatenates_S33792x2048_S33792x1024_S33792x3840_S33792x80_S33792x176_S33792x7168_d1

theorem V_main_v6 (c : Dev nD) : V m c main_v6 = shapeCast S8x4224x7168 (pp (m ((c : Thread nD τ).loc main_arg0))) shapeCasts_S33792x7168_S8x4224x7168 := by
  rw [V_eq]
  after_results <;> rfl

/-- The convolution's weights in the first rows of eight. -/
def wv (w : FVec Ideal S2x3x512 .f32) : FVec Ideal S8x512 .f32 :=
  Host.scatter scatter_S8x512_S1_S3x512_01_n_0_0 (fun _ b => b) (broadcastInDim S8x512 ![] bcast_S_S8x512 (constant (F := Ideal) S_ .f32 0x00000000#32))
    (broadcastInDim S1 ![] bcast_S_S1 (constantI S_ 32 0#32))
    (shapeCast S3x512 (extractStridedSlice S1x3x512 ![0, 0, 0] w slices_S2x3x512_S1x3x512_0_0_0) shapeCasts_S1x3x512_S3x512)

theorem V_main_v11 (c : Dev nD) : V m c main_v11 = wv (m ((c : Thread nD τ).loc main_arg1)) := by
  rw [V_eq]
  after_results <;> rfl

theorem pp_at (p : FVec Ideal S33792x6992 .f32) (r : Fin 33792) (f : Fin 3840) :
    pp p (ix2 r ⟨3072 + f.val, by omega⟩) = p (ix2 r ⟨2048 + f.val, by omega⟩) := by
  refine (concatenate_apply_piece 1 (pieces p) _ (ix2 r ⟨3072 + f.val, by omega⟩ : S33792x7168.Idx) 2 (by simp [pieces]) S33792x3840
    (extractStridedSlice S33792x3840 ![0, 2048] p slices_S33792x6992_S33792x3840_0_2048) (by simp [pieces]) rfl 3072 (by simp [pieces]; try rfl)
    (ix2 r f : S33792x3840.Idx) (fun b hb => ?_) rfl).trans ?_
  · match b with
    | ⟨0, _⟩ => rfl
    | ⟨1, _⟩ => exact absurd rfl hb
  · pointwise

/-- Update `(a', b')` lands at `(a, b)` exactly when it is `(a, b)`: the one index word is 0. -/
theorem lands (idx : IVec S1 32) (hidx : idx (ix1 0) = 0#32) (a' : Fin 3) (b' : Fin 512) (a : Fin 8) (b : Fin 512) :
    scatter_S8x512_S1_S3x512_01_n_0_0.resultIdx? (ix2 a' b' : S3x512.Idx) idx = some (ix2 a b : S8x512.Idx) ↔ a'.val = a.val ∧ b' = b := by
  have hw0 : scatter_S8x512_S1_S3x512_01_n_0_0.window (ix2 a' b' : S3x512.Idx) 0 = a'.val := rfl
  have hw1 : scatter_S8x512_S1_S3x512_01_n_0_0.window (ix2 a' b' : S3x512.Idx) 1 = b'.val := rfl
  have hs1 : scatter_S8x512_S1_S3x512_01_n_0_0.start (ix2 a' b' : S3x512.Idx) idx 1 = 0 := rfl
  have hs0 : scatter_S8x512_S1_S3x512_01_n_0_0.start (ix2 a' b' : S3x512.Idx) idx 0 = 0 := by
    have e : scatter_S8x512_S1_S3x512_01_n_0_0.start (ix2 a' b' : S3x512.Idx) idx 0 = (idx (ix1 0)).toInt := by
      refine congrArg (fun i => (idx i).toInt) ?_
      funext x
      match x with
      | ⟨0, _⟩ => exact Subsingleton.elim (α := Fin 1) _ _
    rw [e, hidx]; rfl
  refine (Routing.resultIdx?_ix2 _ _ _ _ _).trans ?_
  rw [hs0, hw0, hs1, hw1, Fin.ext_iff]
  omega

theorem wv_at (w : FVec Ideal S2x3x512 .f32) (a : Fin 3) (f : Fin 512) : wv w (ix2 ⟨a.val, by omega⟩ f) = w (ix3 0 a f) := by
  refine (Routing.scatter_set_hit _ _ _ _ _ (w (ix3 0 a f)) (fun k hk => ?_) (ix2 a f : S3x512.Idx) ((lands _ rfl a f _ f).2 ⟨rfl, rfl⟩))
  have hk' : (ix2 (k 0) (k 1) : S3x512.Idx) = k := by funext a; match a with | ⟨0, _⟩ => rfl | ⟨1, _⟩ => rfl
  rw [← hk'] at hk ⊢
  obtain ⟨h0, h1⟩ := (lands _ rfl (k 0) (k 1) _ f).1 hk
  have h0' : (k 0 : Fin 3) = a := Fin.ext h0
  rw [h0', h1]
  pointwise

/-- The packed rows as eight sequences. -/
def pk (p : FVec Ideal S33792x6992 .f32) : FVec Ideal S8x4224x7168 .f32 := shapeCast S8x4224x7168 (pp p) shapeCasts_S33792x7168_S8x4224x7168

theorem pk_at (p : FVec Ideal S33792x6992 .f32) (b : Fin 8) (s : Fin 4224) (f : Fin 3840) :
    pk p (ix3 b s ⟨3072 + f.val, by omega⟩) = p (ix2 ⟨b.val * 4224 + s.val, by omega⟩ ⟨2048 + f.val, by omega⟩) := by
  refine Eq.trans ?_ (pp_at p ⟨b.val * 4224 + s.val, by omega⟩ f)
  generalize hq : pp p = q
  unfold pk
  rw [hq]
  pointwise

/-- The windows' blocks at a point, at their own types. -/
def bb (c : Dev nD) (t : Fin cfg0.N) : FVec Ideal S1x1408x512 .f32 := iblk m c 0 t
def cb (c : Dev nD) (t : Fin cfg0.N) : FVec Ideal S1x1408x512 .f32 := iblk m c 1 t
def ub (c : Dev nD) (t : Fin cfg0.N) : FVec Ideal S1x1408x512 .f32 := iblk m c 2 t
def wb (c : Dev nD) (t : Fin cfg0.N) : FVec Ideal S8x512 .f32 := iblk m c 3 t

/-- The carried scratch's rows. -/
def row (q : Fin 8) (x : Vec Ideal S8x512 .f32) : Vec Ideal S1x512 .f32 := fun j => x (ix2 q (j 1))

theorem bb_e0 (t : Fin cfg0.N) (r : Fin 1408) (f : Fin 512) : (((cfg0.win 0).blk t).view.emb (ix3 0 r f : S1x1408x512.Idx) 0).val = t.val / 3 := by
  show win0_0.index t (0 : Fin 3) * 1 + 1 * 0 = _
  rw [(idx_val t).1, Nat.mul_one, Nat.mul_zero, Nat.add_zero]; rfl
theorem bb_e1 (t : Fin cfg0.N) (r : Fin 1408) (f : Fin 512) : (((cfg0.win 0).blk t).view.emb (ix3 0 r f : S1x1408x512.Idx) 1).val = t.val % 3 * 1408 + r.val := by
  show win0_0.index t (1 : Fin 3) * 1408 + 1 * r.val = _
  rw [(idx_val t).1, Nat.one_mul]; rfl
theorem bb_e2 (t : Fin cfg0.N) (r : Fin 1408) (f : Fin 512) : (((cfg0.win 0).blk t).view.emb (ix3 0 r f : S1x1408x512.Idx) 2).val = 3072 + (0 + f.val) := by
  show win0_0.index t (2 : Fin 3) * 512 + 1 * f.val = _
  rw [(idx_val t).1, Nat.one_mul]
  show 6 * 512 + f.val = 3072 + (0 + f.val)
  omega
theorem bb_e3 (t : Fin cfg0.N) (r : Fin 1408) (f : Fin 512) (q : FVec Ideal S8x4224x7168 .f32) :
    (View.read (Elt Ideal) ((cfg0.win 0).blk t).view q : S1x1408x512.Idx → EReal) (ix3 0 r f) = q (((cfg0.win 0).blk t).view.emb (ix3 0 r f : S1x1408x512.Idx)) := rfl
theorem bb_e4 (c : Dev nD) (t : Fin cfg0.N) (q : FVec Ideal S8x4224x7168 .f32) (hq : V m c main_v6 = q) :
    (iblk m c 0 t : S1x1408x512.Idx → EReal) = View.read (Elt Ideal) ((cfg0.win 0).blk t).view q := by
  subst hq
  rfl
theorem bb_at (c : Dev nD) (t : Fin cfg0.N) (r : Fin 1408) (f : Fin 512) :
    (iblk m c 0 t : S1x1408x512.Idx → EReal) (ix3 0 r f) = m ((c : Thread nD τ).loc main_arg0) (ix2 ⟨t.val / 3 * 4224 + (t.val % 3 * 1408 + r.val), by have := lt_of_lt_of_eq t.isLt N_0; show _ < 33792; omega⟩ ⟨2048 + (0 + f.val), by have := f.isLt; show _ < 6992; omega⟩ : S33792x6992.Idx) := by
  have hN := lt_of_lt_of_eq t.isLt N_0
  rw [bb_e4 m c t _ (V_main_v6 m c), bb_e3]
  refine Eq.trans (congrArg (pk (m ((c : Thread nD τ).loc main_arg0))) ?_) (pk_at (m ((c : Thread nD τ).loc main_arg0)) ⟨t.val / 3, by omega⟩ ⟨t.val % 3 * 1408 + r.val, by omega⟩ ⟨0 + f.val, by omega⟩)
  funext a
  match a with
  | ⟨0, _⟩ => exact Fin.ext (bb_e0 t r f)
  | ⟨1, _⟩ => exact Fin.ext (bb_e1 t r f)
  | ⟨2, _⟩ => exact Fin.ext (bb_e2 t r f)

theorem cb_e0 (t : Fin cfg0.N) (r : Fin 1408) (f : Fin 512) : (((cfg0.win 1).blk t).view.emb (ix3 0 r f : S1x1408x512.Idx) 0).val = t.val / 3 := by
  show win0_1.index t (0 : Fin 3) * 1 + 1 * 0 = _
  rw [(idx_val t).2.1, Nat.mul_one, Nat.mul_zero, Nat.add_zero]; rfl
theorem cb_e1 (t : Fin cfg0.N) (r : Fin 1408) (f : Fin 512) : (((cfg0.win 1).blk t).view.emb (ix3 0 r f : S1x1408x512.Idx) 1).val = t.val % 3 * 1408 + r.val := by
  show win0_1.index t (1 : Fin 3) * 1408 + 1 * r.val = _
  rw [(idx_val t).2.1, Nat.one_mul]; rfl
theorem cb_e2 (t : Fin cfg0.N) (r : Fin 1408) (f : Fin 512) : (((cfg0.win 1).blk t).view.emb (ix3 0 r f : S1x1408x512.Idx) 2).val = 3072 + (512 + f.val) := by
  show win0_1.index t (2 : Fin 3) * 512 + 1 * f.val = _
  rw [(idx_val t).2.1, Nat.one_mul]
  show 7 * 512 + f.val = 3072 + (512 + f.val)
  omega
theorem cb_e3 (t : Fin cfg0.N) (r : Fin 1408) (f : Fin 512) (q : FVec Ideal S8x4224x7168 .f32) :
    (View.read (Elt Ideal) ((cfg0.win 1).blk t).view q : S1x1408x512.Idx → EReal) (ix3 0 r f) = q (((cfg0.win 1).blk t).view.emb (ix3 0 r f : S1x1408x512.Idx)) := rfl
theorem cb_e4 (c : Dev nD) (t : Fin cfg0.N) (q : FVec Ideal S8x4224x7168 .f32) (hq : V m c main_v6 = q) :
    (iblk m c 1 t : S1x1408x512.Idx → EReal) = View.read (Elt Ideal) ((cfg0.win 1).blk t).view q := by
  subst hq
  rfl
theorem cb_at (c : Dev nD) (t : Fin cfg0.N) (r : Fin 1408) (f : Fin 512) :
    (iblk m c 1 t : S1x1408x512.Idx → EReal) (ix3 0 r f) = m ((c : Thread nD τ).loc main_arg0) (ix2 ⟨t.val / 3 * 4224 + (t.val % 3 * 1408 + r.val), by have := lt_of_lt_of_eq t.isLt N_0; show _ < 33792; omega⟩ ⟨2048 + (512 + f.val), by have := f.isLt; show _ < 6992; omega⟩ : S33792x6992.Idx) := by
  have hN := lt_of_lt_of_eq t.isLt N_0
  rw [cb_e4 m c t _ (V_main_v6 m c), cb_e3]
  refine Eq.trans (congrArg (pk (m ((c : Thread nD τ).loc main_arg0))) ?_) (pk_at (m ((c : Thread nD τ).loc main_arg0)) ⟨t.val / 3, by omega⟩ ⟨t.val % 3 * 1408 + r.val, by omega⟩ ⟨512 + f.val, by omega⟩)
  funext a
  match a with
  | ⟨0, _⟩ => exact Fin.ext (cb_e0 t r f)
  | ⟨1, _⟩ => exact Fin.ext (cb_e1 t r f)
  | ⟨2, _⟩ => exact Fin.ext (cb_e2 t r f)

theorem ub_e0 (t : Fin cfg0.N) (r : Fin 1408) (f : Fin 512) : (((cfg0.win 2).blk t).view.emb (ix3 0 r f : S1x1408x512.Idx) 0).val = t.val / 3 := by
  show win0_2.index t (0 : Fin 3) * 1 + 1 * 0 = _
  rw [(idx_val t).2.2.1, Nat.mul_one, Nat.mul_zero, Nat.add_zero]; rfl
theorem ub_e1 (t : Fin cfg0.N) (r : Fin 1408) (f : Fin 512) : (((cfg0.win 2).blk t).view.emb (ix3 0 r f : S1x1408x512.Idx) 1).val = t.val % 3 * 1408 + r.val := by
  show win0_2.index t (1 : Fin 3) * 1408 + 1 * r.val = _
  rw [(idx_val t).2.2.1, Nat.one_mul]; rfl
theorem ub_e2 (t : Fin cfg0.N) (r : Fin 1408) (f : Fin 512) : (((cfg0.win 2).blk t).view.emb (ix3 0 r f : S1x1408x512.Idx) 2).val = 3072 + (1024 + f.val) := by
  show win0_2.index t (2 : Fin 3) * 512 + 1 * f.val = _
  rw [(idx_val t).2.2.1, Nat.one_mul]
  show 8 * 512 + f.val = 3072 + (1024 + f.val)
  omega
theorem ub_e3 (t : Fin cfg0.N) (r : Fin 1408) (f : Fin 512) (q : FVec Ideal S8x4224x7168 .f32) :
    (View.read (Elt Ideal) ((cfg0.win 2).blk t).view q : S1x1408x512.Idx → EReal) (ix3 0 r f) = q (((cfg0.win 2).blk t).view.emb (ix3 0 r f : S1x1408x512.Idx)) := rfl
theorem ub_e4 (c : Dev nD) (t : Fin cfg0.N) (q : FVec Ideal S8x4224x7168 .f32) (hq : V m c main_v6 = q) :
    (iblk m c 2 t : S1x1408x512.Idx → EReal) = View.read (Elt Ideal) ((cfg0.win 2).blk t).view q := by
  subst hq
  rfl
theorem ub_at (c : Dev nD) (t : Fin cfg0.N) (r : Fin 1408) (f : Fin 512) :
    (iblk m c 2 t : S1x1408x512.Idx → EReal) (ix3 0 r f) = m ((c : Thread nD τ).loc main_arg0) (ix2 ⟨t.val / 3 * 4224 + (t.val % 3 * 1408 + r.val), by have := lt_of_lt_of_eq t.isLt N_0; show _ < 33792; omega⟩ ⟨2048 + (1024 + f.val), by have := f.isLt; show _ < 6992; omega⟩ : S33792x6992.Idx) := by
  have hN := lt_of_lt_of_eq t.isLt N_0
  rw [ub_e4 m c t _ (V_main_v6 m c), ub_e3]
  refine Eq.trans (congrArg (pk (m ((c : Thread nD τ).loc main_arg0))) ?_) (pk_at (m ((c : Thread nD τ).loc main_arg0)) ⟨t.val / 3, by omega⟩ ⟨t.val % 3 * 1408 + r.val, by omega⟩ ⟨1024 + f.val, by omega⟩)
  funext a
  match a with
  | ⟨0, _⟩ => exact Fin.ext (ub_e0 t r f)
  | ⟨1, _⟩ => exact Fin.ext (ub_e1 t r f)
  | ⟨2, _⟩ => exact Fin.ext (ub_e2 t r f)

theorem wb_at (c : Dev nD) (t : Fin cfg0.N) (a : Fin 3) (f : Fin 512) :
    (iblk m c 3 t : S8x512.Idx → EReal) (ix2 ⟨a.val, by omega⟩ f) = m ((c : Thread nD τ).loc main_arg1) (ix3 0 a f : S2x3x512.Idx) := by
  refine Eq.trans ?_ (wv_at (m ((c : Thread nD τ).loc main_arg1)) a f)
  rw [← V_main_v11 m c]
  have e : ∀ q : FVec Ideal S8x512 .f32, (View.read (Elt Ideal) ((cfg0.win 3).blk t).view q : S8x512.Idx → EReal) = q := fun q => by
    funext (y : S8x512.Idx)
    refine congrArg q ?_
    funext b
    match b with
    | ⟨0, _⟩ =>
      apply Fin.ext
      show win0_3.index t (0 : Fin 2) * 8 + 1 * (y 0).val = _
      rw [(idx_val t).2.2.2.1, Nat.one_mul]
      show 0 * 8 + (y 0).val = (y 0).val
      omega
    | ⟨1, _⟩ =>
      apply Fin.ext
      show win0_3.index t (1 : Fin 2) * 512 + 1 * (y 1).val = _
      rw [(idx_val t).2.2.2.1, Nat.one_mul]
      show 0 * 512 + (y 1).val = (y 1).val
      omega
  exact congrFun (e (V m c main_v11)) _

/-- A row of the eight, as the kernel loads it. -/
def row0 (x : Vec Ideal S8x512 .f32) : Vec Ideal S1x512 .f32 := View.ld (Val := Elt Ideal) (S := S8x512) x (Rect.unit (s := S8x512) ![0, 0] ![1, 512] inb_S8x512_S1x512_0_0)
def row1 (x : Vec Ideal S8x512 .f32) : Vec Ideal S1x512 .f32 := View.ld (Val := Elt Ideal) (S := S8x512) x (Rect.unit (s := S8x512) ![1, 0] ![1, 512] inb_S8x512_S1x512_1_0)
def row2 (x : Vec Ideal S8x512 .f32) : Vec Ideal S1x512 .f32 := View.ld (Val := Elt Ideal) (S := S8x512) x (Rect.unit (s := S8x512) ![2, 0] ![1, 512] inb_S8x512_S1x512_2_0)
def row6 (x : Vec Ideal S8x512 .f32) : Vec Ideal S1x512 .f32 := View.ld (Val := Elt Ideal) (S := S8x512) x (Rect.unit (s := S8x512) ![6, 0] ![1, 512] inb_S8x512_S1x512_6_0)
def row7 (x : Vec Ideal S8x512 .f32) : Vec Ideal S1x512 .f32 := View.ld (Val := Elt Ideal) (S := S8x512) x (Rect.unit (s := S8x512) ![7, 0] ![1, 512] inb_S8x512_S1x512_7_0)

theorem row0_at (x : FVec Ideal S8x512 .f32) (f : Fin 512) : row0 x (ix2 0 f) = x (ix2 0 f) := by pointwise [row0]
theorem row1_at (x : FVec Ideal S8x512 .f32) (f : Fin 512) : row1 x (ix2 0 f) = x (ix2 1 f) := by pointwise [row1]
theorem row2_at (x : FVec Ideal S8x512 .f32) (f : Fin 512) : row2 x (ix2 0 f) = x (ix2 2 f) := by pointwise [row2]
theorem row6_at (x : FVec Ideal S8x512 .f32) (f : Fin 512) : row6 x (ix2 0 f) = x (ix2 6 f) := by pointwise [row6]
theorem row7_at (x : FVec Ideal S8x512 .f32) (f : Fin 512) : row7 x (ix2 0 f) = x (ix2 7 f) := by pointwise [row7]

/-- One point's block of the result: from the blocks of the three inputs, the rows carried in and the weights. -/
def stepv (x cc uu : Vec Ideal S1x1408x512 .f32) (k w : Vec Ideal S8x512 .f32) : Vec Ideal S1x1408x512 .bf16 :=
  k0_pay1 (F := Ideal) (k0_pay5 (F := Ideal) cc uu (row7 k) (row6 k)) (k0_pay6 (F := Ideal) cc uu (row0 w)) (k0_pay7 (F := Ideal) cc uu (row7 k) (row1 w)) (row2 w) x

theorem pay4_at (cc uu : FVec Ideal S1x1408x512 .f32) (r : Fin 1408) (f : Fin 512) :
    k0_pay4 (F := Ideal) cc uu (ix2 r f) = cc (ix3 0 r f) * uu (ix3 0 r f) := by
  pointwise [k0_pay4]

theorem pay2_at (z : FVec Ideal S1408x512 .f32) (q : Fin 8) (f : Fin 512) :
    k0_pay2 (F := Ideal) z (ix2 q f) = z (ix2 ⟨1400 + q.val, by omega⟩ f) := by
  pointwise [k0_pay2]

theorem pay6_at (cc uu : FVec Ideal S1x1408x512 .f32) (w : FVec Ideal S1x512 .f32) (r : Fin 1408) (f : Fin 512) :
    k0_pay6 (F := Ideal) cc uu w (ix2 r f) = w (ix2 0 f) * (cc (ix3 0 r f) * uu (ix3 0 r f)) := by
  rw [← pay4_at]
  pointwise [k0_pay6]

theorem sel_eq (r k : ℕ) (hr : r < 2 ^ 32) (hk : k < 2 ^ 32) (a b : EReal) :
    Scalar.select (IntOp.cmpi CmpIPredicate.eq (BitVec.ofNat 32 r) (BitVec.ofNat 32 k)) a b = if r = k then a else b :=
  if_congr (StableHlo.Predicate.cmpi_eq_iff.trans ⟨fun h => by
    have := congrArg BitVec.toNat h
    rwa [BitVec.toNat_ofNat, BitVec.toNat_ofNat, Nat.mod_eq_of_lt hr, Nat.mod_eq_of_lt hk] at this, fun h => by rw [h]⟩) rfl rfl

theorem pay7_at (cc uu : FVec Ideal S1x1408x512 .f32) (k w : FVec Ideal S1x512 .f32) (r : Fin 1408) (f : Fin 512) :
    k0_pay7 (F := Ideal) cc uu k w (ix2 r f) = w (ix2 0 f) * (if r.val = 0 then k (ix2 0 f) else k0_pay4 (F := Ideal) cc uu (ix2 ⟨r.val - 1, by omega⟩ f)) := by
  unfold k0_pay7
  generalize k0_pay4 (F := Ideal) cc uu = z
  pointwise
  refine congrArg _ ((sel_eq r.val 0 (by omega) (by omega) _ _).trans ?_)
  by_cases h : r.val = 0
  · rw [if_pos h, if_pos h]
  · rw [if_neg h, if_neg h]
    exact congrArg (fun x => z (ix2 x f)) (Fin.ext (by show (r.val + 1408 - 1) % 1408 = r.val - 1; omega))

theorem pay5_at (cc uu : FVec Ideal S1x1408x512 .f32) (k k' : FVec Ideal S1x512 .f32) (r : Fin 1408) (f : Fin 512) :
    k0_pay5 (F := Ideal) cc uu k k' (ix2 r f) = if r.val = 0 then k' (ix2 0 f) else if r.val = 1 then k (ix2 0 f) else k0_pay4 (F := Ideal) cc uu (ix2 ⟨r.val - 2, by omega⟩ f) := by
  unfold k0_pay5
  generalize k0_pay4 (F := Ideal) cc uu = z
  pointwise
  refine ((sel_eq r.val 0 (by omega) (by omega) _ _).trans ?_)
  by_cases h : r.val = 0
  · rw [if_pos h, if_pos h]
  rw [if_neg h, if_neg h]
  refine ((sel_eq r.val 1 (by omega) (by omega) _ _).trans ?_)
  by_cases h1 : r.val = 1
  · rw [if_pos h1, if_pos h1]
  rw [if_neg h1, if_neg h1]
  exact congrArg (fun x => z (ix2 x f)) (Fin.ext (by show (r.val + 1408 - 2) % 1408 = r.val - 2; omega))

theorem pay1_at (z2 t0 t1 : FVec Ideal S1408x512 .f32) (w : FVec Ideal S1x512 .f32) (x : FVec Ideal S1x1408x512 .f32) (r : Fin 1408) (f : Fin 512) :
    k0_pay1 (F := Ideal) z2 t0 t1 w x (ix3 0 r f) = x (ix3 0 r f) * ((t0 (ix2 r f) + t1 (ix2 r f)) + w (ix2 0 f) * z2 (ix2 r f)) := by
  pointwise [k0_pay1]

theorem readCov_row (w : Vec Ideal S8x512 .f32) (h) (q : Fin 2 → ℕ) (h') :
    (View.whole cc0_scratch0).readCov (Val := Elt Ideal) [⟨Rect.unit (s := S8x512) ![0, 0] ![8, 512] h, w⟩] (Rect.unit (s := S8x512) q ![1, 512] h').toLoadRect
      = View.ld (Val := Elt Ideal) (S := S8x512) w (Rect.unit (s := S8x512) q ![1, 512] h') := by
  funext j
  exact congrFun (View.read_writes_full (View.whole cc0_scratch0) _ h w []) _

/-- What the result's staging block holds after a point. -/
def ob (c : Dev nD) (n : ℕ) (h : n < cfg0.N) : FVec Ideal S1x1408x512 .bf16 := (outsAt0 m c n h).1
/-- What is carried to the next point. -/
def kb (c : Dev nD) (n : ℕ) (h : n < cfg0.N) : FVec Ideal S8x512 .f32 := (outsAt0 m c n h).2

theorem kb_eq (c : Dev nD) (t : Fin cfg0.N) : kb m c t.val t.isLt = k0_pay2 (F := Ideal) (k0_pay4 (F := Ideal) (iblk m c 1 t) (iblk m c 2 t)) := by
  by_cases h : t.val % 3 = 0
  · refine (congrArg Prod.snd (outsAt0_A m c t h)).trans ?_
    dsimp only
    frame_out
  · refine (congrArg Prod.snd (outsAt0_B m c t h)).trans ?_
    dsimp only
    frame_out

theorem out_A (c : Dev nD) (t : Fin cfg0.N) (h : t.val % 3 = 0) :
    ob m c t.val t.isLt = stepv (iblk m c 0 t) (iblk m c 1 t) (iblk m c 2 t) (k0_pay3 (F := Ideal)) (iblk m c 3 t) := by
  refine (congrArg Prod.fst (outsAt0_A m c t h)).trans ?_
  dsimp only
  frame_out
  rw [readCov_row, readCov_row]
  rfl

theorem out_B (c : Dev nD) (t : Fin cfg0.N) (h : ¬t.val % 3 = 0) :
    ob m c t.val t.isLt = stepv (iblk m c 0 t) (iblk m c 1 t) (iblk m c 2 t) (kb m c (t.val - 1) (Nat.lt_of_le_of_lt (Nat.sub_le _ _) t.isLt)) (iblk m c 3 t) := by
  refine (congrArg Prod.fst (outsAt0_B m c t h)).trans ?_
  dsimp only
  frame_out
  rw [Memref.IsWhole.read_unread (Memref.isWhole_whole cc0_scratch0)]
  rfl

/-- The arguments as functions of their coordinates. -/
def pf (p : FVec Ideal S33792x6992 .f32) (n : Fin 33792) (k : Fin 6992) : EReal := p (ix2 n k)
def wf (w : FVec Ideal S2x3x512 .f32) (a : Fin 3) (f : Fin 512) : EReal := w (ix3 0 a f)

abbrev P (c : Dev nD) : FVec Ideal S33792x6992 .f32 := m ((c : Thread nD τ).loc main_arg0)
abbrev W (c : Dev nD) : FVec Ideal S2x3x512 .f32 := m ((c : Thread nD τ).loc main_arg1)

theorem z_at (c : Dev nD) (t : Fin cfg0.N) (r : Fin 1408) (f : Fin 512) (n : Fin 33792) (hn : n.val = t.val / 3 * 4224 + (t.val % 3 * 1408 + r.val)) :
    k0_pay4 (F := Ideal) (iblk m c 1 t) (iblk m c 2 t) (ix2 r f) = Conv.zrow (pf (P m c)) n f := by
  refine (pay4_at _ _ r f).trans (congrArg₂ (· * ·) ((cb_at m c t r f).trans ?_) ((ub_at m c t r f).trans ?_))
  · exact congrArg₂ (fun x y => P m c (ix2 x y)) (Fin.ext hn.symm) (Fin.ext (by show 2048 + (512 + f.val) = 2560 + f.val; omega))
  · exact congrArg₂ (fun x y => P m c (ix2 x y)) (Fin.ext hn.symm) (Fin.ext (by show 2048 + (1024 + f.val) = 3072 + f.val; omega))

/-- What a point meets in the carried rows. -/
def kin (c : Dev nD) (t : Fin cfg0.N) : FVec Ideal S8x512 .f32 :=
  if t.val % 3 = 0 then k0_pay3 (F := Ideal) else kb m c (t.val - 1) (Nat.lt_of_le_of_lt (Nat.sub_le _ _) t.isLt)

theorem ob_eq (c : Dev nD) (t : Fin cfg0.N) :
    ob m c t.val t.isLt = stepv (iblk m c 0 t) (iblk m c 1 t) (iblk m c 2 t) (kin m c t) (iblk m c 3 t) := by
  by_cases h : t.val % 3 = 0
  · rw [out_A m c t h]; unfold kin; rw [if_pos h]
  · rw [out_B m c t h]; unfold kin; rw [if_neg h]

theorem kin_A (c : Dev nD) (t : Fin cfg0.N) (h : t.val % 3 = 0) (q : Fin 8) (f : Fin 512) : kin m c t (ix2 q f) = 0 := by
  unfold kin
  rw [if_pos h]
  pointwise [k0_pay3]

theorem kin_B (c : Dev nD) (t : Fin cfg0.N) (h : ¬t.val % 3 = 0) (q : Fin 8) (f : Fin 512) (n : Fin 33792)
    (hn : n.val + 8 = t.val / 3 * 4224 + t.val % 3 * 1408 + q.val) : kin m c t (ix2 q f) = Conv.zrow (pf (P m c)) n f := by
  unfold kin
  rw [if_neg h, kb_eq m c ⟨t.val - 1, Nat.lt_of_le_of_lt (Nat.sub_le _ _) t.isLt⟩]
  refine (pay2_at _ q f).trans (z_at m c ⟨t.val - 1, _⟩ ⟨1400 + q.val, by omega⟩ f n ?_)
  show n.val = (t.val - 1) / 3 * 4224 + ((t.val - 1) % 3 * 1408 + (1400 + q.val))
  omega

/-- The sequence and the position a point's row stands for. -/
def bt (t : Fin cfg0.N) : Fin 8 := ⟨t.val / 3, by have := lt_of_lt_of_eq t.isLt N_0; omega⟩
def st (t : Fin cfg0.N) (r : Fin 1408) : Fin 4224 := ⟨t.val % 3 * 1408 + r.val, by omega⟩

theorem back1 (c : Dev nD) (t : Fin cfg0.N) (r : Fin 1408) (f : Fin 512) :
    (if r.val = 0 then kin m c t (ix2 7 f) else k0_pay4 (F := Ideal) (iblk m c 1 t) (iblk m c 2 t) (ix2 ⟨r.val - 1, by omega⟩ f))
      = Conv.zs (pf (P m c)) (bt t) (st t r) f 1 := by
  have hN := lt_of_lt_of_eq t.isLt N_0
  unfold Conv.zs
  by_cases hr : r.val = 0
  · rw [if_pos hr]
    by_cases h : t.val % 3 = 0
    · rw [kin_A m c t h, if_neg (by show ¬1 ≤ t.val % 3 * 1408 + r.val; omega)]
    · rw [if_pos (by show 1 ≤ t.val % 3 * 1408 + r.val; omega)]
      exact kin_B m c t h 7 f _ (by show t.val / 3 * 4224 + (t.val % 3 * 1408 + r.val - 1) + 8 = t.val / 3 * 4224 + t.val % 3 * 1408 + 7; omega)
  · rw [if_neg hr, if_pos (by show 1 ≤ t.val % 3 * 1408 + r.val; omega)]
    exact z_at m c t _ f _ (by show t.val / 3 * 4224 + (t.val % 3 * 1408 + r.val - 1) = t.val / 3 * 4224 + (t.val % 3 * 1408 + (r.val - 1)); omega)

theorem back2 (c : Dev nD) (t : Fin cfg0.N) (r : Fin 1408) (f : Fin 512) :
    (if r.val = 0 then kin m c t (ix2 6 f) else if r.val = 1 then kin m c t (ix2 7 f) else k0_pay4 (F := Ideal) (iblk m c 1 t) (iblk m c 2 t) (ix2 ⟨r.val - 2, by omega⟩ f))
      = Conv.zs (pf (P m c)) (bt t) (st t r) f 2 := by
  have hN := lt_of_lt_of_eq t.isLt N_0
  unfold Conv.zs
  by_cases hr : r.val = 0
  · rw [if_pos hr]
    by_cases h : t.val % 3 = 0
    · rw [kin_A m c t h, if_neg (by show ¬2 ≤ t.val % 3 * 1408 + r.val; omega)]
    · rw [if_pos (by show 2 ≤ t.val % 3 * 1408 + r.val; omega)]
      exact kin_B m c t h 6 f _ (by show t.val / 3 * 4224 + (t.val % 3 * 1408 + r.val - 2) + 8 = t.val / 3 * 4224 + t.val % 3 * 1408 + 6; omega)
  rw [if_neg hr]
  by_cases hr1 : r.val = 1
  · rw [if_pos hr1]
    by_cases h : t.val % 3 = 0
    · rw [kin_A m c t h, if_neg (by show ¬2 ≤ t.val % 3 * 1408 + r.val; omega)]
    · rw [if_pos (by show 2 ≤ t.val % 3 * 1408 + r.val; omega)]
      exact kin_B m c t h 7 f _ (by show t.val / 3 * 4224 + (t.val % 3 * 1408 + r.val - 2) + 8 = t.val / 3 * 4224 + t.val % 3 * 1408 + 7; omega)
  · rw [if_neg hr1, if_pos (by show 2 ≤ t.val % 3 * 1408 + r.val; omega)]
    exact z_at m c t _ f _ (by show t.val / 3 * 4224 + (t.val % 3 * 1408 + r.val - 2) = t.val / 3 * 4224 + (t.val % 3 * 1408 + (r.val - 2)); omega)

theorem ob_at (c : Dev nD) (t : Fin cfg0.N) (r : Fin 1408) (f : Fin 512) :
    ob m c t.val t.isLt (ix3 0 r f) = Conv.out (pf (P m c)) (wf (W m c)) (bt t) (st t r) f := by
  have hN := lt_of_lt_of_eq t.isLt N_0
  rw [ob_eq]
  refine (pay1_at _ _ _ _ _ r f).trans ?_
  unfold Conv.out
  have hz : k0_pay4 (F := Ideal) (iblk m c 1 t) (iblk m c 2 t) (ix2 r f) = Conv.zs (pf (P m c)) (bt t) (st t r) f 0 := by
    unfold Conv.zs
    rw [if_pos (Nat.zero_le _)]
    exact z_at m c t r f _ rfl
  have h0 : k0_pay6 (F := Ideal) (iblk m c 1 t) (iblk m c 2 t) (row0 (iblk m c 3 t)) (ix2 r f) = wf (W m c) 0 f * Conv.zs (pf (P m c)) (bt t) (st t r) f 0 := by
    refine (pay6_at _ _ _ r f).trans (congrArg₂ (· * ·) ((row0_at _ f).trans (wb_at m c t 0 f)) ?_)
    exact (pay4_at _ _ r f).symm.trans hz
  have h1 : k0_pay7 (F := Ideal) (iblk m c 1 t) (iblk m c 2 t) (row7 (kin m c t)) (row1 (iblk m c 3 t)) (ix2 r f) = wf (W m c) 1 f * Conv.zs (pf (P m c)) (bt t) (st t r) f 1 := by
    refine (pay7_at _ _ _ _ r f).trans (congrArg₂ (· * ·) ((row1_at _ f).trans (wb_at m c t 1 f)) ?_)
    rw [row7_at]
    exact back1 m c t r f
  have h2 : k0_pay5 (F := Ideal) (iblk m c 1 t) (iblk m c 2 t) (row7 (kin m c t)) (row6 (kin m c t)) (ix2 r f) = Conv.zs (pf (P m c)) (bt t) (st t r) f 2 := by
    refine (pay5_at _ _ _ _ r f).trans ?_
    rw [row7_at, row6_at]
    exact back2 m c t r f
  have hx : (iblk m c 0 t : S1x1408x512.Idx → EReal) (ix3 0 r f) = pf (P m c) ⟨(bt t).val * 4224 + (st t r).val, by have := (bt t).isLt; have := (st t r).isLt; omega⟩ ⟨2048 + f.val, by omega⟩ := by
    refine (bb_at m c t r f).trans ?_
    exact congrArg₂ (fun x y => P m c (ix2 x y)) (Fin.ext rfl) (Fin.ext (by show 2048 + (0 + f.val) = 2048 + f.val; omega))
  exact congrArg₂ (· * ·) hx (congrArg₂ (· + ·) (congrArg₂ (· + ·) h0 h1) (congrArg₂ (· * ·) ((row2_at _ f).trans (wb_at m c t 2 f)) h2))

/-- The result as a function of the two arguments. -/
def OUT (p : FVec Ideal S33792x6992 .f32) (w : FVec Ideal S2x3x512 .f32) : FVec Ideal S8x4224x512 .f32 := fun i =>
  Conv.out (pf p) (wf w) (i 0) (i 1) (i 2)

theorem emb4_0 (t : Fin cfg0.N) (r : Fin 1408) (f : Fin 512) : ((win0_4.blk t).view.emb (ix3 0 r f : S1x1408x512.Idx) 0).val = t.val / 3 := by
  show win0_4.index t (0 : Fin 3) * 1 + 1 * 0 = _
  rw [(idx_val t).2.2.2.2, Nat.mul_one, Nat.mul_zero, Nat.add_zero]; rfl
theorem emb4_1 (t : Fin cfg0.N) (r : Fin 1408) (f : Fin 512) : ((win0_4.blk t).view.emb (ix3 0 r f : S1x1408x512.Idx) 1).val = t.val % 3 * 1408 + r.val := by
  show win0_4.index t (1 : Fin 3) * 1408 + 1 * r.val = _
  rw [(idx_val t).2.2.2.2, Nat.one_mul]; rfl
theorem emb4_2 (t : Fin cfg0.N) (r : Fin 1408) (f : Fin 512) : ((win0_4.blk t).view.emb (ix3 0 r f : S1x1408x512.Idx) 2).val = f.val := by
  show win0_4.index t (2 : Fin 3) * 512 + 1 * f.val = _
  rw [(idx_val t).2.2.2.2, Nat.one_mul]
  show 0 * 512 + f.val = f.val
  omega

/-- The kernel's result array after the run, as a function of the arguments. -/
theorem final (c : Dev nD) : (dats m 0 c).arrAt 4 (cfgs 0).N = (OUT (P m c) (W m c) : S8x4224x512.Idx → EReal) := by
  refine (dats m 0 c).arrAt_eq_of_covers 4 _ (by decide +kernel) fun t hf y => ?_
  blk_simp
  rw [after0_4]
  have hy : (ix3 0 (y 1) (y 2) : S1x1408x512.Idx) = y := by
    funext a
    match a with
    | ⟨0, _⟩ => exact (Subsingleton.elim (α := Fin 1) _ _)
    | ⟨1, _⟩ => rfl
    | ⟨2, _⟩ => rfl
  have hr : (y 1).val < 1408 := (y 1).isLt
  have hf : (y 2).val < 512 := (y 2).isLt
  have e := ob_at m c t ⟨(y 1).val, hr⟩ ⟨(y 2).val, hf⟩
  have e0 := emb4_0 t ⟨(y 1).val, hr⟩ ⟨(y 2).val, hf⟩
  have e1 := emb4_1 t ⟨(y 1).val, hr⟩ ⟨(y 2).val, hf⟩
  have e2 := emb4_2 t ⟨(y 1).val, hr⟩ ⟨(y 2).val, hf⟩
  have hy' : (ix3 0 ⟨(y 1).val, hr⟩ ⟨(y 2).val, hf⟩ : S1x1408x512.Idx) = y := hy
  rw [hy'] at e e0 e1 e2
  refine e.trans ?_
  unfold OUT
  have a0 : bt t = (win0_4.blk t).view.emb y 0 := Fin.ext e0.symm
  have a1 : st t ⟨(y 1).val, hr⟩ = (win0_4.blk t).view.emb y 1 := Fin.ext e1.symm
  have a2 : (⟨(y 2).val, hf⟩ : Fin 512) = (win0_4.blk t).view.emb y 2 := Fin.ext e2.symm
  rw [a0, a1, a2]

theorem after_v13 (c : Dev nD) : Pipeline.afterTail₀ cfgs (dats m) 0 (V0 m) [hostOps1] c main_v13 = OUT (P m c) (W m c) := by
  rw [← final m c]
  unfold Pipeline.afterTail₀
  rw [← Pipeline.Dat.withArrays_arrAt (dats m 0 c) launch₀0.sharedIn (V0 m c) (A_eq m c) 4]
  show StableHlo.after (hostOps1 ++ []) _ _ = _
  rw [List.append_nil]
  after_results <;> rfl

theorem run (ρ : Dev nD → PrngReg) : θ_run defs (onTc (τ := τ) (main (F := Ideal))) ⟨m, fun _ => 0, ρ⟩ (fun r => ∀ c : Dev nD,
      r.2.mem ((c.tc : Thread nD τ).loc main_v13) = OUT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v13 (Pipeline.mem_restRefs_of main_v13 (by decide) (by decide))).trans (after_v13 m c), h.2 c⟩)
    (θ_run_and (run_main m ρ) (unchanged m ρ))

end Cert.Kernel5Ideal.ConvValue

end
-- ==== Proof.ConvRef.lean ====
/- Hand-written, untrusted: the fifth reference's run, its operations in order, and its result as a function of its arguments, entry by entry. -/
module

public import proofs.«01_k».proof.Proof.Gen.Reference5Ideal
public import proofs.«01_k».proof.Proof.FfnMath
public import proofs.«01_k».proof.Proof.ConvMath
public import Idealize.ShloMosaic.Lib.StableHlo.Run
public import Idealize.ShloMosaic.Lib.KernelVsHost

@[expose] public section

set_option maxRecDepth 16384

noncomputable section

namespace Cert.Reference5Ideal.ConvRef

open Cert.Reference5Ideal Cert.Reference5Ideal.Gen Idealize.ShloMosaic Idealize.ShloMosaic.TcCoe Idealize.SL.Sem Idealize.ShloMosaic.StableHlo

section
variable {F : FTy → Type} [FloatOps F]

/-- The operations of the program's main function in order, those of the padding it calls among them. -/
abbrev ops : List (HloOp τ sig (Elt F)) :=
  [ reshape main_arg0 main_v0 (rfl : (.f32 : EltTy) = .f32) shapeCasts_S33792x6992_S8x4224x6992,
    unary main_v0 main_v1 ((extractStridedSlice S8x4224x512 ![0, 0, 0] · slices_S8x4224x6992_S8x4224x512_0_0_0) : (⟨S8x4224x6992, .f32⟩ : BufTy).Contents (Elt F) → (⟨S8x4224x512, .f32⟩ : BufTy).Contents (Elt F)),
    unary main_v0 main_v2 ((extractStridedSlice S8x4224x512 ![0, 0, 512] · slices_S8x4224x6992_S8x4224x512_0_0_512) : (⟨S8x4224x6992, .f32⟩ : BufTy).Contents (Elt F) → (⟨S8x4224x512, .f32⟩ : BufTy).Contents (Elt F)),
    unary main_v0 main_v3 ((extractStridedSlice S8x4224x512 ![0, 0, 1024] · slices_S8x4224x6992_S8x4224x512_0_0_1024) : (⟨S8x4224x6992, .f32⟩ : BufTy).Contents (Elt F) → (⟨S8x4224x512, .f32⟩ : BufTy).Contents (Elt F)),
    unary main_v0 main_v4 ((extractStridedSlice S8x4224x512 ![0, 0, 1536] · slices_S8x4224x6992_S8x4224x512_0_0_1536) : (⟨S8x4224x6992, .f32⟩ : BufTy).Contents (Elt F) → (⟨S8x4224x512, .f32⟩ : BufTy).Contents (Elt F)),
    unary main_v0 main_v5 ((extractStridedSlice S8x4224x512 ![0, 0, 2048] · slices_S8x4224x6992_S8x4224x512_0_0_2048) : (⟨S8x4224x6992, .f32⟩ : BufTy).Contents (Elt F) → (⟨S8x4224x512, .f32⟩ : BufTy).Contents (Elt F)),
    unary main_v0 main_v6 ((extractStridedSlice S8x4224x512 ![0, 0, 2560] · slices_S8x4224x6992_S8x4224x512_0_0_2560) : (⟨S8x4224x6992, .f32⟩ : BufTy).Contents (Elt F) → (⟨S8x4224x512, .f32⟩ : BufTy).Contents (Elt F)),
    unary main_v0 main_v7 ((extractStridedSlice S8x4224x512 ![0, 0, 3072] · slices_S8x4224x6992_S8x4224x512_0_0_3072) : (⟨S8x4224x6992, .f32⟩ : BufTy).Contents (Elt F) → (⟨S8x4224x512, .f32⟩ : BufTy).Contents (Elt F)),
    unary main_v0 main_v8 ((extractStridedSlice S8x4224x512 ![0, 0, 3584] · slices_S8x4224x6992_S8x4224x512_0_0_3584) : (⟨S8x4224x6992, .f32⟩ : BufTy).Contents (Elt F) → (⟨S8x4224x512, .f32⟩ : BufTy).Contents (Elt F)),
    unary main_v0 main_v9 ((extractStridedSlice S8x4224x512 ![0, 0, 4096] · slices_S8x4224x6992_S8x4224x512_0_0_4096) : (⟨S8x4224x6992, .f32⟩ : BufTy).Contents (Elt F) → (⟨S8x4224x512, .f32⟩ : BufTy).Contents (Elt F)),
    unary main_v0 main_v10 ((extractStridedSlice S8x4224x512 ![0, 0, 4608] · slices_S8x4224x6992_S8x4224x512_0_0_4608) : (⟨S8x4224x6992, .f32⟩ : BufTy).Contents (Elt F) → (⟨S8x4224x512, .f32⟩ : BufTy).Contents (Elt F)),
    unary main_v0 main_v11 ((extractStridedSlice S8x4224x512 ![0, 0, 5120] · slices_S8x4224x6992_S8x4224x512_0_0_5120) : (⟨S8x4224x6992, .f32⟩ : BufTy).Contents (Elt F) → (⟨S8x4224x512, .f32⟩ : BufTy).Contents (Elt F)),
    unary main_v0 main_v12 ((extractStridedSlice S8x4224x128 ![0, 0, 5632] · slices_S8x4224x6992_S8x4224x128_0_0_5632) : (⟨S8x4224x6992, .f32⟩ : BufTy).Contents (Elt F) → (⟨S8x4224x128, .f32⟩ : BufTy).Contents (Elt F)),
    unary main_v0 main_v13 ((extractStridedSlice S8x4224x128 ![0, 0, 5760] · slices_S8x4224x6992_S8x4224x128_0_0_5760) : (⟨S8x4224x6992, .f32⟩ : BufTy).Contents (Elt F) → (⟨S8x4224x128, .f32⟩ : BufTy).Contents (Elt F)),
    unary main_v0 main_v14 ((extractStridedSlice S8x4224x1024 ![0, 0, 5888] · slices_S8x4224x6992_S8x4224x1024_0_0_5888) : (⟨S8x4224x6992, .f32⟩ : BufTy).Contents (Elt F) → (⟨S8x4224x1024, .f32⟩ : BufTy).Contents (Elt F)),
    unary main_v0 main_v15 ((extractStridedSlice S8x4224x64 ![0, 0, 6912] · slices_S8x4224x6992_S8x4224x64_0_0_6912) : (⟨S8x4224x6992, .f32⟩ : BufTy).Contents (Elt F) → (⟨S8x4224x64, .f32⟩ : BufTy).Contents (Elt F)),
    unary main_v0 main_v16 ((extractStridedSlice S8x4224x16 ![0, 0, 6976] · slices_S8x4224x6992_S8x4224x16_0_0_6976) : (⟨S8x4224x6992, .f32⟩ : BufTy).Contents (Elt F) → (⟨S8x4224x16, .f32⟩ : BufTy).Contents (Elt F)),
    unary main_arg1 main_v17 ((extractStridedSlice S1x3x512 ![0, 0, 0] · slices_S2x3x512_S1x3x512_0_0_0) : (⟨S2x3x512, .f32⟩ : BufTy).Contents (Elt F) → (⟨S1x3x512, .f32⟩ : BufTy).Contents (Elt F)),
    reshape main_v17 main_v18 (rfl : (.f32 : EltTy) = .f32) shapeCasts_S1x3x512_S3x512,
    binary main_v6 main_v7 main_v19 (mulf : (⟨S8x4224x512, .f32⟩ : BufTy).Contents (Elt F) → (⟨S8x4224x512, .f32⟩ : BufTy).Contents (Elt F) → (⟨S8x4224x512, .f32⟩ : BufTy).Contents (Elt F)),
    nullary main_c (constantI S_ 32 0#32),
    TRef.unary (.of main_c : TRef sig ⟨S_, .i32⟩) main_call0.v0 (sitofp .f32),
    TRef.binary (.of main_v19 : TRef sig ⟨S8x4224x512, .f32⟩) main_call0.v0 main_call0.v1 (fun x v => pad S8x4226x512 ![0, 2, 0] ![0, 0, 0] ![0, 0, 0] x v pads_S8x4224x512_S8x4226x512_000_200_000 h_S_),
    unary main_v18 main_v21 ((extractStridedSlice S1x512 ![0, 0] · slices_S3x512_S1x512_0_0) : (⟨S3x512, .f32⟩ : BufTy).Contents (Elt F) → (⟨S1x512, .f32⟩ : BufTy).Contents (Elt F)),
    reshape main_v21 main_v22 (rfl : (.f32 : EltTy) = .f32) shapeCasts_S1x512_S512,
    unary main_v20 main_v23 ((extractStridedSlice S8x4224x512 ![0, 2, 0] · slices_S8x4226x512_S8x4224x512_0_2_0) : (⟨S8x4226x512, .f32⟩ : BufTy).Contents (Elt F) → (⟨S8x4224x512, .f32⟩ : BufTy).Contents (Elt F)),
    unary main_v22 main_v24 (broadcastInDim S1x1x512 ![2] bcast_S512_S1x1x512_2 : (⟨S512, .f32⟩ : BufTy).Contents (Elt F) → (⟨S1x1x512, .f32⟩ : BufTy).Contents (Elt F)),
    unary main_v24 main_v25 (broadcastInDim S8x4224x512 ![0, 1, 2] bcast_S1x1x512_S8x4224x512_0_1_2 : (⟨S1x1x512, .f32⟩ : BufTy).Contents (Elt F) → (⟨S8x4224x512, .f32⟩ : BufTy).Contents (Elt F)),
    binary main_v25 main_v23 main_v26 (mulf : (⟨S8x4224x512, .f32⟩ : BufTy).Contents (Elt F) → (⟨S8x4224x512, .f32⟩ : BufTy).Contents (Elt F) → (⟨S8x4224x512, .f32⟩ : BufTy).Contents (Elt F)),
    unary main_v18 main_v27 ((extractStridedSlice S1x512 ![1, 0] · slices_S3x512_S1x512_1_0) : (⟨S3x512, .f32⟩ : BufTy).Contents (Elt F) → (⟨S1x512, .f32⟩ : BufTy).Contents (Elt F)),
    reshape main_v27 main_v28 (rfl : (.f32 : EltTy) = .f32) shapeCasts_S1x512_S512,
    unary main_v20 main_v29 ((extractStridedSlice S8x4224x512 ![0, 1, 0] · slices_S8x4226x512_S8x4224x512_0_1_0) : (⟨S8x4226x512, .f32⟩ : BufTy).Contents (Elt F) → (⟨S8x4224x512, .f32⟩ : BufTy).Contents (Elt F)),
    unary main_v28 main_v30 (broadcastInDim S1x1x512 ![2] bcast_S512_S1x1x512_2 : (⟨S512, .f32⟩ : BufTy).Contents (Elt F) → (⟨S1x1x512, .f32⟩ : BufTy).Contents (Elt F)),
    unary main_v30 main_v31 (broadcastInDim S8x4224x512 ![0, 1, 2] bcast_S1x1x512_S8x4224x512_0_1_2 : (⟨S1x1x512, .f32⟩ : BufTy).Contents (Elt F) → (⟨S8x4224x512, .f32⟩ : BufTy).Contents (Elt F)),
    binary main_v31 main_v29 main_v32 (mulf : (⟨S8x4224x512, .f32⟩ : BufTy).Contents (Elt F) → (⟨S8x4224x512, .f32⟩ : BufTy).Contents (Elt F) → (⟨S8x4224x512, .f32⟩ : BufTy).Contents (Elt F)),
    binary main_v26 main_v32 main_v33 (addf : (⟨S8x4224x512, .f32⟩ : BufTy).Contents (Elt F) → (⟨S8x4224x512, .f32⟩ : BufTy).Contents (Elt F) → (⟨S8x4224x512, .f32⟩ : BufTy).Contents (Elt F)),
    unary main_v18 main_v34 ((extractStridedSlice S1x512 ![2, 0] · slices_S3x512_S1x512_2_0) : (⟨S3x512, .f32⟩ : BufTy).Contents (Elt F) → (⟨S1x512, .f32⟩ : BufTy).Contents (Elt F)),
    reshape main_v34 main_v35 (rfl : (.f32 : EltTy) = .f32) shapeCasts_S1x512_S512,
    unary main_v20 main_v36 ((extractStridedSlice S8x4224x512 ![0, 0, 0] · slices_S8x4226x512_S8x4224x512_0_0_0) : (⟨S8x4226x512, .f32⟩ : BufTy).Contents (Elt F) → (⟨S8x4224x512, .f32⟩ : BufTy).Contents (Elt F)),
    unary main_v35 main_v37 (broadcastInDim S1x1x512 ![2] bcast_S512_S1x1x512_2 : (⟨S512, .f32⟩ : BufTy).Contents (Elt F) → (⟨S1x1x512, .f32⟩ : BufTy).Contents (Elt F)),
    unary main_v37 main_v38 (broadcastInDim S8x4224x512 ![0, 1, 2] bcast_S1x1x512_S8x4224x512_0_1_2 : (⟨S1x1x512, .f32⟩ : BufTy).Contents (Elt F) → (⟨S8x4224x512, .f32⟩ : BufTy).Contents (Elt F)),
    binary main_v38 main_v36 main_v39 (mulf : (⟨S8x4224x512, .f32⟩ : BufTy).Contents (Elt F) → (⟨S8x4224x512, .f32⟩ : BufTy).Contents (Elt F) → (⟨S8x4224x512, .f32⟩ : BufTy).Contents (Elt F)),
    binary main_v33 main_v39 main_v40 (addf : (⟨S8x4224x512, .f32⟩ : BufTy).Contents (Elt F) → (⟨S8x4224x512, .f32⟩ : BufTy).Contents (Elt F) → (⟨S8x4224x512, .f32⟩ : BufTy).Contents (Elt F)),
    binary main_v5 main_v40 main_v41 (mulf : (⟨S8x4224x512, .f32⟩ : BufTy).Contents (Elt F) → (⟨S8x4224x512, .f32⟩ : BufTy).Contents (Elt F) → (⟨S8x4224x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., reshape_bufs_sub .., binary_bufs_sub .., nullary_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., binary_bufs_sub ..⟩
end

/-- The rows as eight sequences. -/
def pr (p : FVec Ideal S33792x6992 .f32) : FVec Ideal S8x4224x6992 .f32 := shapeCast S8x4224x6992 p shapeCasts_S33792x6992_S8x4224x6992

/-- The product that is convolved, with two rows of zeros before it. -/
def zp (p : FVec Ideal S8x4224x6992 .f32) : FVec Ideal S8x4226x512 .f32 :=
  pad S8x4226x512 ![0, 2, 0] ![0, 0, 0] ![0, 0, 0]
    (mulf (extractStridedSlice S8x4224x512 ![0, 0, 2560] p slices_S8x4224x6992_S8x4224x512_0_0_2560) (extractStridedSlice S8x4224x512 ![0, 0, 3072] p slices_S8x4224x6992_S8x4224x512_0_0_3072))
    (sitofp .f32 (constantI S_ 32 0#32)) pads_S8x4224x512_S8x4226x512_000_200_000 h_S_

/-- The weights. -/
def wr (w : FVec Ideal S2x3x512 .f32) : FVec Ideal S3x512 .f32 :=
  shapeCast S3x512 (extractStridedSlice S1x3x512 ![0, 0, 0] w slices_S2x3x512_S1x3x512_0_0_0) shapeCasts_S1x3x512_S3x512

def tap0 (z : FVec Ideal S8x4226x512 .f32) (w : FVec Ideal S3x512 .f32) : FVec Ideal S8x4224x512 .f32 :=
  mulf (broadcastInDim S8x4224x512 ![0, 1, 2] bcast_S1x1x512_S8x4224x512_0_1_2 (broadcastInDim S1x1x512 ![2] bcast_S512_S1x1x512_2 (shapeCast S512 (extractStridedSlice S1x512 ![0, 0] w slices_S3x512_S1x512_0_0) shapeCasts_S1x512_S512)))
    (extractStridedSlice S8x4224x512 ![0, 2, 0] z slices_S8x4226x512_S8x4224x512_0_2_0)
def tap1 (z : FVec Ideal S8x4226x512 .f32) (w : FVec Ideal S3x512 .f32) : FVec Ideal S8x4224x512 .f32 :=
  mulf (broadcastInDim S8x4224x512 ![0, 1, 2] bcast_S1x1x512_S8x4224x512_0_1_2 (broadcastInDim S1x1x512 ![2] bcast_S512_S1x1x512_2 (shapeCast S512 (extractStridedSlice S1x512 ![1, 0] w slices_S3x512_S1x512_1_0) shapeCasts_S1x512_S512)))
    (extractStridedSlice S8x4224x512 ![0, 1, 0] z slices_S8x4226x512_S8x4224x512_0_1_0)
def tap2 (z : FVec Ideal S8x4226x512 .f32) (w : FVec Ideal S3x512 .f32) : FVec Ideal S8x4224x512 .f32 :=
  mulf (broadcastInDim S8x4224x512 ![0, 1, 2] bcast_S1x1x512_S8x4224x512_0_1_2 (broadcastInDim S1x1x512 ![2] bcast_S512_S1x1x512_2 (shapeCast S512 (extractStridedSlice S1x512 ![2, 0] w slices_S3x512_S1x512_2_0) shapeCasts_S1x512_S512)))
    (extractStridedSlice S8x4224x512 ![0, 0, 0] z slices_S8x4226x512_S8x4224x512_0_0_0)

/-- The whole result. -/
def res (a0 : FVec Ideal S33792x6992 .f32) (a1 : FVec Ideal S2x3x512 .f32) : FVec Ideal S8x4224x512 .f32 :=
  mulf (extractStridedSlice S8x4224x512 ![0, 0, 2048] (pr a0) slices_S8x4224x6992_S8x4224x512_0_0_2048)
    (addf (addf (tap0 (zp (pr a0)) (wr a1)) (tap1 (zp (pr a0)) (wr a1))) (tap2 (zp (pr a0)) (wr a1)))

set_option maxHeartbeats 2000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v41).trans (by after_results <;> rfl),
      (h c main_arg0).trans (by after_results <;> rfl),
      (h c main_arg1).trans (by after_results <;> rfl)⟩)
    (run_seq scopedRefs_eq scopedSems_eq defs main (fun _ => ops) main_eq (fun _ => ops_sub) m ρ)

def pf (p : FVec Ideal S33792x6992 .f32) (n : Fin 33792) (k : Fin 6992) : EReal := p (ix2 n k)
def wf (w : FVec Ideal S2x3x512 .f32) (a : Fin 3) (f : Fin 512) : EReal := w (ix3 0 a f)

theorem zp_at (p : FVec Ideal S33792x6992 .f32) (b : Fin 8) (s : Fin 4224) (f : Fin 512) (k : ℕ) (n : Fin 4226) (hk : k + n.val = s.val + 2) :
    zp (pr p) (ix3 b n f) = Conv.zs (pf p) b s f k := by
  unfold zp Conv.zs
  by_cases h : k ≤ s.val
  · rw [if_pos h]
    refine (pad_apply_of_inside _ _ _ _ _ _ _ _ (ix3 b ⟨s.val - k, by omega⟩ f : S8x4224x512.Idx) (fun a => ?_)).trans ?_
    · match a with
      | ⟨0, _⟩ => show b.val = 0 + b.val * (0 + 1); omega
      | ⟨1, _⟩ => show n.val = 2 + (s.val - k) * (0 + 1); omega
      | ⟨2, _⟩ => show f.val = 0 + f.val * (0 + 1); omega
    · pointwise [pr, Conv.zrow, pf]
  · rw [if_neg h]
    refine (pad_apply_of_not_inside _ _ _ _ _ _ _ _ (1 : Fin 3) (fun hh => ?_)).trans ?_
    · have h1 : 2 ≤ n.val := hh.1
      omega
    · pointwise
      exact sitofp_zero

/-- The result without the padded product's own term. -/
def resz (z : FVec Ideal S8x4226x512 .f32) (p : FVec Ideal S8x4224x6992 .f32) (w : FVec Ideal S3x512 .f32) : FVec Ideal S8x4224x512 .f32 :=
  mulf (extractStridedSlice S8x4224x512 ![0, 0, 2048] p slices_S8x4224x6992_S8x4224x512_0_0_2048) (addf (addf (tap0 z w) (tap1 z w)) (tap2 z w))

theorem resz_at (z : FVec Ideal S8x4226x512 .f32) (p : FVec Ideal S33792x6992 .f32) (w : FVec Ideal S2x3x512 .f32) (b : Fin 8) (s : Fin 4224) (f : Fin 512) :
    resz z (pr p) (wr w) (ix3 b s f) = p (ix2 ⟨b.val * 4224 + s.val, by omega⟩ ⟨2048 + f.val, by omega⟩)
      * (w (ix3 0 0 f) * z (ix3 b ⟨2 + s.val, by omega⟩ f) + w (ix3 0 1 f) * z (ix3 b ⟨1 + s.val, by omega⟩ f) + w (ix3 0 2 f) * z (ix3 b ⟨s.val, by omega⟩ f)) := by
  pointwise [resz, pr, tap0, tap1, tap2, wr]

theorem res_at (p : FVec Ideal S33792x6992 .f32) (w : FVec Ideal S2x3x512 .f32) (b : Fin 8) (s : Fin 4224) (f : Fin 512) :
    res p w (ix3 b s f) = Conv.out (pf p) (wf w) b s f := by
  refine (resz_at (zp (pr p)) p w b s f).trans ?_
  rw [zp_at p b s f 0 _ (by show 0 + (2 + s.val) = s.val + 2; omega), zp_at p b s f 1 _ (by show 1 + (1 + s.val) = s.val + 2; omega), zp_at p b s f 2 _ (by show 2 + s.val = s.val + 2; omega)]
  rfl

theorem res_eq (p : FVec Ideal S33792x6992 .f32) (w : FVec Ideal S2x3x512 .f32) :
    res p w = fun i => Conv.out (pf p) (wf w) (i 0) (i 1) (i 2) := by
  funext i
  obtain ⟨b, s, f, rfl⟩ : ∃ b s f, i = ix3 b s f := ⟨i 0, i 1, i 2, eq_ix3 i⟩
  exact res_at p w b s f

end Cert.Reference5Ideal.ConvRef

end
-- ==== Proof.PrepMath.lean ====
/- Hand-written, untrusted: the norm of half a lane row against the norm of 64 entries, over the extended reals. -/
module

public import Idealize.ShloMosaic.Lib.Pipeline.ValueKit

@[expose] public section

set_option maxRecDepth 16384

noncomputable section

open Idealize.ShloMosaic
open scoped BigOperators

namespace Cert.Prep

/-- The small constant under the roots. -/
abbrev eps : EReal := Ideal.ofBits .f32 0x358637BD#32

/-- A row of 128 lanes that holds two rows of 64: each half is divided by the root of its own mean square, and scaled. -/
def hn (x g : Fin 128 → EReal) (l : Fin 128) : EReal :=
  x l * (if l.val < 64 then Ideal.rsqrt ((∑ k : Fin 128, if k.val < 64 then x k * x k else 0) * Ideal.ofBits .f32 0x3C800000#32 + eps)
    else Ideal.rsqrt ((∑ k : Fin 128, if k.val < 64 then 0 else x k * x k) * Ideal.ofBits .f32 0x3C800000#32 + eps)) * g l

/-- A row of 64 divided by the root of its mean square, and scaled. -/
def n64 (x g : Fin 64 → EReal) (e : Fin 64) : EReal :=
  x e * Ideal.rsqrt (Ideal.div (∑ k, x k * x k) (Ideal.ofBits .f32 0x42800000#32) + eps) * g e

/-- A row of 128 divided by the root of its mean square, and scaled. -/
def n128 (x g : Fin 128 → EReal) (e : Fin 128) : EReal :=
  x e * Ideal.rsqrt (Ideal.div (∑ k, x k * x k) (Ideal.ofBits .f32 0x43000000#32) + eps) * g e

theorem c64 : Ideal.ofBits .f32 0x42800000#32 = ((64 : ℝ) : EReal) := by
  simp [Ideal.ofBits, Ideal.ieee, -EReal.coe_mul]; norm_num

theorem c64i : Ideal.ofBits .f32 0x3C800000#32 = (((1 / 64 : ℝ)) : EReal) := by
  simp [Ideal.ofBits, Ideal.ieee, -EReal.coe_mul]; norm_num

theorem div64 (a : EReal) : Ideal.div a (Ideal.ofBits .f32 0x42800000#32) = a * Ideal.ofBits .f32 0x3C800000#32 := by
  rw [c64, c64i]
  exact Ideal.div_coe (by norm_num) a

theorem sum_halves (f : Fin 128 → EReal) : ∑ k, f k = (∑ k : Fin 64, f ⟨k.val, by omega⟩) + ∑ k : Fin 64, f ⟨64 + k.val, by omega⟩ :=
  Fin.sum_univ_add (a := 64) (b := 64) f

theorem sum_lo (f : Fin 128 → EReal) : (∑ k : Fin 128, if k.val < 64 then f k else 0) = ∑ k : Fin 64, f ⟨k.val, by omega⟩ := by
  refine (sum_halves _).trans ?_
  have h : (∑ k : Fin 64, if (64 + k.val) < 64 then f ⟨64 + k.val, by omega⟩ else 0) = 0 :=
    Finset.sum_eq_zero fun k _ => if_neg (by omega)
  refine (congrArg₂ (· + ·) (Finset.sum_congr rfl fun k _ => if_pos k.isLt) h).trans (add_zero _)

theorem sum_hi (f : Fin 128 → EReal) : (∑ k : Fin 128, if k.val < 64 then 0 else f k) = ∑ k : Fin 64, f ⟨64 + k.val, by omega⟩ := by
  refine (sum_halves _).trans ?_
  have h : (∑ k : Fin 64, if k.val < 64 then 0 else f ⟨k.val, by omega⟩) = 0 :=
    Finset.sum_eq_zero fun k _ => if_pos k.isLt
  refine (congrArg₂ (· + ·) h (Finset.sum_congr rfl fun k _ => if_neg (by show ¬64 + k.val < 64; omega))).trans (zero_add _)

/-- The lane form is the form of 64 entries, at lane `64 c + e`. -/
theorem hn_eq (x g : Fin 128 → EReal) (x' g' : Fin 64 → EReal) (c : Fin 2) (e : Fin 64)
    (hx : ∀ k : Fin 64, x ⟨c.val * 64 + k.val, by omega⟩ = x' k) (hg : g ⟨c.val * 64 + e.val, by omega⟩ = g' e) :
    hn x g ⟨c.val * 64 + e.val, by omega⟩ = n64 x' g' e := by
  unfold hn n64
  rw [div64, hx e, hg]
  match c with
  | ⟨0, _⟩ =>
    rw [if_pos (by show 0 * 64 + e.val < 64; omega), sum_lo fun k => x k * x k]
    have h : ∀ k : Fin 64, x ⟨k.val, by omega⟩ = x' k := fun k => (congrArg x (Fin.ext (by show k.val = 0 * 64 + k.val; omega))).trans (hx k)
    rw [Finset.sum_congr rfl fun k _ => congrArg₂ (· * ·) (h k) (h k)]
  | ⟨1, _⟩ =>
    rw [if_neg (by show ¬1 * 64 + e.val < 64; omega), sum_hi fun k => x k * x k]
    have h : ∀ k : Fin 64, x ⟨64 + k.val, by omega⟩ = x' k := fun k => (congrArg x (Fin.ext (by show 64 + k.val = 1 * 64 + k.val; omega))).trans (hx k)
    rw [Finset.sum_congr rfl fun k _ => congrArg₂ (· * ·) (h k) (h k)]

/-- The seven results of the preparation, entry by entry. -/
def s0 (p : Fin 33792 → Fin 6992 → EReal) (g : Fin 64 → EReal) (n : Fin 33792) (h : Fin 4) (c : Fin 2) (e : Fin 64) : EReal :=
  n64 (fun k => p n ⟨4096 + (h.val * 128 + (c.val * 64 + k.val)), by omega⟩) g e
def s1 (p : Fin 33792 → Fin 6992 → EReal) (n : Fin 33792) (h : Fin 4) (e : Fin 128) : EReal := p n ⟨4608 + (h.val * 128 + e.val), by omega⟩
def s2 (p : Fin 33792 → Fin 6992 → EReal) (g : Fin 128 → EReal) (n : Fin 33792) (e : Fin 128) : EReal := n128 (fun k => p n ⟨5632 + k.val, by omega⟩) g e
def s3 (p : Fin 33792 → Fin 6992 → EReal) (n : Fin 33792) (e : Fin 128) : EReal := p n ⟨5760 + e.val, by omega⟩
def s4 (p : Fin 33792 → Fin 6992 → EReal) (n : Fin 33792) (h : Fin 16) (e : Fin 64) : EReal :=
  p n ⟨5888 + (h.val * 64 + e.val), by omega⟩ * Ideal.ofBits .f32 0x3E000000#32
def s5 (p : Fin 33792 → Fin 6992 → EReal) (n : Fin 33792) (e : Fin 64) : EReal := p n ⟨6912 + e.val, by omega⟩
def s6 (p : Fin 33792 → Fin 6992 → EReal) (n : Fin 33792) (e : Fin 16) : EReal := p n ⟨6976 + e.val, by omega⟩ * Ideal.ofBits .f32 0x3E800000#32

end Cert.Prep

end
-- ==== Proof.PrepPay.lean ====
/- Hand-written, untrusted: what the preparation's body stores, entry by entry. -/
module

public import proofs.«01_k».proof.Proof.Gen.Kernel6Ideal.Frame
public import proofs.«01_k».proof.Proof.PrepMath
public import Idealize.ShloMosaic.Lib.VecWindow

@[expose] public section

set_option maxRecDepth 16384

noncomputable section

open Idealize.ShloMosaic Idealize.ShloMosaic.TcCoe Idealize.SL.Sem
open scoped BigOperators

namespace Cert.Kernel6Ideal.PrepPay
open Cert.Kernel6Ideal Cert.Kernel6Ideal.Gen

theorem pay2_sel (k : Fin 128) (a b : EReal) : Scalar.select (k0_pay2 (ix2 0 k)) a b = if k.val < 64 then a else b := by
  pointwise [k0_pay2]
  exact if_congr (WordCmp.cmpi_slt_ofNat_eq_one_iff (w := 32) (a := k.val) (b := 64) (by have := k.isLt; omega) (by decide)) rfl rfl

theorem pay4_at (x : FVec Ideal S512x128 .f32) (g : FVec Ideal S1x128 .f32) (j : S512x128.Idx) :
    k0_pay4 (F := Ideal) k0_pay2 x g j = Prep.hn (fun k => x (ix2 (j 0) k)) (fun k => g (ix2 0 k)) (j 1) := by
  obtain ⟨r, l, rfl⟩ : ∃ r l, j = ix2 r l := ⟨j 0, j 1, eq_ix2 j⟩
  have e := pay2_sel
  generalize k0_pay2 = v2 at e ⊢
  pointwise [k0_pay4]
  unfold Prep.hn
  rw [e, Finset.sum_congr rfl fun k _ => e k _ _, Finset.sum_congr rfl fun k _ => e k _ _]

theorem pay19_eq (v2 : IVec S1x128 1) (x : FVec Ideal S512x128 .f32) (g : FVec Ideal S1x128 .f32) :
    k0_pay19 (F := Ideal) v2 (k0_pay13 x) (k0_pay14 g) (k0_pay16 v2 x) (k0_pay17 v2 x) k0_pay18 = k0_pay4 (F := Ideal) v2 x g := rfl
theorem pay25_eq (v2 : IVec S1x128 1) (x : FVec Ideal S512x128 .f32) (g : FVec Ideal S1x128 .f32) :
    k0_pay25 (F := Ideal) v2 (k0_pay23 x) (k0_pay24 g) = k0_pay4 (F := Ideal) v2 x g := rfl
theorem pay42_eq (v2 : IVec S1x128 1) (x : FVec Ideal S512x128 .f32) (g : FVec Ideal S1x128 .f32) :
    k0_pay42 (F := Ideal) (k0_pay36 x) (k0_pay37 g) (k0_pay39 v2 x) (k0_pay40 v2) (k0_pay41 v2 x) = k0_pay4 (F := Ideal) v2 x g := rfl

theorem pay46_at (x : FVec Ideal S512x128 .f32) (g : FVec Ideal S1x128 .f32) (r : Fin 512) (l : Fin 128) :
    k0_pay46 (F := Ideal) (k0_pay44 x) (k0_pay45 x) g (ix2 r l) = Prep.n128 (fun k => x (ix2 r k)) (fun k => g (ix2 0 k)) l := by
  pointwise [k0_pay46, k0_pay45, k0_pay44]
  rfl

theorem pay70_at (x : FVec Ideal S512x1024 .f32) (r : Fin 512) (l : Fin 1024) :
    k0_pay70 (F := Ideal) x (ix2 r l) = x (ix2 r l) * Ideal.ofBits .f32 0x3E000000#32 := by
  pointwise [k0_pay70]

theorem pay73_at (v2 : IVec S1x128 1) (x : FVec Ideal S512x128 .f32) (r : Fin 512) (l : Fin 128) :
    k0_pay73 (F := Ideal) v2 x (ix2 r l) = Scalar.select (v2 (ix2 0 l)) (x (ix2 r l)) (x (ix2 r ⟨(l.val + 64) % 128, by omega⟩)) := by
  pointwise [k0_pay73, k0_pay72, k0_pay71]
  exact congrArg (fun k => Scalar.select (v2 (ix2 0 l)) (x (ix2 r l)) (x (ix2 r k))) (Fin.ext (by show (l.val + 128 - 64) % 128 = (l.val + 64) % 128; omega))

theorem pay1_at (x : FVec Ideal S512x128 .f32) (r : Fin 512) (l : Fin 128) :
    k0_pay1 (F := Ideal) (k0_pay72 x) (Scalar.ofBits .f32 0x3E800000#32) (ix2 r l) = x (ix2 r ⟨(l.val + 64) % 128, by omega⟩) * Ideal.ofBits .f32 0x3E800000#32 := by
  pointwise [k0_pay1, k0_pay72, k0_pay71]
  exact congrArg (fun k => x (ix2 r k) * Ideal.ofBits .f32 0x3E800000#32) (Fin.ext (by show (l.val + 128 - 64) % 128 = (l.val + 64) % 128; omega))

theorem pay47_at (x : FVec Ideal S128x128 .f32) (r l : Fin 128) :
    k0_pay47 (F := Ideal) x (ix3 0 r l) = x (ix2 l r) := by
  pointwise [k0_pay47]

theorem hn_congr (a a' g g' : Fin 128 → EReal) (l l' : Fin 128) (ea : ∀ k, a k = a' k) (eg : ∀ k, g k = g' k) (el : l = l') : Prep.hn a g l = Prep.hn a' g' l' := by
  rw [funext ea, funext eg, el]

theorem out13_at (x0 x1 x2 x3 : FVec Ideal S512x512 .f32) (x4 x5 x6 : FVec Ideal S512x128 .f32) (x7 : FVec Ideal S512x1024 .f32) (x8 x9 x10 x11 : FVec Ideal S1x128 .f32) (y : S512x512.Idx) :
    out0_13 (F := Ideal) x0 x1 x2 x3 x4 x5 x6 x7 x8 x9 x10 x11 y = Prep.hn (fun k => x1 (ix2 (y 0) ⟨(y 1).val / 128 * 128 + k.val, by have : (y 1).val < 512 := (y 1).isLt; show _ < 512; omega⟩))
      (fun k => x9 (ix2 0 k)) ⟨(y 1).val % 128, Nat.mod_lt _ (by decide)⟩ := by
  unfold out0_13
  canon_tiles x h
  · refine (congrFun (pay42_eq _ _ _) x).trans ((pay4_at _ _ x).trans (hn_congr _ _ _ _ _ _ (fun k => ?_) (fun k => ?_) (Fin.ext ?_)))
    · have hk := k.isLt
      pointwise; blk_ext
    · pointwise
    · show (x 1).val = (y 1).val % 128; omega
  · refine (congrFun (pay25_eq _ _ _) x).trans ((pay4_at _ _ x).trans (hn_congr _ _ _ _ _ _ (fun k => ?_) (fun k => ?_) (Fin.ext ?_)))
    · have hk := k.isLt
      pointwise; blk_ext
    · pointwise
    · show (x 1).val = (y 1).val % 128; omega
  · refine (congrFun (pay19_eq _ _ _) x).trans ((pay4_at _ _ x).trans (hn_congr _ _ _ _ _ _ (fun k => ?_) (fun k => ?_) (Fin.ext ?_)))
    · have hk := k.isLt
      pointwise; blk_ext
    · pointwise
    · show (x 1).val = (y 1).val % 128; omega
  · refine (pay4_at _ _ x).trans (hn_congr _ _ _ _ _ _ (fun k => ?_) (fun k => ?_) (Fin.ext ?_))
    · have hk := k.isLt
      pointwise; blk_ext
    · pointwise
    · show (x 1).val = (y 1).val % 128; omega

theorem out14_at (x0 x1 x2 x3 : FVec Ideal S512x512 .f32) (x4 x5 x6 : FVec Ideal S512x128 .f32) (x7 : FVec Ideal S512x1024 .f32) (x8 x9 x10 x11 : FVec Ideal S1x128 .f32) (y : S4x512x128.Idx) :
    out0_14 (F := Ideal) x0 x1 x2 x3 x4 x5 x6 x7 x8 x9 x10 x11 y = x2 (ix2 ⟨(y 0).val * 128 + (y 2).val, by have : (y 0).val < 4 := (y 0).isLt; have : (y 2).val < 128 := (y 2).isLt; show _ < 512; omega⟩ (y 1)) := by
  unfold out0_14
  canon_tiles x h
  all_goals (open_payloads; pointwise; blk_ext)

theorem out17_at (x0 x1 x2 x3 : FVec Ideal S512x512 .f32) (x4 x5 x6 : FVec Ideal S512x128 .f32) (x7 : FVec Ideal S512x1024 .f32) (x8 x9 x10 x11 : FVec Ideal S1x128 .f32) (y : S4x128x128.Idx) :
    out0_17 (F := Ideal) x0 x1 x2 x3 x4 x5 x6 x7 x8 x9 x10 x11 y = x5 (ix2 ⟨(y 0).val * 128 + (y 2).val, by have : (y 0).val < 4 := (y 0).isLt; have : (y 2).val < 128 := (y 2).isLt; show _ < 512; omega⟩ (y 1)) := by
  unfold out0_17
  canon_tiles x h
  all_goals (open_payloads; pointwise; blk_ext)

theorem n128_congr (a a' g g' : Fin 128 → EReal) (l l' : Fin 128) (ea : ∀ k, a k = a' k) (eg : ∀ k, g k = g' k) (el : l = l') : Prep.n128 a g l = Prep.n128 a' g' l' := by
  rw [funext ea, funext eg, el]

theorem out16_at (x0 x1 x2 x3 : FVec Ideal S512x512 .f32) (x4 x5 x6 : FVec Ideal S512x128 .f32) (x7 : FVec Ideal S512x1024 .f32) (x8 x9 x10 x11 : FVec Ideal S1x128 .f32) (r : Fin 512) (l : Fin 128) :
    out0_16 (F := Ideal) x0 x1 x2 x3 x4 x5 x6 x7 x8 x9 x10 x11 (ix2 r l) = Prep.n128 (fun k => x4 (ix2 r k)) (fun k => x11 (ix2 0 k)) l := by
  frame_out [out0_16]
  exact pay46_at x4 x11 r l

theorem out18_at (x0 x1 x2 x3 : FVec Ideal S512x512 .f32) (x4 x5 x6 : FVec Ideal S512x128 .f32) (x7 : FVec Ideal S512x1024 .f32) (x8 x9 x10 x11 : FVec Ideal S1x128 .f32) (r : Fin 512) (l : Fin 1024) :
    out0_18 (F := Ideal) x0 x1 x2 x3 x4 x5 x6 x7 x8 x9 x10 x11 (ix2 r l) = x7 (ix2 r l) * Ideal.ofBits .f32 0x3E000000#32 := by
  frame_out [out0_18]
  exact pay70_at x7 r l

theorem out19_at (x0 x1 x2 x3 : FVec Ideal S512x512 .f32) (x4 x5 x6 : FVec Ideal S512x128 .f32) (x7 : FVec Ideal S512x1024 .f32) (x8 x9 x10 x11 : FVec Ideal S1x128 .f32) (r : Fin 512) (l : Fin 128) :
    out0_19 (F := Ideal) x0 x1 x2 x3 x4 x5 x6 x7 x8 x9 x10 x11 (ix2 r l) = if l.val < 64 then x6 (ix2 r l) else x6 (ix2 r ⟨(l.val + 64) % 128, by omega⟩) := by
  frame_out [out0_19]
  exact (pay73_at k0_pay2 x6 r l).trans (pay2_sel l _ _)

theorem out20_at (x0 x1 x2 x3 : FVec Ideal S512x512 .f32) (x4 x5 x6 : FVec Ideal S512x128 .f32) (x7 : FVec Ideal S512x1024 .f32) (x8 x9 x10 x11 : FVec Ideal S1x128 .f32) (r : Fin 512) (l : Fin 128) :
    out0_20 (F := Ideal) x0 x1 x2 x3 x4 x5 x6 x7 x8 x9 x10 x11 (ix2 r l) = x6 (ix2 r ⟨(l.val + 64) % 128, by omega⟩) * Ideal.ofBits .f32 0x3E800000#32 := by
  frame_out [out0_20]
  exact pay1_at x6 r l

end Cert.Kernel6Ideal.PrepPay

end
-- ==== Proof.PrepKernel.lean ====
/- Hand-written, untrusted: the preparation's result arrays after a run of the sixth kernel, as functions of its arguments. -/
module

public import proofs.«01_k».proof.Proof.Gen.Kernel6Ideal.Frame
public import proofs.«01_k».proof.Proof.FfnMath
public import proofs.«01_k».proof.Proof.PrepMath
public import proofs.«01_k».proof.Proof.PrepPay
public import Idealize.ShloMosaic.Lib.VecWindow

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.PrepValue
open Cert.Kernel6Ideal Cert.Kernel6Ideal.Gen Cert.Kernel6Ideal.PrepPay

variable (m : (ℓ : Loc nD τ sig) → Buf (Elt Ideal) ℓ)

theorem idx1 : ∀ t : Fin grid0.N, win0_1.index t = ![t.val, 10] := (by decide +kernel : ∀ t : Fin grid0.N, win0_1.index t = ![t.val, 10])
theorem idx2 : ∀ t : Fin grid0.N, win0_2.index t = ![t.val, 11] := (by decide +kernel : ∀ t : Fin grid0.N, win0_2.index t = ![t.val, 11])
theorem idx4 : ∀ t : Fin grid0.N, win0_4.index t = ![t.val, 52] := (by decide +kernel : ∀ t : Fin grid0.N, win0_4.index t = ![t.val, 52])
theorem idx5 : ∀ t : Fin grid0.N, win0_5.index t = ![t.val, 53] := (by decide +kernel : ∀ t : Fin grid0.N, win0_5.index t = ![t.val, 53])
theorem idx6 : ∀ t : Fin grid0.N, win0_6.index t = ![t.val, 54] := (by decide +kernel : ∀ t : Fin grid0.N, win0_6.index t = ![t.val, 54])
theorem idx7 : ∀ t : Fin grid0.N, win0_7.index t = ![t.val, 2] := (by decide +kernel : ∀ t : Fin grid0.N, win0_7.index t = ![t.val, 2])
theorem idx9 : ∀ t : Fin grid0.N, win0_9.index t = ![0, 0] := (by decide +kernel : ∀ t : Fin grid0.N, win0_9.index t = ![0, 0])
theorem idx11 : ∀ t : Fin grid0.N, win0_11.index t = ![0, 0] := (by decide +kernel : ∀ t : Fin grid0.N, win0_11.index t = ![0, 0])
theorem idx13 : ∀ t : Fin grid0.N, win0_13.index t = ![t.val, 0] := (by decide +kernel : ∀ t : Fin grid0.N, win0_13.index t = ![t.val, 0])
theorem idx14 : ∀ t : Fin grid0.N, win0_14.index t = ![t.val, 0, 0] := (by decide +kernel : ∀ t : Fin grid0.N, win0_14.index t = ![t.val, 0, 0])
theorem idx16 : ∀ t : Fin grid0.N, win0_16.index t = ![t.val, 0] := (by decide +kernel : ∀ t : Fin grid0.N, win0_16.index t = ![t.val, 0])
theorem idx17 : ∀ t : Fin grid0.N, win0_17.index t = ![t.val, 0, 0] := (by decide +kernel : ∀ t : Fin grid0.N, win0_17.index t = ![t.val, 0, 0])
theorem idx18 : ∀ t : Fin grid0.N, win0_18.index t = ![t.val, 0] := (by decide +kernel : ∀ t : Fin grid0.N, win0_18.index t = ![t.val, 0])
theorem idx19 : ∀ t : Fin grid0.N, win0_19.index t = ![t.val, 0] := (by decide +kernel : ∀ t : Fin grid0.N, win0_19.index t = ![t.val, 0])
theorem idx20 : ∀ t : Fin grid0.N, win0_20.index t = ![t.val, 0] := (by decide +kernel : ∀ t : Fin grid0.N, win0_20.index t = ![t.val, 0])

theorem V_eq (c : Dev nD) (b : Ref sig .tc) : V m c b = StableHlo.after hostOps0 (fun b => m (c, b)) (Proc.devRef .tc b) :=
  congrArg (fun l => StableHlo.after l (fun b => m (c, b)) (Proc.devRef .tc b)) (List.append_nil hostOps0)

/-- The packed pieces of the projected rows. -/
def pieces (p : FVec Ideal S33792x6992 .f32) : List ((s : Shape) × (s.Idx → EReal)) :=
  [⟨S33792x2048, extractStridedSlice S33792x2048 ![0, 0] p slices_S33792x6992_S33792x2048_0_0⟩,
   ⟨S33792x1024, extractStridedSlice S33792x1024 ![0, 5888] p slices_S33792x6992_S33792x1024_0_5888⟩,
   ⟨S33792x3840, extractStridedSlice S33792x3840 ![0, 2048] p slices_S33792x6992_S33792x3840_0_2048⟩,
   ⟨S33792x80, extractStridedSlice S33792x80 ![0, 6912] p slices_S33792x6992_S33792x80_0_6912⟩,
   ⟨S33792x176, broadcastInDim S33792x176 ![] bcast_S_S33792x176 (constant (F := Ideal) S_ .f32 0x00000000#32)⟩]

/-- The packed rows. -/
def pp (p : FVec Ideal S33792x6992 .f32) : FVec Ideal S33792x7168 .f32 :=
  concatenate S33792x7168 1 (pieces p) concatenates_S33792x2048_S33792x1024_S33792x3840_S33792x80_S33792x176_S33792x7168_d1

theorem casts (q : FVec Ideal S33792x7168 .f32) :
    shapeCast S33792x7168 (shapeCast S8x4224x7168 q shapeCasts_S33792x7168_S8x4224x7168) shapeCasts_S8x4224x7168_S33792x7168 = q := by
  funext i
  obtain ⟨r, l, rfl⟩ : ∃ r l, i = ix2 r l := ⟨i 0, i 1, eq_ix2 i⟩
  pointwise
  blk_ext

theorem V_main_v7 (c : Dev nD) : V m c main_v7 = pp (m ((c : Thread nD τ).loc main_arg0)) := by
  refine Eq.trans ?_ (casts _)
  rw [V_eq]
  after_results <;> rfl

/-- A gain row of 64 entries, twice. -/
def gg (g : FVec Ideal S2x64 .f32) : FVec Ideal S1x128 .f32 :=
  shapeCast S1x128 (shapeCast S128 (broadcastInDim S2x64 ![0, 1] bcast_S1x64_S2x64_0_1 (shapeCast S1x64 (shapeCast S64 (extractStridedSlice S1x64 ![0, 0] g slices_S2x64_S1x64_0_0) shapeCasts_S1x64_S64) shapeCasts_S64_S1x64)) shapeCasts_S2x64_S128) shapeCasts_S128_S1x128

theorem gg_at (g : FVec Ideal S2x64 .f32) (k : Fin 128) : gg g (ix2 0 k) = g (ix2 0 ⟨k.val % 64, Nat.mod_lt _ (by decide)⟩) := by
  pointwise [gg]

/-- A gain row of 128 entries. -/
def dg (g : FVec Ideal S2x128 .f32) : FVec Ideal S1x128 .f32 :=
  shapeCast S1x128 (shapeCast S128 (extractStridedSlice S1x128 ![0, 0] g slices_S2x128_S1x128_0_0) shapeCasts_S1x128_S128) shapeCasts_S128_S1x128

theorem dg_at (g : FVec Ideal S2x128 .f32) (k : Fin 128) : dg g (ix2 0 k) = g (ix2 0 k) := by
  pointwise [dg]

theorem V_main_v23 (c : Dev nD) : V m c main_v23 = gg (m ((c : Thread nD τ).loc main_arg2)) := by
  rw [V_eq]
  after_results <;> rfl

theorem V_main_v25 (c : Dev nD) : V m c main_v25 = dg (m ((c : Thread nD τ).loc main_arg4)) := by
  rw [V_eq]
  after_results <;> rfl

theorem pp_1 (p : FVec Ideal S33792x6992 .f32) (r : Fin 33792) (f : Fin 1024) :
    pp p (ix2 r ⟨2048 + f.val, by omega⟩) = p (ix2 r ⟨5888 + f.val, by omega⟩) := by
  refine (concatenate_apply_piece 1 (pieces p) _ (ix2 r ⟨2048 + f.val, by omega⟩ : S33792x7168.Idx) 1 (by simp [pieces]) S33792x1024
    (extractStridedSlice S33792x1024 ![0, 5888] p slices_S33792x6992_S33792x1024_0_5888) (by simp [pieces]) rfl 2048 (by simp [pieces]; try rfl)
    (ix2 r f : S33792x1024.Idx) (fun b hb => ?_) rfl).trans ?_
  · match b with
    | ⟨0, _⟩ => rfl
    | ⟨1, _⟩ => exact absurd rfl hb
  · pointwise

theorem pp_2 (p : FVec Ideal S33792x6992 .f32) (r : Fin 33792) (f : Fin 3840) :
    pp p (ix2 r ⟨3072 + f.val, by omega⟩) = p (ix2 r ⟨2048 + f.val, by omega⟩) := by
  refine (concatenate_apply_piece 1 (pieces p) _ (ix2 r ⟨3072 + f.val, by omega⟩ : S33792x7168.Idx) 2 (by simp [pieces]) S33792x3840
    (extractStridedSlice S33792x3840 ![0, 2048] p slices_S33792x6992_S33792x3840_0_2048) (by simp [pieces]) rfl 3072 (by simp [pieces]; try rfl)
    (ix2 r f : S33792x3840.Idx) (fun b hb => ?_) rfl).trans ?_
  · match b with
    | ⟨0, _⟩ => rfl
    | ⟨1, _⟩ => exact absurd rfl hb
  · pointwise

theorem pp_3 (p : FVec Ideal S33792x6992 .f32) (r : Fin 33792) (f : Fin 80) :
    pp p (ix2 r ⟨6912 + f.val, by omega⟩) = p (ix2 r ⟨6912 + f.val, by omega⟩) := by
  refine (concatenate_apply_piece 1 (pieces p) _ (ix2 r ⟨6912 + f.val, by omega⟩ : S33792x7168.Idx) 3 (by simp [pieces]) S33792x80
    (extractStridedSlice S33792x80 ![0, 6912] p slices_S33792x6992_S33792x80_0_6912) (by simp [pieces]) rfl 6912 (by simp [pieces]; try rfl)
    (ix2 r f : S33792x80.Idx) (fun b hb => ?_) rfl).trans ?_
  · match b with
    | ⟨0, _⟩ => rfl
    | ⟨1, _⟩ => exact absurd rfl hb
  · pointwise

/-- The packed rows of a memory, and its gains. -/
abbrev Q (c : Dev nD) : FVec Ideal S33792x7168 .f32 := pp (m ((c : Thread nD τ).loc main_arg0))
abbrev CK (c : Dev nD) : FVec Ideal S1x128 .f32 := gg (m ((c : Thread nD τ).loc main_arg2))
abbrev DK (c : Dev nD) : FVec Ideal S1x128 .f32 := dg (m ((c : Thread nD τ).loc main_arg4))

theorem N_val (t : Fin cfg0.N) : t.val < 66 := lt_of_lt_of_eq t.isLt N_0

theorem e1_0 (t : Fin cfg0.N) (r : Fin 512) (f : Fin 512) : (((cfg0.win 1).blk t).view.emb (ix2 r f : S512x512.Idx) 0).val = t.val * 512 + r.val := by
  show win0_1.index t (0 : Fin 2) * 512 + 1 * r.val = _
  rw [idx1 t, Nat.one_mul]; rfl
theorem e1_1 (t : Fin cfg0.N) (r : Fin 512) (f : Fin 512) : (((cfg0.win 1).blk t).view.emb (ix2 r f : S512x512.Idx) 1).val = 5120 + f.val := by
  show win0_1.index t (1 : Fin 2) * 512 + 1 * f.val = _
  rw [idx1 t, Nat.one_mul]
  show 10 * 512 + f.val = 5120 + f.val
  omega
theorem e1_2 (t : Fin cfg0.N) (r : Fin 512) (f : Fin 512) (q : FVec Ideal S33792x7168 .f32) :
    (View.read (Elt Ideal) ((cfg0.win 1).blk t).view q : S512x512.Idx → EReal) (ix2 r f) = q (((cfg0.win 1).blk t).view.emb (ix2 r f : S512x512.Idx)) := rfl
theorem e1_3 (c : Dev nD) (t : Fin cfg0.N) (q : FVec Ideal S33792x7168 .f32) (hq : V m c main_v7 = q) :
    (iblk m c 1 t : S512x512.Idx → EReal) = View.read (Elt Ideal) ((cfg0.win 1).blk t).view q := by
  subst hq
  rfl
theorem b1_at (c : Dev nD) (t : Fin cfg0.N) (r : Fin 512) (f : Fin 512) :
    (iblk m c 1 t : S512x512.Idx → EReal) (ix2 r f) = Q m c (ix2 ⟨t.val * 512 + r.val, by have := N_val t; omega⟩ ⟨5120 + f.val, by omega⟩) := by
  rw [e1_3 m c t _ (V_main_v7 m c), e1_2]
  refine congrArg (Q m c) ?_
  funext a
  match a with
  | ⟨0, _⟩ => exact Fin.ext (e1_0 t r f)
  | ⟨1, _⟩ => exact Fin.ext (e1_1 t r f)

theorem e2_0 (t : Fin cfg0.N) (r : Fin 512) (f : Fin 512) : (((cfg0.win 2).blk t).view.emb (ix2 r f : S512x512.Idx) 0).val = t.val * 512 + r.val := by
  show win0_2.index t (0 : Fin 2) * 512 + 1 * r.val = _
  rw [idx2 t, Nat.one_mul]; rfl
theorem e2_1 (t : Fin cfg0.N) (r : Fin 512) (f : Fin 512) : (((cfg0.win 2).blk t).view.emb (ix2 r f : S512x512.Idx) 1).val = 5632 + f.val := by
  show win0_2.index t (1 : Fin 2) * 512 + 1 * f.val = _
  rw [idx2 t, Nat.one_mul]
  show 11 * 512 + f.val = 5632 + f.val
  omega
theorem e2_2 (t : Fin cfg0.N) (r : Fin 512) (f : Fin 512) (q : FVec Ideal S33792x7168 .f32) :
    (View.read (Elt Ideal) ((cfg0.win 2).blk t).view q : S512x512.Idx → EReal) (ix2 r f) = q (((cfg0.win 2).blk t).view.emb (ix2 r f : S512x512.Idx)) := rfl
theorem e2_3 (c : Dev nD) (t : Fin cfg0.N) (q : FVec Ideal S33792x7168 .f32) (hq : V m c main_v7 = q) :
    (iblk m c 2 t : S512x512.Idx → EReal) = View.read (Elt Ideal) ((cfg0.win 2).blk t).view q := by
  subst hq
  rfl
theorem b2_at (c : Dev nD) (t : Fin cfg0.N) (r : Fin 512) (f : Fin 512) :
    (iblk m c 2 t : S512x512.Idx → EReal) (ix2 r f) = Q m c (ix2 ⟨t.val * 512 + r.val, by have := N_val t; omega⟩ ⟨5632 + f.val, by omega⟩) := by
  rw [e2_3 m c t _ (V_main_v7 m c), e2_2]
  refine congrArg (Q m c) ?_
  funext a
  match a with
  | ⟨0, _⟩ => exact Fin.ext (e2_0 t r f)
  | ⟨1, _⟩ => exact Fin.ext (e2_1 t r f)

theorem e4_0 (t : Fin cfg0.N) (r : Fin 512) (f : Fin 128) : (((cfg0.win 4).blk t).view.emb (ix2 r f : S512x128.Idx) 0).val = t.val * 512 + r.val := by
  show win0_4.index t (0 : Fin 2) * 512 + 1 * r.val = _
  rw [idx4 t, Nat.one_mul]; rfl
theorem e4_1 (t : Fin cfg0.N) (r : Fin 512) (f : Fin 128) : (((cfg0.win 4).blk t).view.emb (ix2 r f : S512x128.Idx) 1).val = 6656 + f.val := by
  show win0_4.index t (1 : Fin 2) * 128 + 1 * f.val = _
  rw [idx4 t, Nat.one_mul]
  show 52 * 128 + f.val = 6656 + f.val
  omega
theorem e4_2 (t : Fin cfg0.N) (r : Fin 512) (f : Fin 128) (q : FVec Ideal S33792x7168 .f32) :
    (View.read (Elt Ideal) ((cfg0.win 4).blk t).view q : S512x128.Idx → EReal) (ix2 r f) = q (((cfg0.win 4).blk t).view.emb (ix2 r f : S512x128.Idx)) := rfl
theorem e4_3 (c : Dev nD) (t : Fin cfg0.N) (q : FVec Ideal S33792x7168 .f32) (hq : V m c main_v7 = q) :
    (iblk m c 4 t : S512x128.Idx → EReal) = View.read (Elt Ideal) ((cfg0.win 4).blk t).view q := by
  subst hq
  rfl
theorem b4_at (c : Dev nD) (t : Fin cfg0.N) (r : Fin 512) (f : Fin 128) :
    (iblk m c 4 t : S512x128.Idx → EReal) (ix2 r f) = Q m c (ix2 ⟨t.val * 512 + r.val, by have := N_val t; omega⟩ ⟨6656 + f.val, by omega⟩) := by
  rw [e4_3 m c t _ (V_main_v7 m c), e4_2]
  refine congrArg (Q m c) ?_
  funext a
  match a with
  | ⟨0, _⟩ => exact Fin.ext (e4_0 t r f)
  | ⟨1, _⟩ => exact Fin.ext (e4_1 t r f)

theorem e5_0 (t : Fin cfg0.N) (r : Fin 512) (f : Fin 128) : (((cfg0.win 5).blk t).view.emb (ix2 r f : S512x128.Idx) 0).val = t.val * 512 + r.val := by
  show win0_5.index t (0 : Fin 2) * 512 + 1 * r.val = _
  rw [idx5 t, Nat.one_mul]; rfl
theorem e5_1 (t : Fin cfg0.N) (r : Fin 512) (f : Fin 128) : (((cfg0.win 5).blk t).view.emb (ix2 r f : S512x128.Idx) 1).val = 6784 + f.val := by
  show win0_5.index t (1 : Fin 2) * 128 + 1 * f.val = _
  rw [idx5 t, Nat.one_mul]
  show 53 * 128 + f.val = 6784 + f.val
  omega
theorem e5_2 (t : Fin cfg0.N) (r : Fin 512) (f : Fin 128) (q : FVec Ideal S33792x7168 .f32) :
    (View.read (Elt Ideal) ((cfg0.win 5).blk t).view q : S512x128.Idx → EReal) (ix2 r f) = q (((cfg0.win 5).blk t).view.emb (ix2 r f : S512x128.Idx)) := rfl
theorem e5_3 (c : Dev nD) (t : Fin cfg0.N) (q : FVec Ideal S33792x7168 .f32) (hq : V m c main_v7 = q) :
    (iblk m c 5 t : S512x128.Idx → EReal) = View.read (Elt Ideal) ((cfg0.win 5).blk t).view q := by
  subst hq
  rfl
theorem b5_at (c : Dev nD) (t : Fin cfg0.N) (r : Fin 512) (f : Fin 128) :
    (iblk m c 5 t : S512x128.Idx → EReal) (ix2 r f) = Q m c (ix2 ⟨t.val * 512 + r.val, by have := N_val t; omega⟩ ⟨6784 + f.val, by omega⟩) := by
  rw [e5_3 m c t _ (V_main_v7 m c), e5_2]
  refine congrArg (Q m c) ?_
  funext a
  match a with
  | ⟨0, _⟩ => exact Fin.ext (e5_0 t r f)
  | ⟨1, _⟩ => exact Fin.ext (e5_1 t r f)

theorem e6_0 (t : Fin cfg0.N) (r : Fin 512) (f : Fin 128) : (((cfg0.win 6).blk t).view.emb (ix2 r f : S512x128.Idx) 0).val = t.val * 512 + r.val := by
  show win0_6.index t (0 : Fin 2) * 512 + 1 * r.val = _
  rw [idx6 t, Nat.one_mul]; rfl
theorem e6_1 (t : Fin cfg0.N) (r : Fin 512) (f : Fin 128) : (((cfg0.win 6).blk t).view.emb (ix2 r f : S512x128.Idx) 1).val = 6912 + f.val := by
  show win0_6.index t (1 : Fin 2) * 128 + 1 * f.val = _
  rw [idx6 t, Nat.one_mul]
  show 54 * 128 + f.val = 6912 + f.val
  omega
theorem e6_2 (t : Fin cfg0.N) (r : Fin 512) (f : Fin 128) (q : FVec Ideal S33792x7168 .f32) :
    (View.read (Elt Ideal) ((cfg0.win 6).blk t).view q : S512x128.Idx → EReal) (ix2 r f) = q (((cfg0.win 6).blk t).view.emb (ix2 r f : S512x128.Idx)) := rfl
theorem e6_3 (c : Dev nD) (t : Fin cfg0.N) (q : FVec Ideal S33792x7168 .f32) (hq : V m c main_v7 = q) :
    (iblk m c 6 t : S512x128.Idx → EReal) = View.read (Elt Ideal) ((cfg0.win 6).blk t).view q := by
  subst hq
  rfl
theorem b6_at (c : Dev nD) (t : Fin cfg0.N) (r : Fin 512) (f : Fin 128) :
    (iblk m c 6 t : S512x128.Idx → EReal) (ix2 r f) = Q m c (ix2 ⟨t.val * 512 + r.val, by have := N_val t; omega⟩ ⟨6912 + f.val, by omega⟩) := by
  rw [e6_3 m c t _ (V_main_v7 m c), e6_2]
  refine congrArg (Q m c) ?_
  funext a
  match a with
  | ⟨0, _⟩ => exact Fin.ext (e6_0 t r f)
  | ⟨1, _⟩ => exact Fin.ext (e6_1 t r f)

theorem e7_0 (t : Fin cfg0.N) (r : Fin 512) (f : Fin 1024) : (((cfg0.win 7).blk t).view.emb (ix2 r f : S512x1024.Idx) 0).val = t.val * 512 + r.val := by
  show win0_7.index t (0 : Fin 2) * 512 + 1 * r.val = _
  rw [idx7 t, Nat.one_mul]; rfl
theorem e7_1 (t : Fin cfg0.N) (r : Fin 512) (f : Fin 1024) : (((cfg0.win 7).blk t).view.emb (ix2 r f : S512x1024.Idx) 1).val = 2048 + f.val := by
  show win0_7.index t (1 : Fin 2) * 1024 + 1 * f.val = _
  rw [idx7 t, Nat.one_mul]
  show 2 * 1024 + f.val = 2048 + f.val
  omega
theorem e7_2 (t : Fin cfg0.N) (r : Fin 512) (f : Fin 1024) (q : FVec Ideal S33792x7168 .f32) :
    (View.read (Elt Ideal) ((cfg0.win 7).blk t).view q : S512x1024.Idx → EReal) (ix2 r f) = q (((cfg0.win 7).blk t).view.emb (ix2 r f : S512x1024.Idx)) := rfl
theorem e7_3 (c : Dev nD) (t : Fin cfg0.N) (q : FVec Ideal S33792x7168 .f32) (hq : V m c main_v7 = q) :
    (iblk m c 7 t : S512x1024.Idx → EReal) = View.read (Elt Ideal) ((cfg0.win 7).blk t).view q := by
  subst hq
  rfl
theorem b7_at (c : Dev nD) (t : Fin cfg0.N) (r : Fin 512) (f : Fin 1024) :
    (iblk m c 7 t : S512x1024.Idx → EReal) (ix2 r f) = Q m c (ix2 ⟨t.val * 512 + r.val, by have := N_val t; omega⟩ ⟨2048 + f.val, by omega⟩) := by
  rw [e7_3 m c t _ (V_main_v7 m c), e7_2]
  refine congrArg (Q m c) ?_
  funext a
  match a with
  | ⟨0, _⟩ => exact Fin.ext (e7_0 t r f)
  | ⟨1, _⟩ => exact Fin.ext (e7_1 t r f)

theorem b9_at (c : Dev nD) (t : Fin cfg0.N) (k : Fin 128) : (iblk m c 9 t : S1x128.Idx → EReal) (ix2 0 k) = CK m c (ix2 0 k) := by
  have e : ∀ q : FVec Ideal S1x128 .f32, (View.read (Elt Ideal) ((cfg0.win 9).blk t).view q : S1x128.Idx → EReal) (ix2 0 k) = q (ix2 0 k) := fun q => by
    refine congrArg q ?_
    funext b
    match b with
    | ⟨0, _⟩ => exact Subsingleton.elim (α := Fin 1) _ _
    | ⟨1, _⟩ =>
      apply Fin.ext
      show win0_9.index t (1 : Fin 2) * 128 + 1 * k.val = _
      rw [idx9 t, Nat.one_mul]
      show 0 * 128 + k.val = k.val
      omega
  exact (e (V m c main_v23)).trans (congrFun (V_main_v23 m c) _)

theorem b11_at (c : Dev nD) (t : Fin cfg0.N) (k : Fin 128) : (iblk m c 11 t : S1x128.Idx → EReal) (ix2 0 k) = DK m c (ix2 0 k) := by
  have e : ∀ q : FVec Ideal S1x128 .f32, (View.read (Elt Ideal) ((cfg0.win 11).blk t).view q : S1x128.Idx → EReal) (ix2 0 k) = q (ix2 0 k) := fun q => by
    refine congrArg q ?_
    funext b
    match b with
    | ⟨0, _⟩ => exact Subsingleton.elim (α := Fin 1) _ _
    | ⟨1, _⟩ =>
      apply Fin.ext
      show win0_11.index t (1 : Fin 2) * 128 + 1 * k.val = _
      rw [idx11 t, Nat.one_mul]
      show 0 * 128 + k.val = k.val
      omega
  exact (e (V m c main_v25)).trans (congrFun (V_main_v25 m c) _)

/-- The result arrays as functions of the packed rows and the gains. -/
def A13 (q : FVec Ideal S33792x7168 .f32) (g : FVec Ideal S1x128 .f32) (n : Fin 33792) (f : Fin 512) : EReal :=
  Prep.hn (fun k => q (ix2 n ⟨5120 + (f.val / 128 * 128 + k.val), by omega⟩)) (fun k => g (ix2 0 k)) ⟨f.val % 128, Nat.mod_lt _ (by decide)⟩
def A14 (q : FVec Ideal S33792x7168 .f32) (b : Fin 264) (f : Fin 512) (r : Fin 128) : EReal :=
  q (ix2 ⟨b.val * 128 + r.val, by omega⟩ ⟨5632 + f.val, by omega⟩)
def A16 (q : FVec Ideal S33792x7168 .f32) (g : FVec Ideal S1x128 .f32) (n : Fin 33792) (f : Fin 128) : EReal :=
  Prep.n128 (fun k => q (ix2 n ⟨6656 + k.val, by omega⟩)) (fun k => g (ix2 0 k)) f
def A17 (q : FVec Ideal S33792x7168 .f32) (b : Fin 264) (f : Fin 128) (r : Fin 128) : EReal :=
  q (ix2 ⟨b.val * 128 + r.val, by omega⟩ ⟨6784 + f.val, by omega⟩)
def A18 (q : FVec Ideal S33792x7168 .f32) (n : Fin 33792) (f : Fin 1024) : EReal :=
  q (ix2 n ⟨2048 + f.val, by omega⟩) * Ideal.ofBits .f32 0x3E000000#32
def A19 (q : FVec Ideal S33792x7168 .f32) (n : Fin 33792) (f : Fin 128) : EReal :=
  if f.val < 64 then q (ix2 n ⟨6912 + f.val, by omega⟩) else q (ix2 n ⟨6912 + (f.val + 64) % 128, by omega⟩)
def A20 (q : FVec Ideal S33792x7168 .f32) (n : Fin 33792) (f : Fin 128) : EReal :=
  q (ix2 n ⟨6912 + (f.val + 64) % 128, by omega⟩) * Ideal.ofBits .f32 0x3E800000#32

theorem p13 (c : Dev nD) (t : Fin cfg0.N) (r : Fin 512) (f : Fin 512) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r f) = A13 (Q m c) (CK m c) ⟨t.val * 512 + r.val, by have := N_val t; omega⟩ f :=
  (out13_at _ _ _ _ _ _ _ _ _ _ _ _ (ix2 r f)).trans (hn_congr _ _ _ _ _ _ (fun k => (b1_at m c t r _).trans rfl) (fun k => b9_at m c t k) rfl)
theorem m13_0 (t : Fin cfg0.N) (y : S512x512.Idx) : ((win0_13.blk t).view.emb y 0).val = t.val * 512 + (y 0).val := by
  show win0_13.index t (0 : Fin 2) * 512 + 1 * (y 0).val = _
  rw [idx13 t, Nat.one_mul]; rfl
theorem m13_1 (t : Fin cfg0.N) (y : S512x512.Idx) : ((win0_13.blk t).view.emb y 1).val = (y 1).val := by
  show win0_13.index t (1 : Fin 2) * 512 + 1 * (y 1).val = _
  rw [idx13 t, Nat.one_mul]
  show 0 * 512 + (y 1).val = (y 1).val
  omega
def R13 (q : FVec Ideal S33792x7168 .f32) (g : FVec Ideal S1x128 .f32) : S33792x512.Idx → EReal := fun i => A13 q g (i 0) (i 1)
theorem final13 (c : Dev nD) : (dats m 0 c).arrAt 13 (cfgs 0).N = R13 (Q m c) (CK m c) := by
  refine (dats m 0 c).arrAt_eq_of_covers 13 _ (by decide +kernel) fun t hf y => ?_
  blk_simp
  rw [after0_13]
  have hy : (ix2 (y 0) (y 1) : S512x512.Idx) = y := by funext a; match a with | ⟨0, _⟩ => rfl | ⟨1, _⟩ => rfl
  have e := p13 m c t (y 0) (y 1)
  rw [hy] at e
  refine e.trans ?_
  exact congrArg₂ (A13 (Q m c) (CK m c)) (Fin.ext (m13_0 t y).symm) (Fin.ext (m13_1 t y).symm)

theorem p16 (c : Dev nD) (t : Fin cfg0.N) (r : Fin 512) (f : Fin 128) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r f) = A16 (Q m c) (DK m c) ⟨t.val * 512 + r.val, by have := N_val t; omega⟩ f :=
  (out16_at _ _ _ _ _ _ _ _ _ _ _ _ r f).trans (n128_congr _ _ _ _ _ _ (fun k => b4_at m c t r k) (fun k => b11_at m c t k) rfl)
theorem m16_0 (t : Fin cfg0.N) (y : S512x128.Idx) : ((win0_16.blk t).view.emb y 0).val = t.val * 512 + (y 0).val := by
  show win0_16.index t (0 : Fin 2) * 512 + 1 * (y 0).val = _
  rw [idx16 t, Nat.one_mul]; rfl
theorem m16_1 (t : Fin cfg0.N) (y : S512x128.Idx) : ((win0_16.blk t).view.emb y 1).val = (y 1).val := by
  show win0_16.index t (1 : Fin 2) * 128 + 1 * (y 1).val = _
  rw [idx16 t, Nat.one_mul]
  show 0 * 128 + (y 1).val = (y 1).val
  omega
def R16 (q : FVec Ideal S33792x7168 .f32) (g : FVec Ideal S1x128 .f32) : S33792x128.Idx → EReal := fun i => A16 q g (i 0) (i 1)
theorem final16 (c : Dev nD) : (dats m 0 c).arrAt 16 (cfgs 0).N = R16 (Q m c) (DK m c) := by
  refine (dats m 0 c).arrAt_eq_of_covers 16 _ (by decide +kernel) fun t hf y => ?_
  blk_simp
  rw [after0_16]
  have hy : (ix2 (y 0) (y 1) : S512x128.Idx) = y := by funext a; match a with | ⟨0, _⟩ => rfl | ⟨1, _⟩ => rfl
  have e := p16 m c t (y 0) (y 1)
  rw [hy] at e
  refine e.trans ?_
  exact congrArg₂ (A16 (Q m c) (DK m c)) (Fin.ext (m16_0 t y).symm) (Fin.ext (m16_1 t y).symm)

theorem p18 (c : Dev nD) (t : Fin cfg0.N) (r : Fin 512) (f : Fin 1024) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r f) = A18 (Q m c) ⟨t.val * 512 + r.val, by have := N_val t; omega⟩ f :=
  (out18_at _ _ _ _ _ _ _ _ _ _ _ _ r f).trans (congrArg (· * _) (b7_at m c t r f))
theorem m18_0 (t : Fin cfg0.N) (y : S512x1024.Idx) : ((win0_18.blk t).view.emb y 0).val = t.val * 512 + (y 0).val := by
  show win0_18.index t (0 : Fin 2) * 512 + 1 * (y 0).val = _
  rw [idx18 t, Nat.one_mul]; rfl
theorem m18_1 (t : Fin cfg0.N) (y : S512x1024.Idx) : ((win0_18.blk t).view.emb y 1).val = (y 1).val := by
  show win0_18.index t (1 : Fin 2) * 1024 + 1 * (y 1).val = _
  rw [idx18 t, Nat.one_mul]
  show 0 * 1024 + (y 1).val = (y 1).val
  omega
def R18 (q : FVec Ideal S33792x7168 .f32) : S33792x1024.Idx → EReal := fun i => A18 q (i 0) (i 1)
theorem final18 (c : Dev nD) : (dats m 0 c).arrAt 18 (cfgs 0).N = R18 (Q m c) := by
  refine (dats m 0 c).arrAt_eq_of_covers 18 _ (by decide +kernel) fun t hf y => ?_
  blk_simp
  rw [after0_18]
  have hy : (ix2 (y 0) (y 1) : S512x1024.Idx) = y := by funext a; match a with | ⟨0, _⟩ => rfl | ⟨1, _⟩ => rfl
  have e := p18 m c t (y 0) (y 1)
  rw [hy] at e
  refine e.trans ?_
  exact congrArg₂ (A18 (Q m c)) (Fin.ext (m18_0 t y).symm) (Fin.ext (m18_1 t y).symm)

theorem p19 (c : Dev nD) (t : Fin cfg0.N) (r : Fin 512) (f : Fin 128) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r f) = A19 (Q m c) ⟨t.val * 512 + r.val, by have := N_val t; omega⟩ f :=
  (out19_at _ _ _ _ _ _ _ _ _ _ _ _ r f).trans (if_congr Iff.rfl (b6_at m c t r _) (b6_at m c t r _))
theorem m19_0 (t : Fin cfg0.N) (y : S512x128.Idx) : ((win0_19.blk t).view.emb y 0).val = t.val * 512 + (y 0).val := by
  show win0_19.index t (0 : Fin 2) * 512 + 1 * (y 0).val = _
  rw [idx19 t, Nat.one_mul]; rfl
theorem m19_1 (t : Fin cfg0.N) (y : S512x128.Idx) : ((win0_19.blk t).view.emb y 1).val = (y 1).val := by
  show win0_19.index t (1 : Fin 2) * 128 + 1 * (y 1).val = _
  rw [idx19 t, Nat.one_mul]
  show 0 * 128 + (y 1).val = (y 1).val
  omega
def R19 (q : FVec Ideal S33792x7168 .f32) : S33792x128.Idx → EReal := fun i => A19 q (i 0) (i 1)
theorem final19 (c : Dev nD) : (dats m 0 c).arrAt 19 (cfgs 0).N = R19 (Q m c) := by
  refine (dats m 0 c).arrAt_eq_of_covers 19 _ (by decide +kernel) fun t hf y => ?_
  blk_simp
  rw [after0_19]
  have hy : (ix2 (y 0) (y 1) : S512x128.Idx) = y := by funext a; match a with | ⟨0, _⟩ => rfl | ⟨1, _⟩ => rfl
  have e := p19 m c t (y 0) (y 1)
  rw [hy] at e
  refine e.trans ?_
  exact congrArg₂ (A19 (Q m c)) (Fin.ext (m19_0 t y).symm) (Fin.ext (m19_1 t y).symm)

theorem p20 (c : Dev nD) (t : Fin cfg0.N) (r : Fin 512) (f : Fin 128) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r f) = A20 (Q m c) ⟨t.val * 512 + r.val, by have := N_val t; omega⟩ f :=
  (out20_at _ _ _ _ _ _ _ _ _ _ _ _ r f).trans (congrArg (· * _) (b6_at m c t r _))
theorem m20_0 (t : Fin cfg0.N) (y : S512x128.Idx) : ((win0_20.blk t).view.emb y 0).val = t.val * 512 + (y 0).val := by
  show win0_20.index t (0 : Fin 2) * 512 + 1 * (y 0).val = _
  rw [idx20 t, Nat.one_mul]; rfl
theorem m20_1 (t : Fin cfg0.N) (y : S512x128.Idx) : ((win0_20.blk t).view.emb y 1).val = (y 1).val := by
  show win0_20.index t (1 : Fin 2) * 128 + 1 * (y 1).val = _
  rw [idx20 t, Nat.one_mul]
  show 0 * 128 + (y 1).val = (y 1).val
  omega
def R20 (q : FVec Ideal S33792x7168 .f32) : S33792x128.Idx → EReal := fun i => A20 q (i 0) (i 1)
theorem final20 (c : Dev nD) : (dats m 0 c).arrAt 20 (cfgs 0).N = R20 (Q m c) := by
  refine (dats m 0 c).arrAt_eq_of_covers 20 _ (by decide +kernel) fun t hf y => ?_
  blk_simp
  rw [after0_20]
  have hy : (ix2 (y 0) (y 1) : S512x128.Idx) = y := by funext a; match a with | ⟨0, _⟩ => rfl | ⟨1, _⟩ => rfl
  have e := p20 m c t (y 0) (y 1)
  rw [hy] at e
  refine e.trans ?_
  exact congrArg₂ (A20 (Q m c)) (Fin.ext (m20_0 t y).symm) (Fin.ext (m20_1 t y).symm)

theorem p14 (c : Dev nD) (t : Fin cfg0.N) (y : S4x512x128.Idx) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = A14 (Q m c) ⟨t.val * 4 + (y 0).val, by have := N_val t; have : (y 0).val < 4 := (y 0).isLt; omega⟩ (y 1) (y 2) := by
  have h0 : (y 0).val < 4 := (y 0).isLt
  have h2 : (y 2).val < 128 := (y 2).isLt
  refine (out14_at _ _ _ _ _ _ _ _ _ _ _ _ y).trans ((b2_at m c t ⟨(y 0).val * 128 + (y 2).val, by omega⟩ (y 1)).trans ?_)
  exact congrArg (fun x => Q m c (ix2 x _)) (Fin.ext (by show t.val * 512 + ((y 0).val * 128 + (y 2).val) = (t.val * 4 + (y 0).val) * 128 + (y 2).val; omega))
theorem m14_0 (t : Fin cfg0.N) (y : S4x512x128.Idx) : ((win0_14.blk t).view.emb y 0).val = t.val * 4 + (y 0).val := by
  show win0_14.index t (0 : Fin 3) * 4 + 1 * (y 0).val = _
  rw [idx14 t, Nat.one_mul]; rfl
theorem m14_1 (t : Fin cfg0.N) (y : S4x512x128.Idx) : ((win0_14.blk t).view.emb y 1).val = (y 1).val := by
  show win0_14.index t (1 : Fin 3) * 512 + 1 * (y 1).val = _
  rw [idx14 t, Nat.one_mul]
  show 0 * 512 + (y 1).val = (y 1).val
  omega
theorem m14_2 (t : Fin cfg0.N) (y : S4x512x128.Idx) : ((win0_14.blk t).view.emb y 2).val = (y 2).val := by
  show win0_14.index t (2 : Fin 3) * 128 + 1 * (y 2).val = _
  rw [idx14 t, Nat.one_mul]
  show 0 * 128 + (y 2).val = (y 2).val
  omega
def R14 (q : FVec Ideal S33792x7168 .f32) : S264x512x128.Idx → EReal := fun i => A14 q (i 0) (i 1) (i 2)
theorem final14 (c : Dev nD) : (dats m 0 c).arrAt 14 (cfgs 0).N = R14 (Q m c) := by
  refine (dats m 0 c).arrAt_eq_of_covers 14 _ (by decide +kernel) fun t hf y => ?_
  blk_simp
  rw [after0_14]
  refine (p14 m c t y).trans ?_
  have a0 : (⟨t.val * 4 + (y 0).val, by have := N_val t; have : (y 0).val < 4 := (y 0).isLt; omega⟩ : Fin 264) = (win0_14.blk t).view.emb y 0 := Fin.ext (m14_0 t y).symm
  have a1 : (y 1 : Fin 512) = (win0_14.blk t).view.emb y 1 := Fin.ext (m14_1 t y).symm
  have a2 : (y 2 : Fin 128) = (win0_14.blk t).view.emb y 2 := Fin.ext (m14_2 t y).symm
  unfold R14
  rw [← a0, ← a1, ← a2]

theorem p17 (c : Dev nD) (t : Fin cfg0.N) (y : S4x128x128.Idx) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = A17 (Q m c) ⟨t.val * 4 + (y 0).val, by have := N_val t; have : (y 0).val < 4 := (y 0).isLt; omega⟩ (y 1) (y 2) := by
  have h0 : (y 0).val < 4 := (y 0).isLt
  have h2 : (y 2).val < 128 := (y 2).isLt
  refine (out17_at _ _ _ _ _ _ _ _ _ _ _ _ y).trans ((b5_at m c t ⟨(y 0).val * 128 + (y 2).val, by omega⟩ (y 1)).trans ?_)
  exact congrArg (fun x => Q m c (ix2 x _)) (Fin.ext (by show t.val * 512 + ((y 0).val * 128 + (y 2).val) = (t.val * 4 + (y 0).val) * 128 + (y 2).val; omega))
theorem m17_0 (t : Fin cfg0.N) (y : S4x128x128.Idx) : ((win0_17.blk t).view.emb y 0).val = t.val * 4 + (y 0).val := by
  show win0_17.index t (0 : Fin 3) * 4 + 1 * (y 0).val = _
  rw [idx17 t, Nat.one_mul]; rfl
theorem m17_1 (t : Fin cfg0.N) (y : S4x128x128.Idx) : ((win0_17.blk t).view.emb y 1).val = (y 1).val := by
  show win0_17.index t (1 : Fin 3) * 128 + 1 * (y 1).val = _
  rw [idx17 t, Nat.one_mul]
  show 0 * 128 + (y 1).val = (y 1).val
  omega
theorem m17_2 (t : Fin cfg0.N) (y : S4x128x128.Idx) : ((win0_17.blk t).view.emb y 2).val = (y 2).val := by
  show win0_17.index t (2 : Fin 3) * 128 + 1 * (y 2).val = _
  rw [idx17 t, Nat.one_mul]
  show 0 * 128 + (y 2).val = (y 2).val
  omega
def R17 (q : FVec Ideal S33792x7168 .f32) : S264x128x128.Idx → EReal := fun i => A17 q (i 0) (i 1) (i 2)
theorem final17 (c : Dev nD) : (dats m 0 c).arrAt 17 (cfgs 0).N = R17 (Q m c) := by
  refine (dats m 0 c).arrAt_eq_of_covers 17 _ (by decide +kernel) fun t hf y => ?_
  blk_simp
  rw [after0_17]
  refine (p17 m c t y).trans ?_
  have a0 : (⟨t.val * 4 + (y 0).val, by have := N_val t; have : (y 0).val < 4 := (y 0).isLt; omega⟩ : Fin 264) = (win0_17.blk t).view.emb y 0 := Fin.ext (m17_0 t y).symm
  have a1 : (y 1 : Fin 128) = (win0_17.blk t).view.emb y 1 := Fin.ext (m17_1 t y).symm
  have a2 : (y 2 : Fin 128) = (win0_17.blk t).view.emb y 2 := Fin.ext (m17_2 t y).symm
  unfold R17
  rw [← a0, ← a1, ← a2]

/-- A column of the rearranged rows before column 3072 (of the second piece). -/
theorem pq_1 (p : FVec Ideal S33792x6992 .f32) (r : Fin 33792) (k : Fin 7168) (j : Fin 6992) (h : 2048 ≤ k.val) (h' : k.val < 3072) (hj : j.val = k.val + 3840) :
    pp p (ix2 r k) = p (ix2 r j) := by
  have e := pp_1 p r ⟨k.val - 2048, by omega⟩
  have ek : (⟨2048 + (k.val - 2048), by omega⟩ : Fin 7168) = k := Fin.ext (by show 2048 + (k.val - 2048) = k.val; omega)
  have ej : (⟨5888 + (k.val - 2048), by omega⟩ : Fin 6992) = j := Fin.ext (by show 5888 + (k.val - 2048) = j.val; omega)
  exact (congrArg (fun a => pp p (ix2 r a)) ek).symm.trans (e.trans (congrArg (fun a => p (ix2 r a)) ej))

/-- A column of the third piece. -/
theorem pq_2 (p : FVec Ideal S33792x6992 .f32) (r : Fin 33792) (k : Fin 7168) (j : Fin 6992) (h : 3072 ≤ k.val) (h' : k.val < 6912) (hj : j.val + 1024 = k.val) :
    pp p (ix2 r k) = p (ix2 r j) := by
  have e := pp_2 p r ⟨k.val - 3072, by omega⟩
  have ek : (⟨3072 + (k.val - 3072), by omega⟩ : Fin 7168) = k := Fin.ext (by show 3072 + (k.val - 3072) = k.val; omega)
  have ej : (⟨2048 + (k.val - 3072), by omega⟩ : Fin 6992) = j := Fin.ext (by show 2048 + (k.val - 3072) = j.val; omega)
  exact (congrArg (fun a => pp p (ix2 r a)) ek).symm.trans (e.trans (congrArg (fun a => p (ix2 r a)) ej))

/-- A column of the fourth piece. -/
theorem pq_3 (p : FVec Ideal S33792x6992 .f32) (r : Fin 33792) (k : Fin 7168) (j : Fin 6992) (h : 6912 ≤ k.val) (hj : j.val = k.val) :
    pp p (ix2 r k) = p (ix2 r j) := by
  have e := pp_3 p r ⟨k.val - 6912, by omega⟩
  have ek : (⟨6912 + (k.val - 6912), by omega⟩ : Fin 7168) = k := Fin.ext (by show 6912 + (k.val - 6912) = k.val; omega)
  have ej : (⟨6912 + (k.val - 6912), by omega⟩ : Fin 6992) = j := Fin.ext (by show 6912 + (k.val - 6912) = j.val; omega)
  exact (congrArg (fun a => pp p (ix2 r a)) ek).symm.trans (e.trans (congrArg (fun a => p (ix2 r a)) ej))

def pf (p : FVec Ideal S33792x6992 .f32) (n : Fin 33792) (k : Fin 6992) : EReal := p (ix2 n k)
def cf (g : FVec Ideal S2x64 .f32) (k : Fin 64) : EReal := g (ix2 0 k)
def df (g : FVec Ideal S2x128 .f32) (k : Fin 128) : EReal := g (ix2 0 k)

/-- The results as the host code after the launch makes them of the launch's arrays. -/
def O0 (x : FVec Ideal S33792x512 .bf16) : FVec Ideal S33792x4x2x64 .f32 := extf .f32 (shapeCast S33792x4x2x64 x shapeCasts_S33792x512_S33792x4x2x64) bitsLt_bf16_f32
def O1 (x : FVec Ideal S264x512x128 .bf16) : FVec Ideal S33792x4x128 .f32 :=
  extf .f32 (shapeCast S33792x4x128 (transpose S264x128x512 [0, 2, 1] x transposes_S264x512x128_S264x128x512_0_2_1) shapeCasts_S264x128x512_S33792x4x128) bitsLt_bf16_f32
def O2 (x : FVec Ideal S33792x128 .bf16) : FVec Ideal S33792x128 .f32 := extf .f32 x bitsLt_bf16_f32
def O3 (x : FVec Ideal S264x128x128 .bf16) : FVec Ideal S33792x128 .f32 :=
  extf .f32 (shapeCast S33792x128 (transpose S264x128x128 [0, 2, 1] x transposes_S264x128x128_S264x128x128_0_2_1) shapeCasts_S264x128x128_S33792x128) bitsLt_bf16_f32
def O4 (x : FVec Ideal S33792x1024 .bf16) : FVec Ideal S33792x16x64 .f32 := extf .f32 (shapeCast S33792x16x64 x shapeCasts_S33792x1024_S33792x16x64) bitsLt_bf16_f32
def O5 (x : FVec Ideal S33792x128 .bf16) : FVec Ideal S33792x64 .f32 := extf .f32 (extractStridedSlice S33792x64 ![0, 0] x slices_S33792x128_S33792x64_0_0) bitsLt_bf16_f32
def O6 (x : FVec Ideal S33792x128 .f32) : FVec Ideal S33792x16 .f32 := extractStridedSlice S33792x16 ![0, 0] x slices_S33792x128_S33792x16_0_0

theorem O0_at (x : FVec Ideal S33792x512 .bf16) (n : Fin 33792) (h : Fin 4) (c : Fin 2) (e : Fin 64) :
    O0 x (ix4 n h c e) = x (ix2 n ⟨h.val * 128 + (c.val * 64 + e.val), by omega⟩) := by
  pointwise [O0]
  blk_ext

theorem O1_at (x : FVec Ideal S264x512x128 .bf16) (n : Fin 33792) (h : Fin 4) (e : Fin 128) :
    O1 x (ix3 n h e) = x (ix3 ⟨n.val / 128, by omega⟩ ⟨h.val * 128 + e.val, by omega⟩ ⟨n.val % 128, by omega⟩) := by
  pointwise [O1]
  blk_ext

theorem O3_at (x : FVec Ideal S264x128x128 .bf16) (n : Fin 33792) (e : Fin 128) :
    O3 x (ix2 n e) = x (ix3 ⟨n.val / 128, by omega⟩ e ⟨n.val % 128, by omega⟩) := by
  pointwise [O3]
  blk_ext

theorem O4_at (x : FVec Ideal S33792x1024 .bf16) (n : Fin 33792) (h : Fin 16) (e : Fin 64) :
    O4 x (ix3 n h e) = x (ix2 n ⟨h.val * 64 + e.val, by omega⟩) := by
  pointwise [O4]
  blk_ext

theorem O5_at (x : FVec Ideal S33792x128 .bf16) (n : Fin 33792) (e : Fin 64) : O5 x (ix2 n e) = x (ix2 n ⟨e.val, by omega⟩) := by
  pointwise [O5]

theorem O6_at (x : FVec Ideal S33792x128 .f32) (n : Fin 33792) (e : Fin 16) : O6 x (ix2 n e) = x (ix2 n ⟨e.val, by omega⟩) := by
  pointwise [O6]

theorem o0 (p : FVec Ideal S33792x6992 .f32) (g : FVec Ideal S2x64 .f32) :
    O0 (R13 (pp p) (gg g)) = fun i => Prep.s0 (pf p) (cf g) (i 0) (i 1) (i 2) (i 3) := by
  funext i
  obtain ⟨n, h, c, e, rfl⟩ : ∃ n h c e, i = ix4 n h c e := ⟨i 0, i 1, i 2, i 3, eq_ix4 i⟩
  refine (O0_at _ n h c e).trans ?_
  show A13 (pp p) (gg g) n ⟨h.val * 128 + (c.val * 64 + e.val), _⟩ = Prep.s0 (pf p) (cf g) n h c e
  unfold A13 Prep.s0
  have ef : (⟨(h.val * 128 + (c.val * 64 + e.val)) % 128, Nat.mod_lt _ (by decide)⟩ : Fin 128) = ⟨c.val * 64 + e.val, by omega⟩ :=
    Fin.ext (by show (h.val * 128 + (c.val * 64 + e.val)) % 128 = c.val * 64 + e.val; omega)
  rw [ef]
  refine Prep.hn_eq _ _ _ _ c e (fun k => ?_) ?_
  · refine pq_2 p n _ _ (by show 3072 ≤ 5120 + _; omega) ?_ ?_
    · show 5120 + ((h.val * 128 + (c.val * 64 + e.val)) / 128 * 128 + (c.val * 64 + k.val)) < 6912
      omega
    · show 4096 + (h.val * 128 + (c.val * 64 + k.val)) + 1024 = 5120 + ((h.val * 128 + (c.val * 64 + e.val)) / 128 * 128 + (c.val * 64 + k.val))
      omega
  · refine (gg_at g _).trans ?_
    exact congrArg (fun k : Fin 64 => g (ix2 0 k)) (Fin.ext (by show (c.val * 64 + e.val) % 64 = e.val; omega))

theorem o1 (p : FVec Ideal S33792x6992 .f32) : O1 (R14 (pp p)) = fun i => Prep.s1 (pf p) (i 0) (i 1) (i 2) := by
  funext i
  obtain ⟨n, h, e, rfl⟩ : ∃ n h e, i = ix3 n h e := ⟨i 0, i 1, i 2, eq_ix3 i⟩
  refine (O1_at _ n h e).trans ?_
  show pp p (ix2 ⟨n.val / 128 * 128 + n.val % 128, _⟩ ⟨5632 + (h.val * 128 + e.val), _⟩) = p (ix2 n ⟨4608 + (h.val * 128 + e.val), _⟩)
  have en : (⟨n.val / 128 * 128 + n.val % 128, by omega⟩ : Fin 33792) = n := Fin.ext (by show n.val / 128 * 128 + n.val % 128 = n.val; omega)
  rw [en]
  exact pq_2 p n _ _ (by show 3072 ≤ 5632 + _; omega) (by show 5632 + (h.val * 128 + e.val) < 6912; omega)
    (by show 4608 + (h.val * 128 + e.val) + 1024 = 5632 + (h.val * 128 + e.val); omega)

theorem o2 (p : FVec Ideal S33792x6992 .f32) (g : FVec Ideal S2x128 .f32) :
    O2 (R16 (pp p) (dg g)) = fun i => Prep.s2 (pf p) (df g) (i 0) (i 1) := by
  funext i
  obtain ⟨n, e, rfl⟩ : ∃ n e, i = ix2 n e := ⟨i 0, i 1, eq_ix2 i⟩
  show A16 (pp p) (dg g) n e = Prep.s2 (pf p) (df g) n e
  unfold A16 Prep.s2
  refine congrArg₂ (fun x y => Prep.n128 x y e) (funext fun k => ?_) (funext fun k => dg_at g k)
  exact pq_2 p n _ _ (by show 3072 ≤ 6656 + _; omega) (by show 6656 + k.val < 6912; omega) (by show 5632 + k.val + 1024 = 6656 + k.val; omega)

theorem o3 (p : FVec Ideal S33792x6992 .f32) : O3 (R17 (pp p)) = fun i => Prep.s3 (pf p) (i 0) (i 1) := by
  funext i
  obtain ⟨n, e, rfl⟩ : ∃ n e, i = ix2 n e := ⟨i 0, i 1, eq_ix2 i⟩
  refine (O3_at _ n e).trans ?_
  show pp p (ix2 ⟨n.val / 128 * 128 + n.val % 128, _⟩ ⟨6784 + e.val, _⟩) = p (ix2 n ⟨5760 + e.val, _⟩)
  have en : (⟨n.val / 128 * 128 + n.val % 128, by omega⟩ : Fin 33792) = n := Fin.ext (by show n.val / 128 * 128 + n.val % 128 = n.val; omega)
  rw [en]
  exact pq_2 p n _ _ (by show 3072 ≤ 6784 + _; omega) (by show 6784 + e.val < 6912; omega) (by show 5760 + e.val + 1024 = 6784 + e.val; omega)

theorem o4 (p : FVec Ideal S33792x6992 .f32) : O4 (R18 (pp p)) = fun i => Prep.s4 (pf p) (i 0) (i 1) (i 2) := by
  funext i
  obtain ⟨n, h, e, rfl⟩ : ∃ n h e, i = ix3 n h e := ⟨i 0, i 1, i 2, eq_ix3 i⟩
  refine (O4_at _ n h e).trans ?_
  show pp p (ix2 n ⟨2048 + (h.val * 64 + e.val), _⟩) * _ = p (ix2 n ⟨5888 + (h.val * 64 + e.val), _⟩) * _
  rw [pq_1 p n ⟨2048 + (h.val * 64 + e.val), by omega⟩ ⟨5888 + (h.val * 64 + e.val), by omega⟩ (by show 2048 ≤ 2048 + _; omega)
    (by show 2048 + (h.val * 64 + e.val) < 3072; omega) (by show 5888 + (h.val * 64 + e.val) = 2048 + (h.val * 64 + e.val) + 3840; omega)]

theorem o5 (p : FVec Ideal S33792x6992 .f32) : O5 (R19 (pp p)) = fun i => Prep.s5 (pf p) (i 0) (i 1) := by
  funext i
  obtain ⟨n, e, rfl⟩ : ∃ n e, i = ix2 n e := ⟨i 0, i 1, eq_ix2 i⟩
  refine (O5_at _ n e).trans ?_
  show A19 (pp p) n ⟨e.val, _⟩ = p (ix2 n ⟨6912 + e.val, _⟩)
  unfold A19
  rw [if_pos (show e.val < 64 from e.isLt)]
  exact pq_3 p n _ _ (by show 6912 ≤ 6912 + _; omega) rfl

theorem o6 (p : FVec Ideal S33792x6992 .f32) : O6 (R20 (pp p)) = fun i => Prep.s6 (pf p) (i 0) (i 1) := by
  funext i
  obtain ⟨n, e, rfl⟩ : ∃ n e, i = ix2 n e := ⟨i 0, i 1, eq_ix2 i⟩
  refine (O6_at _ n e).trans ?_
  show pp p (ix2 n ⟨6912 + (e.val + 64) % 128, _⟩) * _ = p (ix2 n ⟨6976 + e.val, _⟩) * _
  rw [pq_3 p n ⟨6912 + (e.val + 64) % 128, by omega⟩ ⟨6976 + e.val, by omega⟩ (by show 6912 ≤ 6912 + _; omega)
    (by show 6976 + e.val = 6912 + (e.val + 64) % 128; omega)]

theorem after_v28 (c : Dev nD) : Pipeline.afterTail₀ cfgs (dats m) 0 (V0 m) [hostOps1] c main_v28 = O0 (R13 (Q m c) (CK m c)) := by
  rw [← final13 m c]
  unfold Pipeline.afterTail₀
  rw [← Pipeline.Dat.withArrays_arrAt (dats m 0 c) launch₀0.sharedIn (V0 m c) (A_eq m c) 13]
  show StableHlo.after (hostOps1 ++ []) _ _ = _
  rw [List.append_nil]
  after_results <;> rfl

theorem after_v31 (c : Dev nD) : Pipeline.afterTail₀ cfgs (dats m) 0 (V0 m) [hostOps1] c main_v31 = O1 (R14 (Q m c)) := by
  rw [← final14 m c]
  unfold Pipeline.afterTail₀
  rw [← Pipeline.Dat.withArrays_arrAt (dats m 0 c) launch₀0.sharedIn (V0 m c) (A_eq m c) 14]
  show StableHlo.after (hostOps1 ++ []) _ _ = _
  rw [List.append_nil]
  after_results <;> rfl

theorem after_v32 (c : Dev nD) : Pipeline.afterTail₀ cfgs (dats m) 0 (V0 m) [hostOps1] c main_v32 = O2 (R16 (Q m c) (DK m c)) := by
  rw [← final16 m c]
  unfold Pipeline.afterTail₀
  rw [← Pipeline.Dat.withArrays_arrAt (dats m 0 c) launch₀0.sharedIn (V0 m c) (A_eq m c) 16]
  show StableHlo.after (hostOps1 ++ []) _ _ = _
  rw [List.append_nil]
  after_results <;> rfl

theorem after_v35 (c : Dev nD) : Pipeline.afterTail₀ cfgs (dats m) 0 (V0 m) [hostOps1] c main_v35 = O3 (R17 (Q m c)) := by
  rw [← final17 m c]
  unfold Pipeline.afterTail₀
  rw [← Pipeline.Dat.withArrays_arrAt (dats m 0 c) launch₀0.sharedIn (V0 m c) (A_eq m c) 17]
  show StableHlo.after (hostOps1 ++ []) _ _ = _
  rw [List.append_nil]
  after_results <;> rfl

theorem after_v37 (c : Dev nD) : Pipeline.afterTail₀ cfgs (dats m) 0 (V0 m) [hostOps1] c main_v37 = O4 (R18 (Q m c)) := by
  rw [← final18 m c]
  unfold Pipeline.afterTail₀
  rw [← Pipeline.Dat.withArrays_arrAt (dats m 0 c) launch₀0.sharedIn (V0 m c) (A_eq m c) 18]
  show StableHlo.after (hostOps1 ++ []) _ _ = _
  rw [List.append_nil]
  after_results <;> rfl

theorem after_v39 (c : Dev nD) : Pipeline.afterTail₀ cfgs (dats m) 0 (V0 m) [hostOps1] c main_v39 = O5 (R19 (Q m c)) := by
  rw [← final19 m c]
  unfold Pipeline.afterTail₀
  rw [← Pipeline.Dat.withArrays_arrAt (dats m 0 c) launch₀0.sharedIn (V0 m c) (A_eq m c) 19]
  show StableHlo.after (hostOps1 ++ []) _ _ = _
  rw [List.append_nil]
  after_results <;> rfl

theorem after_v40 (c : Dev nD) : Pipeline.afterTail₀ cfgs (dats m) 0 (V0 m) [hostOps1] c main_v40 = O6 (R20 (Q m c)) := by
  rw [← final20 m c]
  unfold Pipeline.afterTail₀
  rw [← Pipeline.Dat.withArrays_arrAt (dats m 0 c) launch₀0.sharedIn (V0 m c) (A_eq m c) 20]
  show StableHlo.after (hostOps1 ++ []) _ _ = _
  rw [List.append_nil]
  after_results <;> rfl

theorem run (ρ : Dev nD → PrngReg) : θ_run defs (onTc (τ := τ) (main (F := Ideal))) ⟨m, fun _ => 0, ρ⟩ (fun r => ∀ c : Dev nD,
      r.2.mem ((c.tc : Thread nD τ).loc main_v28) = (fun i => Prep.s0 (pf (m ((c.tc : Thread nD τ).loc main_arg0))) (cf (m ((c.tc : Thread nD τ).loc main_arg2))) (i 0) (i 1) (i 2) (i 3))
      ∧ r.2.mem ((c.tc : Thread nD τ).loc main_v31) = (fun i => Prep.s1 (pf (m ((c.tc : Thread nD τ).loc main_arg0))) (i 0) (i 1) (i 2))
      ∧ r.2.mem ((c.tc : Thread nD τ).loc main_v32) = (fun i => Prep.s2 (pf (m ((c.tc : Thread nD τ).loc main_arg0))) (df (m ((c.tc : Thread nD τ).loc main_arg4))) (i 0) (i 1))
      ∧ r.2.mem ((c.tc : Thread nD τ).loc main_v35) = (fun i => Prep.s3 (pf (m ((c.tc : Thread nD τ).loc main_arg0))) (i 0) (i 1))
      ∧ r.2.mem ((c.tc : Thread nD τ).loc main_v37) = (fun i => Prep.s4 (pf (m ((c.tc : Thread nD τ).loc main_arg0))) (i 0) (i 1) (i 2))
      ∧ r.2.mem ((c.tc : Thread nD τ).loc main_v39) = (fun i => Prep.s5 (pf (m ((c.tc : Thread nD τ).loc main_arg0))) (i 0) (i 1))
      ∧ r.2.mem ((c.tc : Thread nD τ).loc main_v40) = (fun i => Prep.s6 (pf (m ((c.tc : Thread nD τ).loc main_arg0))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v28 (Pipeline.mem_restRefs_of main_v28 (by decide) (by decide))).trans ((after_v28 m c).trans (o0 (m ((c.tc : Thread nD τ).loc main_arg0)) (m ((c.tc : Thread nD τ).loc main_arg2)))),
      ((h.1 c).2 main_v31 (Pipeline.mem_restRefs_of main_v31 (by decide) (by decide))).trans ((after_v31 m c).trans (o1 (m ((c.tc : Thread nD τ).loc main_arg0)))),
      ((h.1 c).2 main_v32 (Pipeline.mem_restRefs_of main_v32 (by decide) (by decide))).trans ((after_v32 m c).trans (o2 (m ((c.tc : Thread nD τ).loc main_arg0)) (m ((c.tc : Thread nD τ).loc main_arg4)))),
      ((h.1 c).2 main_v35 (Pipeline.mem_restRefs_of main_v35 (by decide) (by decide))).trans ((after_v35 m c).trans (o3 (m ((c.tc : Thread nD τ).loc main_arg0)))),
      ((h.1 c).2 main_v37 (Pipeline.mem_restRefs_of main_v37 (by decide) (by decide))).trans ((after_v37 m c).trans (o4 (m ((c.tc : Thread nD τ).loc main_arg0)))),
      ((h.1 c).2 main_v39 (Pipeline.mem_restRefs_of main_v39 (by decide) (by decide))).trans ((after_v39 m c).trans (o5 (m ((c.tc : Thread nD τ).loc main_arg0)))),
      ((h.1 c).2 main_v40 (Pipeline.mem_restRefs_of main_v40 (by decide) (by decide))).trans ((after_v40 m c).trans (o6 (m ((c.tc : Thread nD τ).loc main_arg0)))), h.2 c⟩)
    (θ_run_and (run_main m ρ) (unchanged m ρ))

end Cert.Kernel6Ideal.PrepValue

end
-- ==== Proof.PrepRef.lean ====
/- Hand-written, untrusted: the sixth reference's run, its operations in order, and its seven results as functions of its arguments, entry by entry. -/
module

public import proofs.«01_k».proof.Proof.Gen.Reference6Ideal
public import proofs.«01_k».proof.Proof.FfnMath
public import proofs.«01_k».proof.Proof.PrepMath
public import Idealize.ShloMosaic.Lib.StableHlo.Run
public import Idealize.ShloMosaic.Lib.KernelVsHost

@[expose] public section

set_option maxRecDepth 16384

noncomputable section

namespace Cert.Reference6Ideal.PrepRef

open Cert.Reference6Ideal Cert.Reference6Ideal.Gen Idealize.ShloMosaic Idealize.ShloMosaic.TcCoe Idealize.SL.Sem Idealize.ShloMosaic.StableHlo

section
variable {F : FTy → Type} [FloatOps F]

/-- The operations of the program's main function in order. -/
abbrev ops : List (HloOp τ sig (Elt F)) :=
  [ unary main_arg0 main_v0 ((extractStridedSlice S33792x512 ![0, 0] · slices_S33792x6992_S33792x512_0_0) : (⟨S33792x6992, .f32⟩ : BufTy).Contents (Elt F) → (⟨S33792x512, .f32⟩ : BufTy).Contents (Elt F)),
    unary main_arg0 main_v1 ((extractStridedSlice S33792x512 ![0, 512] · slices_S33792x6992_S33792x512_0_512) : (⟨S33792x6992, .f32⟩ : BufTy).Contents (Elt F) → (⟨S33792x512, .f32⟩ : BufTy).Contents (Elt F)),
    unary main_arg0 main_v2 ((extractStridedSlice S33792x512 ![0, 1024] · slices_S33792x6992_S33792x512_0_1024) : (⟨S33792x6992, .f32⟩ : BufTy).Contents (Elt F) → (⟨S33792x512, .f32⟩ : BufTy).Contents (Elt F)),
    unary main_arg0 main_v3 ((extractStridedSlice S33792x512 ![0, 1536] · slices_S33792x6992_S33792x512_0_1536) : (⟨S33792x6992, .f32⟩ : BufTy).Contents (Elt F) → (⟨S33792x512, .f32⟩ : BufTy).Contents (Elt F)),
    unary main_arg0 main_v4 ((extractStridedSlice S33792x512 ![0, 2048] · slices_S33792x6992_S33792x512_0_2048) : (⟨S33792x6992, .f32⟩ : BufTy).Contents (Elt F) → (⟨S33792x512, .f32⟩ : BufTy).Contents (Elt F)),
    unary main_arg0 main_v5 ((extractStridedSlice S33792x512 ![0, 2560] · slices_S33792x6992_S33792x512_0_2560) : (⟨S33792x6992, .f32⟩ : BufTy).Contents (Elt F) → (⟨S33792x512, .f32⟩ : BufTy).Contents (Elt F)),
    unary main_arg0 main_v6 ((extractStridedSlice S33792x512 ![0, 3072] · slices_S33792x6992_S33792x512_0_3072) : (⟨S33792x6992, .f32⟩ : BufTy).Contents (Elt F) → (⟨S33792x512, .f32⟩ : BufTy).Contents (Elt F)),
    unary main_arg0 main_v7 ((extractStridedSlice S33792x512 ![0, 3584] · slices_S33792x6992_S33792x512_0_3584) : (⟨S33792x6992, .f32⟩ : BufTy).Contents (Elt F) → (⟨S33792x512, .f32⟩ : BufTy).Contents (Elt F)),
    unary main_arg0 main_v8 ((extractStridedSlice S33792x512 ![0, 4096] · slices_S33792x6992_S33792x512_0_4096) : (⟨S33792x6992, .f32⟩ : BufTy).Contents (Elt F) → (⟨S33792x512, .f32⟩ : BufTy).Contents (Elt F)),
    unary main_arg0 main_v9 ((extractStridedSlice S33792x512 ![0, 4608] · slices_S33792x6992_S33792x512_0_4608) : (⟨S33792x6992, .f32⟩ : BufTy).Contents (Elt F) → (⟨S33792x512, .f32⟩ : BufTy).Contents (Elt F)),
    unary main_arg0 main_v10 ((extractStridedSlice S33792x512 ![0, 5120] · slices_S33792x6992_S33792x512_0_5120) : (⟨S33792x6992, .f32⟩ : BufTy).Contents (Elt F) → (⟨S33792x512, .f32⟩ : BufTy).Contents (Elt F)),
    unary main_arg0 main_v11 ((extractStridedSlice S33792x128 ![0, 5632] · slices_S33792x6992_S33792x128_0_5632) : (⟨S33792x6992, .f32⟩ : BufTy).Contents (Elt F) → (⟨S33792x128, .f32⟩ : BufTy).Contents (Elt F)),
    unary main_arg0 main_v12 ((extractStridedSlice S33792x128 ![0, 5760] · slices_S33792x6992_S33792x128_0_5760) : (⟨S33792x6992, .f32⟩ : BufTy).Contents (Elt F) → (⟨S33792x128, .f32⟩ : BufTy).Contents (Elt F)),
    unary main_arg0 main_v13 ((extractStridedSlice S33792x1024 ![0, 5888] · slices_S33792x6992_S33792x1024_0_5888) : (⟨S33792x6992, .f32⟩ : BufTy).Contents (Elt F) → (⟨S33792x1024, .f32⟩ : BufTy).Contents (Elt F)),
    unary main_arg0 main_v14 ((extractStridedSlice S33792x64 ![0, 6912] · slices_S33792x6992_S33792x64_0_6912) : (⟨S33792x6992, .f32⟩ : BufTy).Contents (Elt F) → (⟨S33792x64, .f32⟩ : BufTy).Contents (Elt F)),
    unary main_arg0 main_v15 ((extractStridedSlice S33792x16 ![0, 6976] · slices_S33792x6992_S33792x16_0_6976) : (⟨S33792x6992, .f32⟩ : BufTy).Contents (Elt F) → (⟨S33792x16, .f32⟩ : BufTy).Contents (Elt F)),
    reshape main_v8 main_v16 (rfl : (.f32 : EltTy) = .f32) shapeCasts_S33792x512_S33792x4x2x64,
    unary main_arg2 main_v17 ((extractStridedSlice S1x64 ![0, 0] · slices_S2x64_S1x64_0_0) : (⟨S2x64, .f32⟩ : BufTy).Contents (Elt F) → (⟨S1x64, .f32⟩ : BufTy).Contents (Elt F)),
    reshape main_v17 main_v18 (rfl : (.f32 : EltTy) = .f32) shapeCasts_S1x64_S64,
    binary main_v16 main_v16 main_v19 (mulf : (⟨S33792x4x2x64, .f32⟩ : BufTy).Contents (Elt F) → (⟨S33792x4x2x64, .f32⟩ : BufTy).Contents (Elt F) → (⟨S33792x4x2x64, .f32⟩ : BufTy).Contents (Elt F)),
    nullary main_cst (constant S_ .f32 0x00000000#32),
    binary main_v19 main_cst main_v20 ((fun x v => Host.reduceAdd x v reducesTo_S33792x4x2x64_S33792x4x2_d3 h_S_) : (⟨S33792x4x2x64, .f32⟩ : BufTy).Contents (Elt F) → (⟨S_, .f32⟩ : BufTy).Contents (Elt F) → (⟨S33792x4x2, .f32⟩ : BufTy).Contents (Elt F)),
    unary main_v20 main_v21 (broadcastInDim S33792x4x2x1 ![0, 1, 2] bcast_S33792x4x2_S33792x4x2x1_0_1_2 : (⟨S33792x4x2, .f32⟩ : BufTy).Contents (Elt F) → (⟨S33792x4x2x1, .f32⟩ : BufTy).Contents (Elt F)),
    nullary main_cst_0 (constant S_ .f32 0x42800000#32),
    unary main_cst_0 main_v22 (broadcastInDim S33792x4x2x1 ![] bcast_S_S33792x4x2x1 : (⟨S_, .f32⟩ : BufTy).Contents (Elt F) → (⟨S33792x4x2x1, .f32⟩ : BufTy).Contents (Elt F)),
    binary main_v21 main_v22 main_v23 (Host.divf : (⟨S33792x4x2x1, .f32⟩ : BufTy).Contents (Elt F) → (⟨S33792x4x2x1, .f32⟩ : BufTy).Contents (Elt F) → (⟨S33792x4x2x1, .f32⟩ : BufTy).Contents (Elt F)),
    nullary main_cst_1 (constant S_ .f32 0x358637BD#32),
    unary main_cst_1 main_v24 (broadcastInDim S33792x4x2x1 ![] bcast_S_S33792x4x2x1 : (⟨S_, .f32⟩ : BufTy).Contents (Elt F) → (⟨S33792x4x2x1, .f32⟩ : BufTy).Contents (Elt F)),
    binary main_v23 main_v24 main_v25 (addf : (⟨S33792x4x2x1, .f32⟩ : BufTy).Contents (Elt F) → (⟨S33792x4x2x1, .f32⟩ : BufTy).Contents (Elt F) → (⟨S33792x4x2x1, .f32⟩ : BufTy).Contents (Elt F)),
    unary main_v25 main_v26 (Host.rsqrt : (⟨S33792x4x2x1, .f32⟩ : BufTy).Contents (Elt F) → (⟨S33792x4x2x1, .f32⟩ : BufTy).Contents (Elt F)),
    unary main_v26 main_v27 (broadcastInDim S33792x4x2x64 ![0, 1, 2, 3] bcast_S33792x4x2x1_S33792x4x2x64_0_1_2_3 : (⟨S33792x4x2x1, .f32⟩ : BufTy).Contents (Elt F) → (⟨S33792x4x2x64, .f32⟩ : BufTy).Contents (Elt F)),
    binary main_v16 main_v27 main_v28 (mulf : (⟨S33792x4x2x64, .f32⟩ : BufTy).Contents (Elt F) → (⟨S33792x4x2x64, .f32⟩ : BufTy).Contents (Elt F) → (⟨S33792x4x2x64, .f32⟩ : BufTy).Contents (Elt F)),
    unary main_v18 main_v29 (broadcastInDim S1x1x1x64 ![3] bcast_S64_S1x1x1x64_3 : (⟨S64, .f32⟩ : BufTy).Contents (Elt F) → (⟨S1x1x1x64, .f32⟩ : BufTy).Contents (Elt F)),
    unary main_v29 main_v30 (broadcastInDim S33792x4x2x64 ![0, 1, 2, 3] bcast_S1x1x1x64_S33792x4x2x64_0_1_2_3 : (⟨S1x1x1x64, .f32⟩ : BufTy).Contents (Elt F) → (⟨S33792x4x2x64, .f32⟩ : BufTy).Contents (Elt F)),
    binary main_v28 main_v30 main_v31 (mulf : (⟨S33792x4x2x64, .f32⟩ : BufTy).Contents (Elt F) → (⟨S33792x4x2x64, .f32⟩ : BufTy).Contents (Elt F) → (⟨S33792x4x2x64, .f32⟩ : BufTy).Contents (Elt F)),
    reshape main_v9 main_v32 (rfl : (.f32 : EltTy) = .f32) shapeCasts_S33792x512_S33792x4x128,
    reshape main_v13 main_v33 (rfl : (.f32 : EltTy) = .f32) shapeCasts_S33792x1024_S33792x16x64,
    nullary main_cst_2 (constant S_ .f32 0x3E000000#32),
    unary main_cst_2 main_v34 (broadcastInDim S33792x16x64 ![] bcast_S_S33792x16x64 : (⟨S_, .f32⟩ : BufTy).Contents (Elt F) → (⟨S33792x16x64, .f32⟩ : BufTy).Contents (Elt F)),
    binary main_v33 main_v34 main_v35 (mulf : (⟨S33792x16x64, .f32⟩ : BufTy).Contents (Elt F) → (⟨S33792x16x64, .f32⟩ : BufTy).Contents (Elt F) → (⟨S33792x16x64, .f32⟩ : BufTy).Contents (Elt F)),
    nullary main_cst_3 (constant S_ .f32 0x3E800000#32),
    unary main_cst_3 main_v36 (broadcastInDim S33792x16 ![] bcast_S_S33792x16 : (⟨S_, .f32⟩ : BufTy).Contents (Elt F) → (⟨S33792x16, .f32⟩ : BufTy).Contents (Elt F)),
    binary main_v15 main_v36 main_v37 (mulf : (⟨S33792x16, .f32⟩ : BufTy).Contents (Elt F) → (⟨S33792x16, .f32⟩ : BufTy).Contents (Elt F) → (⟨S33792x16, .f32⟩ : BufTy).Contents (Elt F)),
    unary main_arg4 main_v38 ((extractStridedSlice S1x128 ![0, 0] · slices_S2x128_S1x128_0_0) : (⟨S2x128, .f32⟩ : BufTy).Contents (Elt F) → (⟨S1x128, .f32⟩ : BufTy).Contents (Elt F)),
    reshape main_v38 main_v39 (rfl : (.f32 : EltTy) = .f32) shapeCasts_S1x128_S128,
    binary main_v11 main_v11 main_v40 (mulf : (⟨S33792x128, .f32⟩ : BufTy).Contents (Elt F) → (⟨S33792x128, .f32⟩ : BufTy).Contents (Elt F) → (⟨S33792x128, .f32⟩ : BufTy).Contents (Elt F)),
    nullary main_cst_4 (constant S_ .f32 0x00000000#32),
    binary main_v40 main_cst_4 main_v41 ((fun x v => Host.reduceAdd x v reducesTo_S33792x128_S33792_d1 h_S_) : (⟨S33792x128, .f32⟩ : BufTy).Contents (Elt F) → (⟨S_, .f32⟩ : BufTy).Contents (Elt F) → (⟨S33792, .f32⟩ : BufTy).Contents (Elt F)),
    unary main_v41 main_v42 (broadcastInDim S33792x1 ![0] bcast_S33792_S33792x1_0 : (⟨S33792, .f32⟩ : BufTy).Contents (Elt F) → (⟨S33792x1, .f32⟩ : BufTy).Contents (Elt F)),
    nullary main_cst_5 (constant S_ .f32 0x43000000#32),
    unary main_cst_5 main_v43 (broadcastInDim S33792x1 ![] bcast_S_S33792x1 : (⟨S_, .f32⟩ : BufTy).Contents (Elt F) → (⟨S33792x1, .f32⟩ : BufTy).Contents (Elt F)),
    binary main_v42 main_v43 main_v44 (Host.divf : (⟨S33792x1, .f32⟩ : BufTy).Contents (Elt F) → (⟨S33792x1, .f32⟩ : BufTy).Contents (Elt F) → (⟨S33792x1, .f32⟩ : BufTy).Contents (Elt F)),
    nullary main_cst_6 (constant S_ .f32 0x358637BD#32),
    unary main_cst_6 main_v45 (broadcastInDim S33792x1 ![] bcast_S_S33792x1 : (⟨S_, .f32⟩ : BufTy).Contents (Elt F) → (⟨S33792x1, .f32⟩ : BufTy).Contents (Elt F)),
    binary main_v44 main_v45 main_v46 (addf : (⟨S33792x1, .f32⟩ : BufTy).Contents (Elt F) → (⟨S33792x1, .f32⟩ : BufTy).Contents (Elt F) → (⟨S33792x1, .f32⟩ : BufTy).Contents (Elt F)),
    unary main_v46 main_v47 (Host.rsqrt : (⟨S33792x1, .f32⟩ : BufTy).Contents (Elt F) → (⟨S33792x1, .f32⟩ : BufTy).Contents (Elt F)),
    unary main_v47 main_v48 (broadcastInDim S33792x128 ![0, 1] bcast_S33792x1_S33792x128_0_1 : (⟨S33792x1, .f32⟩ : BufTy).Contents (Elt F) → (⟨S33792x128, .f32⟩ : BufTy).Contents (Elt F)),
    binary main_v11 main_v48 main_v49 (mulf : (⟨S33792x128, .f32⟩ : BufTy).Contents (Elt F) → (⟨S33792x128, .f32⟩ : BufTy).Contents (Elt F) → (⟨S33792x128, .f32⟩ : BufTy).Contents (Elt F)),
    unary main_v39 main_v50 (broadcastInDim S1x128 ![1] bcast_S128_S1x128_1 : (⟨S128, .f32⟩ : BufTy).Contents (Elt F) → (⟨S1x128, .f32⟩ : BufTy).Contents (Elt F)),
    unary main_v50 main_v51 (broadcastInDim S33792x128 ![0, 1] bcast_S1x128_S33792x128_0_1 : (⟨S1x128, .f32⟩ : BufTy).Contents (Elt F) → (⟨S33792x128, .f32⟩ : BufTy).Contents (Elt F)),
    binary main_v49 main_v51 main_v52 (mulf : (⟨S33792x128, .f32⟩ : BufTy).Contents (Elt F) → (⟨S33792x128, .f32⟩ : BufTy).Contents (Elt F) → (⟨S33792x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., reshape_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., reshape_bufs_sub .., nullary_bufs_sub .., unary_bufs_sub .., binary_bufs_sub .., nullary_bufs_sub .., unary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
end

/-- The key rows in halves of 64. -/
def kr (p : FVec Ideal S33792x6992 .f32) : FVec Ideal S33792x4x2x64 .f32 :=
  shapeCast S33792x4x2x64 (extractStridedSlice S33792x512 ![0, 4096] p slices_S33792x6992_S33792x512_0_4096) shapeCasts_S33792x512_S33792x4x2x64

/-- The first result: those rows normalised and scaled. -/
def res0 (x : FVec Ideal S33792x4x2x64 .f32) (g : FVec Ideal S2x64 .f32) : FVec Ideal S33792x4x2x64 .f32 :=
  mulf (mulf x (broadcastInDim S33792x4x2x64 ![0, 1, 2, 3] bcast_S33792x4x2x1_S33792x4x2x64_0_1_2_3
      (Host.rsqrt (addf (Host.divf (broadcastInDim S33792x4x2x1 ![0, 1, 2] bcast_S33792x4x2_S33792x4x2x1_0_1_2
        (Host.reduceAdd (mulf x x) (constant S_ .f32 0x00000000#32) reducesTo_S33792x4x2x64_S33792x4x2_d3 h_S_))
        (broadcastInDim S33792x4x2x1 ![] bcast_S_S33792x4x2x1 (constant S_ .f32 0x42800000#32)))
        (broadcastInDim S33792x4x2x1 ![] bcast_S_S33792x4x2x1 (constant S_ .f32 0x358637BD#32))))))
    (broadcastInDim S33792x4x2x64 ![0, 1, 2, 3] bcast_S1x1x1x64_S33792x4x2x64_0_1_2_3 (broadcastInDim S1x1x1x64 ![3] bcast_S64_S1x1x1x64_3
      (shapeCast S64 (extractStridedSlice S1x64 ![0, 0] g slices_S2x64_S1x64_0_0) shapeCasts_S1x64_S64)))

def res1 (p : FVec Ideal S33792x6992 .f32) : FVec Ideal S33792x4x128 .f32 :=
  shapeCast S33792x4x128 (extractStridedSlice S33792x512 ![0, 4608] p slices_S33792x6992_S33792x512_0_4608) shapeCasts_S33792x512_S33792x4x128

def dr (p : FVec Ideal S33792x6992 .f32) : FVec Ideal S33792x128 .f32 :=
  extractStridedSlice S33792x128 ![0, 5632] p slices_S33792x6992_S33792x128_0_5632

def res2 (x : FVec Ideal S33792x128 .f32) (g : FVec Ideal S2x128 .f32) : FVec Ideal S33792x128 .f32 :=
  mulf (mulf x (broadcastInDim S33792x128 ![0, 1] bcast_S33792x1_S33792x128_0_1
      (Host.rsqrt (addf (Host.divf (broadcastInDim S33792x1 ![0] bcast_S33792_S33792x1_0
        (Host.reduceAdd (mulf x x) (constant S_ .f32 0x00000000#32) reducesTo_S33792x128_S33792_d1 h_S_))
        (broadcastInDim S33792x1 ![] bcast_S_S33792x1 (constant S_ .f32 0x43000000#32)))
        (broadcastInDim S33792x1 ![] bcast_S_S33792x1 (constant S_ .f32 0x358637BD#32))))))
    (broadcastInDim S33792x128 ![0, 1] bcast_S1x128_S33792x128_0_1 (broadcastInDim S1x128 ![1] bcast_S128_S1x128_1
      (shapeCast S128 (extractStridedSlice S1x128 ![0, 0] g slices_S2x128_S1x128_0_0) shapeCasts_S1x128_S128)))

def res3 (p : FVec Ideal S33792x6992 .f32) : FVec Ideal S33792x128 .f32 :=
  extractStridedSlice S33792x128 ![0, 5760] p slices_S33792x6992_S33792x128_0_5760

def res4 (p : FVec Ideal S33792x6992 .f32) : FVec Ideal S33792x16x64 .f32 :=
  mulf (shapeCast S33792x16x64 (extractStridedSlice S33792x1024 ![0, 5888] p slices_S33792x6992_S33792x1024_0_5888) shapeCasts_S33792x1024_S33792x16x64)
    (broadcastInDim S33792x16x64 ![] bcast_S_S33792x16x64 (constant S_ .f32 0x3E000000#32))

def res5 (p : FVec Ideal S33792x6992 .f32) : FVec Ideal S33792x64 .f32 :=
  extractStridedSlice S33792x64 ![0, 6912] p slices_S33792x6992_S33792x64_0_6912

def res6 (p : FVec Ideal S33792x6992 .f32) : FVec Ideal S33792x16 .f32 :=
  mulf (extractStridedSlice S33792x16 ![0, 6976] p slices_S33792x6992_S33792x16_0_6976)
    (broadcastInDim S33792x16 ![] bcast_S_S33792x16 (constant S_ .f32 0x3E800000#32))

set_option maxHeartbeats 2000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = res0 (kr (m ((c.tc : Thread nD τ).loc main_arg0))) (m ((c.tc : Thread nD τ).loc main_arg2))
      ∧ r.2.mem ((c.tc : Thread nD τ).loc main_v32) = res1 (m ((c.tc : Thread nD τ).loc main_arg0))
      ∧ r.2.mem ((c.tc : Thread nD τ).loc main_v52) = res2 (dr (m ((c.tc : Thread nD τ).loc main_arg0))) (m ((c.tc : Thread nD τ).loc main_arg4))
      ∧ r.2.mem ((c.tc : Thread nD τ).loc main_v12) = res3 (m ((c.tc : Thread nD τ).loc main_arg0))
      ∧ r.2.mem ((c.tc : Thread nD τ).loc main_v35) = res4 (m ((c.tc : Thread nD τ).loc main_arg0))
      ∧ r.2.mem ((c.tc : Thread nD τ).loc main_v14) = res5 (m ((c.tc : Thread nD τ).loc main_arg0))
      ∧ r.2.mem ((c.tc : Thread nD τ).loc main_v37) = res6 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v31).trans (by after_results <;> rfl),
      (h c main_v32).trans (by after_results <;> rfl),
      (h c main_v52).trans (by after_results <;> rfl),
      (h c main_v12).trans (by after_results <;> rfl),
      (h c main_v35).trans (by after_results <;> rfl),
      (h c main_v14).trans (by after_results <;> rfl),
      (h c main_v37).trans (by after_results <;> rfl),
      (h c main_arg0).trans (by after_results <;> rfl),
      (h c main_arg1).trans (by after_results <;> rfl),
      (h c main_arg2).trans (by after_results <;> rfl),
      (h c main_arg3).trans (by after_results <;> rfl),
      (h c main_arg4).trans (by after_results <;> rfl)⟩)
    (run_seq scopedRefs_eq scopedSems_eq defs main (fun _ => ops) main_eq (fun _ => ops_sub) m ρ)

def pf (p : FVec Ideal S33792x6992 .f32) (n : Fin 33792) (k : Fin 6992) : EReal := p (ix2 n k)
def cf (g : FVec Ideal S2x64 .f32) (k : Fin 64) : EReal := g (ix2 0 k)
def df (g : FVec Ideal S2x128 .f32) (k : Fin 128) : EReal := g (ix2 0 k)

theorem kr_at (p : FVec Ideal S33792x6992 .f32) (n : Fin 33792) (h : Fin 4) (c : Fin 2) (e : Fin 64) :
    kr p (ix4 n h c e) = p (ix2 n ⟨4096 + (h.val * 128 + (c.val * 64 + e.val)), by omega⟩) := by
  pointwise [kr]
  blk_ext

theorem res0_at (x : FVec Ideal S33792x4x2x64 .f32) (g : FVec Ideal S2x64 .f32) (n : Fin 33792) (h : Fin 4) (c : Fin 2) (e : Fin 64) :
    res0 x g (ix4 n h c e) = Prep.n64 (fun k => x (ix4 n h c k)) (cf g) e := by
  pointwise [res0]
  rfl

theorem res2_at (x : FVec Ideal S33792x128 .f32) (g : FVec Ideal S2x128 .f32) (n : Fin 33792) (e : Fin 128) :
    res2 x g (ix2 n e) = Prep.n128 (fun k => x (ix2 n k)) (df g) e := by
  pointwise [res2]
  rfl

theorem res0_eq (p : FVec Ideal S33792x6992 .f32) (g : FVec Ideal S2x64 .f32) :
    res0 (kr p) g = fun i => Prep.s0 (pf p) (cf g) (i 0) (i 1) (i 2) (i 3) := by
  funext i
  obtain ⟨n, h, c, e, rfl⟩ : ∃ n h c e, i = ix4 n h c e := ⟨i 0, i 1, i 2, i 3, eq_ix4 i⟩
  refine (res0_at (kr p) g n h c e).trans ?_
  exact congrArg (fun x => Prep.n64 x (cf g) e) (funext fun k => kr_at p n h c k)

theorem res1_eq (p : FVec Ideal S33792x6992 .f32) : res1 p = fun i => Prep.s1 (pf p) (i 0) (i 1) (i 2) := by
  funext i
  obtain ⟨n, h, e, rfl⟩ : ∃ n h e, i = ix3 n h e := ⟨i 0, i 1, i 2, eq_ix3 i⟩
  pointwise [res1, Prep.s1, pf]
  blk_ext

theorem res2_eq (p : FVec Ideal S33792x6992 .f32) (g : FVec Ideal S2x128 .f32) :
    res2 (dr p) g = fun i => Prep.s2 (pf p) (df g) (i 0) (i 1) := by
  funext i
  obtain ⟨n, e, rfl⟩ : ∃ n e, i = ix2 n e := ⟨i 0, i 1, eq_ix2 i⟩
  refine (res2_at (dr p) g n e).trans ?_
  refine congrArg (fun x => Prep.n128 x (df g) e) (funext fun k => ?_)
  pointwise [dr, pf]

theorem res3_eq (p : FVec Ideal S33792x6992 .f32) : res3 p = fun i => Prep.s3 (pf p) (i 0) (i 1) := by
  funext i
  obtain ⟨n, e, rfl⟩ : ∃ n e, i = ix2 n e := ⟨i 0, i 1, eq_ix2 i⟩
  pointwise [res3, Prep.s3, pf]

theorem res4_eq (p : FVec Ideal S33792x6992 .f32) : res4 p = fun i => Prep.s4 (pf p) (i 0) (i 1) (i 2) := by
  funext i
  obtain ⟨n, h, e, rfl⟩ : ∃ n h e, i = ix3 n h e := ⟨i 0, i 1, i 2, eq_ix3 i⟩
  pointwise [res4, Prep.s4, pf]
  blk_ext

theorem res5_eq (p : FVec Ideal S33792x6992 .f32) : res5 p = fun i => Prep.s5 (pf p) (i 0) (i 1) := by
  funext i
  obtain ⟨n, e, rfl⟩ : ∃ n e, i = ix2 n e := ⟨i 0, i 1, eq_ix2 i⟩
  pointwise [res5, Prep.s5, pf]

theorem res6_eq (p : FVec Ideal S33792x6992 .f32) : res6 p = fun i => Prep.s6 (pf p) (i 0) (i 1) := by
  funext i
  obtain ⟨n, e, rfl⟩ : ∃ n e, i = ix2 n e := ⟨i 0, i 1, eq_ix2 i⟩
  pointwise [res6, Prep.s6, pf]

end Cert.Reference6Ideal.PrepRef

end
-- ==== Proof.lean ====
module

public import proofs.«01_k».proof.Defs
public import proofs.«01_k».proof.Proof.Gen.Kernel.Frame
public import proofs.«01_k».proof.Proof.Gen.KernelIdeal.Value
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel5.Frame
public import proofs.«01_k».proof.Proof.Gen.Kernel6.Frame
public import proofs.«01_k».proof.Proof.Gen.Kernel6Ideal.Frame
public import proofs.«01_k».proof.Proof.FfnKernel
public import proofs.«01_k».proof.Proof.FfnRef
public import proofs.«01_k».proof.Proof.Ffn2Kernel
public import proofs.«01_k».proof.Proof.Ffn2Ref
public import proofs.«01_k».proof.Proof.MergeKernel
public import proofs.«01_k».proof.Proof.MergeRef
public import proofs.«01_k».proof.Proof.ProjKernel
public import proofs.«01_k».proof.Proof.ProjRef
public import proofs.«01_k».proof.Proof.ConvKernel
public import proofs.«01_k».proof.Proof.ConvRef
public import proofs.«01_k».proof.Proof.PrepKernel
public import proofs.«01_k».proof.Proof.PrepRef
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.ConvRef.run m ρ)

theorem quiescent_Reference6Ideal : quiescent_Reference6Ideal := fun m ρ _ =>
  (θ_run Cert.Reference6Ideal.defs _ _).mono (fun r h => ⟨fun c => (h c).2.2.2.2.2.2.2, sem_eq_zero_of_no_sems (by decide) r.2⟩)
    (Cert.Reference6Ideal.PrepRef.run m ρ)

/-- The value claim of `Kernel`. -/
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  refine ((h c).1.trans (Cert.ReferenceIdeal.FfnRef.res_eq m' c)).trans (Eq.trans ?_ (Cert.KernelIdeal.FfnValue.final m c).symm)
  rw [(hagree c).1, (hagree c).2.1, (hagree c).2.2.1, (hagree c).2.2.2]
  funext i
  refine (Cert.ReferenceIdeal.FfnRef.res_at _ _ _ _ i).trans ?_
  have e : Cert.ReferenceIdeal.FfnRef.row (i 0) = Cert.KernelIdeal.FfnValue.row (i 0) := Fin.ext (Nat.add_assoc _ _ _).symm
  rw [e]
  rfl

/-- The value claim of `Kernel2`. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  refine ((h c).1.trans (Cert.Reference2Ideal.FfnRef.res_eq m' c)).trans (Eq.trans ?_ (Cert.Kernel2Ideal.FfnValue.final m c).symm)
  rw [(hagree c).1, (hagree c).2.1, (hagree c).2.2.1, (hagree c).2.2.2]
  funext i
  exact (Cert.Reference2Ideal.FfnRef.res_at _ _ _ _ i).trans rfl

/-- The value claim of `Kernel3`. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  refine ((h c).1.trans (Cert.Reference3Ideal.MergeRef.res_eq m' c)).trans (Eq.trans ?_ (Cert.Kernel3Ideal.MergeValue.final m c).symm)
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  funext i
  exact (Cert.Reference3Ideal.MergeRef.res_at _ _ _ _ _ _ _ _ _ i).trans rfl

/-- The value claim of `Kernel4`. -/
theorem algebraic_Kernel4Ideal_Reference4Ideal : algebraic_Kernel4Ideal_Reference4Ideal := by
  intro m ρ m' ρ' _ hagree
  refine ⟨_, Cert.Kernel4Ideal.ProjValue.run m ρ, ?_⟩
  refine (θ_run Cert.Reference4Ideal.defs _ _).mono (fun _ h c => ⟨?_, (h c).2⟩) (Cert.Reference4Ideal.Value.run (F := Ideal) m' ρ')
  refine (h c).1.trans (Eq.trans ?_ rfl)
  rw [(hagree c).1, (hagree c).2.1, (hagree c).2.2]
  funext i
  exact (Cert.Reference4Ideal.ProjRef.res_at _ _ _ i).trans rfl

/-- The value claim of `Kernel5`. -/
theorem algebraic_Kernel5Ideal_Reference5Ideal : algebraic_Kernel5Ideal_Reference5Ideal := by
  intro m ρ m' ρ' _ hagree
  refine ⟨_, Cert.Kernel5Ideal.ConvValue.run m ρ, ?_⟩
  refine (θ_run Cert.Reference5Ideal.defs _ _).mono (fun _ h c => ⟨?_, (h c).2⟩) (Cert.Reference5Ideal.ConvRef.run m' ρ')
  refine (h c).1.trans ?_
  rw [(hagree c).1, (hagree c).2]
  exact Cert.Reference5Ideal.ConvRef.res_eq _ _

/-- The value claim of `Kernel6`. -/
theorem algebraic_Kernel6Ideal_Reference6Ideal : algebraic_Kernel6Ideal_Reference6Ideal := by
  intro m ρ m' ρ' _ hagree
  refine ⟨_, _, _, _, _, _, _, Cert.Kernel6Ideal.PrepValue.run m ρ, ?_⟩
  refine (θ_run Cert.Reference6Ideal.defs _ _).mono (fun _ h c => ?_) (Cert.Reference6Ideal.PrepRef.run m' ρ')
  obtain ⟨h0, h1, h2, h3, h4, h5, h6, ha⟩ := h c
  obtain ⟨a0, -, a2, -, a4⟩ := hagree c
  rw [a0, a2] at h0
  rw [a0] at h1
  rw [a0, a4] at h2
  rw [a0] at h3
  rw [a0] at h4
  rw [a0] at h5
  rw [a0] at h6
  exact ⟨h0.trans (Cert.Reference6Ideal.PrepRef.res0_eq _ _), h1.trans (Cert.Reference6Ideal.PrepRef.res1_eq _), h2.trans (Cert.Reference6Ideal.PrepRef.res2_eq _ _), h3.trans (Cert.Reference6Ideal.PrepRef.res3_eq _),
    h4.trans (Cert.Reference6Ideal.PrepRef.res4_eq _), h5.trans (Cert.Reference6Ideal.PrepRef.res5_eq _), h6.trans (Cert.Reference6Ideal.PrepRef.res6_eq _), ha⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal⟩

end Cert.Proof

end
